-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Streams (m : (ℓ : Loc Cert.Streams.nD Cert.Streams.τ Cert.Streams.sig) → Buf (Elt Bits) ℓ) : Prop :=
  True

def Pre_StreamsIdeal (m : (ℓ : Loc Cert.StreamsIdeal.nD Cert.StreamsIdeal.τ Cert.StreamsIdeal.sig) → Buf (Elt Ideal) ℓ) : Prop :=
  True

def Pre_StreamsIdeal_finite_streams [hPre_finite_streams : Cert.Pre_finite_streams.Facts] (m : (ℓ : Loc Cert.StreamsIdeal.nD Cert.StreamsIdeal.τ Cert.StreamsIdeal.sig) → Buf (Elt Ideal) ℓ) : Prop :=
  ∀ c : Dev Cert.StreamsIdeal.nD,
    (Cert.Pre_finite_streams.fn (F := Ideal) (m ((c.tc : Thread Cert.StreamsIdeal.nD Cert.StreamsIdeal.τ).loc Cert.StreamsIdeal.main_arg0)) (m ((c.tc : Thread Cert.StreamsIdeal.nD Cert.StreamsIdeal.τ).loc Cert.StreamsIdeal.main_arg1)) (m ((c.tc : Thread Cert.StreamsIdeal.nD Cert.StreamsIdeal.τ).loc Cert.StreamsIdeal.main_arg2)) (m ((c.tc : Thread Cert.StreamsIdeal.nD Cert.StreamsIdeal.τ).loc Cert.StreamsIdeal.main_arg3)) (m ((c.tc : Thread Cert.StreamsIdeal.nD Cert.StreamsIdeal.τ).loc Cert.StreamsIdeal.main_arg4)) (m ((c.tc : Thread Cert.StreamsIdeal.nD Cert.StreamsIdeal.τ).loc Cert.StreamsIdeal.main_arg5)) (m ((c.tc : Thread Cert.StreamsIdeal.nD Cert.StreamsIdeal.τ).loc Cert.StreamsIdeal.main_arg6)) (m ((c.tc : Thread Cert.StreamsIdeal.nD Cert.StreamsIdeal.τ).loc Cert.StreamsIdeal.main_arg7)) (m ((c.tc : Thread Cert.StreamsIdeal.nD Cert.StreamsIdeal.τ).loc Cert.StreamsIdeal.main_arg8)) (m ((c.tc : Thread Cert.StreamsIdeal.nD Cert.StreamsIdeal.τ).loc Cert.StreamsIdeal.main_arg9)) (m ((c.tc : Thread Cert.StreamsIdeal.nD Cert.StreamsIdeal.τ).loc Cert.StreamsIdeal.main_arg10))) = (fun _ => 1#1)

def Pre_StreamsRefIdeal (m : (ℓ : Loc Cert.StreamsRefIdeal.nD Cert.StreamsRefIdeal.τ Cert.StreamsRefIdeal.sig) → Buf (Elt Ideal) ℓ) : Prop :=
  True

def Pre_StreamsRefIdeal_finite_streams [hPre_finite_streams : Cert.Pre_finite_streams.Facts] (m : (ℓ : Loc Cert.StreamsRefIdeal.nD Cert.StreamsRefIdeal.τ Cert.StreamsRefIdeal.sig) → Buf (Elt Ideal) ℓ) : Prop :=
  ∀ c : Dev Cert.StreamsRefIdeal.nD,
    (Cert.Pre_finite_streams.fn (F := Ideal) (m ((c.tc : Thread Cert.StreamsRefIdeal.nD Cert.StreamsRefIdeal.τ).loc Cert.StreamsRefIdeal.main_arg0)) (m ((c.tc : Thread Cert.StreamsRefIdeal.nD Cert.StreamsRefIdeal.τ).loc Cert.StreamsRefIdeal.main_arg1)) (m ((c.tc : Thread Cert.StreamsRefIdeal.nD Cert.StreamsRefIdeal.τ).loc Cert.StreamsRefIdeal.main_arg2)) (m ((c.tc : Thread Cert.StreamsRefIdeal.nD Cert.StreamsRefIdeal.τ).loc Cert.StreamsRefIdeal.main_arg3)) (m ((c.tc : Thread Cert.StreamsRefIdeal.nD Cert.StreamsRefIdeal.τ).loc Cert.StreamsRefIdeal.main_arg4)) (m ((c.tc : Thread Cert.StreamsRefIdeal.nD Cert.StreamsRefIdeal.τ).loc Cert.StreamsRefIdeal.main_arg5)) (m ((c.tc : Thread Cert.StreamsRefIdeal.nD Cert.StreamsRefIdeal.τ).loc Cert.StreamsRefIdeal.main_arg6)) (m ((c.tc : Thread Cert.StreamsRefIdeal.nD Cert.StreamsRefIdeal.τ).loc Cert.StreamsRefIdeal.main_arg7)) (m ((c.tc : Thread Cert.StreamsRefIdeal.nD Cert.StreamsRefIdeal.τ).loc Cert.StreamsRefIdeal.main_arg8)) (m ((c.tc : Thread Cert.StreamsRefIdeal.nD Cert.StreamsRefIdeal.τ).loc Cert.StreamsRefIdeal.main_arg9)) (m ((c.tc : Thread Cert.StreamsRefIdeal.nD Cert.StreamsRefIdeal.τ).loc Cert.StreamsRefIdeal.main_arg10))) = (fun _ => 1#1)

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_Streams [hStreams : Cert.Streams.Facts] : Prop :=
  ∀ (m : (ℓ : Loc Cert.Streams.nD Cert.Streams.τ Cert.Streams.sig) → Buf (Elt Bits) ℓ) (g : Dev Cert.Streams.nD → PrngReg), Pre_Streams m →
    θ_run (Cert.Streams.defs (F := Bits)) (onTc (τ := Cert.Streams.τ) (Cert.Streams.main (F := Bits))) ⟨m, fun _ => 0, g⟩ (fun r => (∀ c : Dev Cert.Streams.nD,
      r.2.mem ((c.tc : Thread Cert.Streams.nD Cert.Streams.τ).loc Cert.Streams.main_arg0) = m ((c.tc : Thread Cert.Streams.nD Cert.Streams.τ).loc Cert.Streams.main_arg0)
      ∧ r.2.mem ((c.tc : Thread Cert.Streams.nD Cert.Streams.τ).loc Cert.Streams.main_arg1) = m ((c.tc : Thread Cert.Streams.nD Cert.Streams.τ).loc Cert.Streams.main_arg1)
      ∧ r.2.mem ((c.tc : Thread Cert.Streams.nD Cert.Streams.τ).loc Cert.Streams.main_arg2) = m ((c.tc : Thread Cert.Streams.nD Cert.Streams.τ).loc Cert.Streams.main_arg2)
      ∧ r.2.mem ((c.tc : Thread Cert.Streams.nD Cert.Streams.τ).loc Cert.Streams.main_arg3) = m ((c.tc : Thread Cert.Streams.nD Cert.Streams.τ).loc Cert.Streams.main_arg3)
      ∧ r.2.mem ((c.tc : Thread Cert.Streams.nD Cert.Streams.τ).loc Cert.Streams.main_arg4) = m ((c.tc : Thread Cert.Streams.nD Cert.Streams.τ).loc Cert.Streams.main_arg4)
      ∧ r.2.mem ((c.tc : Thread Cert.Streams.nD Cert.Streams.τ).loc Cert.Streams.main_arg5) = m ((c.tc : Thread Cert.Streams.nD Cert.Streams.τ).loc Cert.Streams.main_arg5)
      ∧ r.2.mem ((c.tc : Thread Cert.Streams.nD Cert.Streams.τ).loc Cert.Streams.main_arg6) = m ((c.tc : Thread Cert.Streams.nD Cert.Streams.τ).loc Cert.Streams.main_arg6)
      ∧ r.2.mem ((c.tc : Thread Cert.Streams.nD Cert.Streams.τ).loc Cert.Streams.main_arg7) = m ((c.tc : Thread Cert.Streams.nD Cert.Streams.τ).loc Cert.Streams.main_arg7)
      ∧ r.2.mem ((c.tc : Thread Cert.Streams.nD Cert.Streams.τ).loc Cert.Streams.main_arg8) = m ((c.tc : Thread Cert.Streams.nD Cert.Streams.τ).loc Cert.Streams.main_arg8)
      ∧ r.2.mem ((c.tc : Thread Cert.Streams.nD Cert.Streams.τ).loc Cert.Streams.main_arg9) = m ((c.tc : Thread Cert.Streams.nD Cert.Streams.τ).loc Cert.Streams.main_arg9)
      ∧ r.2.mem ((c.tc : Thread Cert.Streams.nD Cert.Streams.τ).loc Cert.Streams.main_arg10) = m ((c.tc : Thread Cert.Streams.nD Cert.Streams.τ).loc Cert.Streams.main_arg10))
      ∧ r.2.sem = fun _ => 0)

def quiescent_StreamsIdeal [hStreamsIdeal : Cert.StreamsIdeal.Facts] : Prop :=
  ∀ (m : (ℓ : Loc Cert.StreamsIdeal.nD Cert.StreamsIdeal.τ Cert.StreamsIdeal.sig) → Buf (Elt Ideal) ℓ) (g : Dev Cert.StreamsIdeal.nD → PrngReg), Pre_StreamsIdeal m →
    θ_run (Cert.StreamsIdeal.defs (F := Ideal)) (onTc (τ := Cert.StreamsIdeal.τ) (Cert.StreamsIdeal.main (F := Ideal))) ⟨m, fun _ => 0, g⟩ (fun r => (∀ c : Dev Cert.StreamsIdeal.nD,
      r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
      ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1)
      ∧ r.2.mem ((c.tc : Thread Cert.StreamsIdeal.nD Cert.StreamsIdeal.τ).loc Cert.StreamsIdeal.main_arg2) = m ((c.tc : Thread Cert.StreamsIdeal.nD Cert.StreamsIdeal.τ).loc Cert.StreamsIdeal.main_arg2)
      ∧ r.2.mem ((c.tc : Thread Cert.StreamsIdeal.nD Cert.StreamsIdeal.τ).loc Cert.StreamsIdeal.main_arg3) = m ((c.tc : Thread Cert.StreamsIdeal.nD Cert.StreamsIdeal.τ).loc Cert.StreamsIdeal.main_arg3)
      ∧ r.2.mem ((c.tc : Thread Cert.StreamsIdeal.nD Cert.StreamsIdeal.τ).loc Cert.StreamsIdeal.main_arg4) = m ((c.tc : Thread Cert.StreamsIdeal.nD Cert.StreamsIdeal.τ).loc Cert.StreamsIdeal.main_arg4)
      ∧ r.2.mem ((c.tc : Thread Cert.StreamsIdeal.nD Cert.StreamsIdeal.τ).loc Cert.StreamsIdeal.main_arg5) = m ((c.tc : Thread Cert.StreamsIdeal.nD Cert.StreamsIdeal.τ).loc Cert.StreamsIdeal.main_arg5)
      ∧ r.2.mem ((c.tc : Thread Cert.StreamsIdeal.nD Cert.StreamsIdeal.τ).loc Cert.StreamsIdeal.main_arg6) = m ((c.tc : Thread Cert.StreamsIdeal.nD Cert.StreamsIdeal.τ).loc Cert.StreamsIdeal.main_arg6)
      ∧ r.2.mem ((c.tc : Thread Cert.StreamsIdeal.nD Cert.StreamsIdeal.τ).loc Cert.StreamsIdeal.main_arg7) = m ((c.tc : Thread Cert.StreamsIdeal.nD Cert.StreamsIdeal.τ).loc Cert.StreamsIdeal.main_arg7)
      ∧ r.2.mem ((c.tc : Thread Cert.StreamsIdeal.nD Cert.StreamsIdeal.τ).loc Cert.StreamsIdeal.main_arg8) = m ((c.tc : Thread Cert.StreamsIdeal.nD Cert.StreamsIdeal.τ).loc Cert.StreamsIdeal.main_arg8)
      ∧ r.2.mem ((c.tc : Thread Cert.StreamsIdeal.nD Cert.StreamsIdeal.τ).loc Cert.StreamsIdeal.main_arg9) = m ((c.tc : Thread Cert.StreamsIdeal.nD Cert.StreamsIdeal.τ).loc Cert.StreamsIdeal.main_arg9)
      ∧ r.2.mem ((c.tc : Thread Cert.StreamsIdeal.nD Cert.StreamsIdeal.τ).loc Cert.StreamsIdeal.main_arg10) = m ((c.tc : Thread Cert.StreamsIdeal.nD Cert.StreamsIdeal.τ).loc Cert.StreamsIdeal.main_arg10))
      ∧ r.2.sem = fun _ => 0)

def quiescent_StreamsIdeal_pre_finite_streams [hStreamsIdeal : Cert.StreamsIdeal.Facts] [hPre_finite_streams : Cert.Pre_finite_streams.Facts] : Prop :=
  ∀ (m : (ℓ : Loc Cert.StreamsIdeal.nD Cert.StreamsIdeal.τ Cert.StreamsIdeal.sig) → Buf (Elt Ideal) ℓ) (g : Dev Cert.StreamsIdeal.nD → PrngReg), Pre_StreamsIdeal_finite_streams m →
    θ_run (Cert.StreamsIdeal.defs (F := Ideal)) (onTc (τ := Cert.StreamsIdeal.τ) (Cert.StreamsIdeal.main (F := Ideal))) ⟨m, fun _ => 0, g⟩ (fun r => (∀ c : Dev Cert.StreamsIdeal.nD,
      r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
      ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1)
      ∧ r.2.mem ((c.tc : Thread Cert.StreamsIdeal.nD Cert.StreamsIdeal.τ).loc Cert.StreamsIdeal.main_arg2) = m ((c.tc : Thread Cert.StreamsIdeal.nD Cert.StreamsIdeal.τ).loc Cert.StreamsIdeal.main_arg2)
      ∧ r.2.mem ((c.tc : Thread Cert.StreamsIdeal.nD Cert.StreamsIdeal.τ).loc Cert.StreamsIdeal.main_arg3) = m ((c.tc : Thread Cert.StreamsIdeal.nD Cert.StreamsIdeal.τ).loc Cert.StreamsIdeal.main_arg3)
      ∧ r.2.mem ((c.tc : Thread Cert.StreamsIdeal.nD Cert.StreamsIdeal.τ).loc Cert.StreamsIdeal.main_arg4) = m ((c.tc : Thread Cert.StreamsIdeal.nD Cert.StreamsIdeal.τ).loc Cert.StreamsIdeal.main_arg4)
      ∧ r.2.mem ((c.tc : Thread Cert.StreamsIdeal.nD Cert.StreamsIdeal.τ).loc Cert.StreamsIdeal.main_arg5) = m ((c.tc : Thread Cert.StreamsIdeal.nD Cert.StreamsIdeal.τ).loc Cert.StreamsIdeal.main_arg5)
      ∧ r.2.mem ((c.tc : Thread Cert.StreamsIdeal.nD Cert.StreamsIdeal.τ).loc Cert.StreamsIdeal.main_arg6) = m ((c.tc : Thread Cert.StreamsIdeal.nD Cert.StreamsIdeal.τ).loc Cert.StreamsIdeal.main_arg6)
      ∧ r.2.mem ((c.tc : Thread Cert.StreamsIdeal.nD Cert.StreamsIdeal.τ).loc Cert.StreamsIdeal.main_arg7) = m ((c.tc : Thread Cert.StreamsIdeal.nD Cert.StreamsIdeal.τ).loc Cert.StreamsIdeal.main_arg7)
      ∧ r.2.mem ((c.tc : Thread Cert.StreamsIdeal.nD Cert.StreamsIdeal.τ).loc Cert.StreamsIdeal.main_arg8) = m ((c.tc : Thread Cert.StreamsIdeal.nD Cert.StreamsIdeal.τ).loc Cert.StreamsIdeal.main_arg8)
      ∧ r.2.mem ((c.tc : Thread Cert.StreamsIdeal.nD Cert.StreamsIdeal.τ).loc Cert.StreamsIdeal.main_arg9) = m ((c.tc : Thread Cert.StreamsIdeal.nD Cert.StreamsIdeal.τ).loc Cert.StreamsIdeal.main_arg9)
      ∧ r.2.mem ((c.tc : Thread Cert.StreamsIdeal.nD Cert.StreamsIdeal.τ).loc Cert.StreamsIdeal.main_arg10) = m ((c.tc : Thread Cert.StreamsIdeal.nD Cert.StreamsIdeal.τ).loc Cert.StreamsIdeal.main_arg10))
      ∧ r.2.sem = fun _ => 0)

def quiescent_StreamsRefIdeal [hStreamsRefIdeal : Cert.StreamsRefIdeal.Facts] : Prop :=
  ∀ (m : (ℓ : Loc Cert.StreamsRefIdeal.nD Cert.StreamsRefIdeal.τ Cert.StreamsRefIdeal.sig) → Buf (Elt Ideal) ℓ) (g : Dev Cert.StreamsRefIdeal.nD → PrngReg), Pre_StreamsRefIdeal m →
    θ_run (Cert.StreamsRefIdeal.defs (F := Ideal)) (onTc (τ := Cert.StreamsRefIdeal.τ) (Cert.StreamsRefIdeal.main (F := Ideal))) ⟨m, fun _ => 0, g⟩ (fun r => (∀ c : Dev Cert.StreamsRefIdeal.nD,
      r.2.mem ((c.tc : Thread Cert.StreamsRefIdeal.nD Cert.StreamsRefIdeal.τ).loc Cert.StreamsRefIdeal.main_arg0) = m ((c.tc : Thread Cert.StreamsRefIdeal.nD Cert.StreamsRefIdeal.τ).loc Cert.StreamsRefIdeal.main_arg0)
      ∧ r.2.mem ((c.tc : Thread Cert.StreamsRefIdeal.nD Cert.StreamsRefIdeal.τ).loc Cert.StreamsRefIdeal.main_arg1) = m ((c.tc : Thread Cert.StreamsRefIdeal.nD Cert.StreamsRefIdeal.τ).loc Cert.StreamsRefIdeal.main_arg1)
      ∧ r.2.mem ((c.tc : Thread Cert.StreamsRefIdeal.nD Cert.StreamsRefIdeal.τ).loc Cert.StreamsRefIdeal.main_arg2) = m ((c.tc : Thread Cert.StreamsRefIdeal.nD Cert.StreamsRefIdeal.τ).loc Cert.StreamsRefIdeal.main_arg2)
      ∧ r.2.mem ((c.tc : Thread Cert.StreamsRefIdeal.nD Cert.StreamsRefIdeal.τ).loc Cert.StreamsRefIdeal.main_arg3) = m ((c.tc : Thread Cert.StreamsRefIdeal.nD Cert.StreamsRefIdeal.τ).loc Cert.StreamsRefIdeal.main_arg3)
      ∧ r.2.mem ((c.tc : Thread Cert.StreamsRefIdeal.nD Cert.StreamsRefIdeal.τ).loc Cert.StreamsRefIdeal.main_arg4) = m ((c.tc : Thread Cert.StreamsRefIdeal.nD Cert.StreamsRefIdeal.τ).loc Cert.StreamsRefIdeal.main_arg4)
      ∧ r.2.mem ((c.tc : Thread Cert.StreamsRefIdeal.nD Cert.StreamsRefIdeal.τ).loc Cert.StreamsRefIdeal.main_arg5) = m ((c.tc : Thread Cert.StreamsRefIdeal.nD Cert.StreamsRefIdeal.τ).loc Cert.StreamsRefIdeal.main_arg5)
      ∧ r.2.mem ((c.tc : Thread Cert.StreamsRefIdeal.nD Cert.StreamsRefIdeal.τ).loc Cert.StreamsRefIdeal.main_arg6) = m ((c.tc : Thread Cert.StreamsRefIdeal.nD Cert.StreamsRefIdeal.τ).loc Cert.StreamsRefIdeal.main_arg6)
      ∧ r.2.mem ((c.tc : Thread Cert.StreamsRefIdeal.nD Cert.StreamsRefIdeal.τ).loc Cert.StreamsRefIdeal.main_arg7) = m ((c.tc : Thread Cert.StreamsRefIdeal.nD Cert.StreamsRefIdeal.τ).loc Cert.StreamsRefIdeal.main_arg7)
      ∧ r.2.mem ((c.tc : Thread Cert.StreamsRefIdeal.nD Cert.StreamsRefIdeal.τ).loc Cert.StreamsRefIdeal.main_arg8) = m ((c.tc : Thread Cert.StreamsRefIdeal.nD Cert.StreamsRefIdeal.τ).loc Cert.StreamsRefIdeal.main_arg8)
      ∧ r.2.mem ((c.tc : Thread Cert.StreamsRefIdeal.nD Cert.StreamsRefIdeal.τ).loc Cert.StreamsRefIdeal.main_arg9) = m ((c.tc : Thread Cert.StreamsRefIdeal.nD Cert.StreamsRefIdeal.τ).loc Cert.StreamsRefIdeal.main_arg9)
      ∧ r.2.mem ((c.tc : Thread Cert.StreamsRefIdeal.nD Cert.StreamsRefIdeal.τ).loc Cert.StreamsRefIdeal.main_arg10) = m ((c.tc : Thread Cert.StreamsRefIdeal.nD Cert.StreamsRefIdeal.τ).loc Cert.StreamsRefIdeal.main_arg10))
      ∧ r.2.sem = fun _ => 0)

def quiescent_StreamsRefIdeal_pre_finite_streams [hStreamsRefIdeal : Cert.StreamsRefIdeal.Facts] [hPre_finite_streams : Cert.Pre_finite_streams.Facts] : Prop :=
  ∀ (m : (ℓ : Loc Cert.StreamsRefIdeal.nD Cert.StreamsRefIdeal.τ Cert.StreamsRefIdeal.sig) → Buf (Elt Ideal) ℓ) (g : Dev Cert.StreamsRefIdeal.nD → PrngReg), Pre_StreamsRefIdeal_finite_streams m →
    θ_run (Cert.StreamsRefIdeal.defs (F := Ideal)) (onTc (τ := Cert.StreamsRefIdeal.τ) (Cert.StreamsRefIdeal.main (F := Ideal))) ⟨m, fun _ => 0, g⟩ (fun r => (∀ c : Dev Cert.StreamsRefIdeal.nD,
      r.2.mem ((c.tc : Thread Cert.StreamsRefIdeal.nD Cert.StreamsRefIdeal.τ).loc Cert.StreamsRefIdeal.main_arg0) = m ((c.tc : Thread Cert.StreamsRefIdeal.nD Cert.StreamsRefIdeal.τ).loc Cert.StreamsRefIdeal.main_arg0)
      ∧ r.2.mem ((c.tc : Thread Cert.StreamsRefIdeal.nD Cert.StreamsRefIdeal.τ).loc Cert.StreamsRefIdeal.main_arg1) = m ((c.tc : Thread Cert.StreamsRefIdeal.nD Cert.StreamsRefIdeal.τ).loc Cert.StreamsRefIdeal.main_arg1)
      ∧ r.2.mem ((c.tc : Thread Cert.StreamsRefIdeal.nD Cert.StreamsRefIdeal.τ).loc Cert.StreamsRefIdeal.main_arg2) = m ((c.tc : Thread Cert.StreamsRefIdeal.nD Cert.StreamsRefIdeal.τ).loc Cert.StreamsRefIdeal.main_arg2)
      ∧ r.2.mem ((c.tc : Thread Cert.StreamsRefIdeal.nD Cert.StreamsRefIdeal.τ).loc Cert.StreamsRefIdeal.main_arg3) = m ((c.tc : Thread Cert.StreamsRefIdeal.nD Cert.StreamsRefIdeal.τ).loc Cert.StreamsRefIdeal.main_arg3)
      ∧ r.2.mem ((c.tc : Thread Cert.StreamsRefIdeal.nD Cert.StreamsRefIdeal.τ).loc Cert.StreamsRefIdeal.main_arg4) = m ((c.tc : Thread Cert.StreamsRefIdeal.nD Cert.StreamsRefIdeal.τ).loc Cert.StreamsRefIdeal.main_arg4)
      ∧ r.2.mem ((c.tc : Thread Cert.StreamsRefIdeal.nD Cert.StreamsRefIdeal.τ).loc Cert.StreamsRefIdeal.main_arg5) = m ((c.tc : Thread Cert.StreamsRefIdeal.nD Cert.StreamsRefIdeal.τ).loc Cert.StreamsRefIdeal.main_arg5)
      ∧ r.2.mem ((c.tc : Thread Cert.StreamsRefIdeal.nD Cert.StreamsRefIdeal.τ).loc Cert.StreamsRefIdeal.main_arg6) = m ((c.tc : Thread Cert.StreamsRefIdeal.nD Cert.StreamsRefIdeal.τ).loc Cert.StreamsRefIdeal.main_arg6)
      ∧ r.2.mem ((c.tc : Thread Cert.StreamsRefIdeal.nD Cert.StreamsRefIdeal.τ).loc Cert.StreamsRefIdeal.main_arg7) = m ((c.tc : Thread Cert.StreamsRefIdeal.nD Cert.StreamsRefIdeal.τ).loc Cert.StreamsRefIdeal.main_arg7)
      ∧ r.2.mem ((c.tc : Thread Cert.StreamsRefIdeal.nD Cert.StreamsRefIdeal.τ).loc Cert.StreamsRefIdeal.main_arg8) = m ((c.tc : Thread Cert.StreamsRefIdeal.nD Cert.StreamsRefIdeal.τ).loc Cert.StreamsRefIdeal.main_arg8)
      ∧ r.2.mem ((c.tc : Thread Cert.StreamsRefIdeal.nD Cert.StreamsRefIdeal.τ).loc Cert.StreamsRefIdeal.main_arg9) = m ((c.tc : Thread Cert.StreamsRefIdeal.nD Cert.StreamsRefIdeal.τ).loc Cert.StreamsRefIdeal.main_arg9)
      ∧ r.2.mem ((c.tc : Thread Cert.StreamsRefIdeal.nD Cert.StreamsRefIdeal.τ).loc Cert.StreamsRefIdeal.main_arg10) = m ((c.tc : Thread Cert.StreamsRefIdeal.nD Cert.StreamsRefIdeal.τ).loc Cert.StreamsRefIdeal.main_arg10))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def preserves_Fox_FoxIdeal : Prop :=
  True

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v3) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v42) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)) →
    ∃ (v0 : (c : Dev Cert.MixerIdeal.nD) → Buf (Elt Ideal) ((c.tc : Thread Cert.MixerIdeal.nD Cert.MixerIdeal.τ).loc Cert.MixerIdeal.main_v5)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v5) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v51) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v3)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v6) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_Streams_StreamsIdeal : Prop :=
  IdealRules.named_const.Statement Cert.StreamsIdeal.κ "log2_e_8" .f32 0x3E38AA3B#32 (((Real.log 256)⁻¹ : ℝ) : EReal)
  ∧ IdealRules.named_const.Statement Cert.StreamsIdeal.κ "log2_e" .f32 0x3FB8AA3B#32 (((Real.log 2)⁻¹ : ℝ) : EReal)

def algebraic_StreamsIdeal_StreamsRefIdeal_pre_finite_streams [hStreamsIdeal : Cert.StreamsIdeal.Facts] [hStreamsRefIdeal : Cert.StreamsRefIdeal.Facts] [hPre_finite_streams : Cert.Pre_finite_streams.Facts] : Prop :=
  ∀ (m : (ℓ : Loc Cert.StreamsIdeal.nD Cert.StreamsIdeal.τ Cert.StreamsIdeal.sig) → Buf (Elt Ideal) ℓ) (g : Dev Cert.StreamsIdeal.nD → PrngReg)
    (m' : (ℓ : Loc Cert.StreamsRefIdeal.nD Cert.StreamsRefIdeal.τ Cert.StreamsRefIdeal.sig) → Buf (Elt Ideal) ℓ) (g' : Dev Cert.StreamsRefIdeal.nD → PrngReg), Pre_StreamsIdeal_finite_streams m →
    (∀ c : Dev Cert.StreamsIdeal.nD,
      m' ((c.tc : Thread Cert.StreamsRefIdeal.nD Cert.StreamsRefIdeal.τ).loc Cert.StreamsRefIdeal.main_arg0) = m ((c.tc : Thread Cert.StreamsIdeal.nD Cert.StreamsIdeal.τ).loc Cert.StreamsIdeal.main_arg0)
      ∧ m' ((c.tc : Thread Cert.StreamsRefIdeal.nD Cert.StreamsRefIdeal.τ).loc Cert.StreamsRefIdeal.main_arg1) = m ((c.tc : Thread Cert.StreamsIdeal.nD Cert.StreamsIdeal.τ).loc Cert.StreamsIdeal.main_arg1)
      ∧ m' ((c.tc : Thread Cert.StreamsRefIdeal.nD Cert.StreamsRefIdeal.τ).loc Cert.StreamsRefIdeal.main_arg2) = m ((c.tc : Thread Cert.StreamsIdeal.nD Cert.StreamsIdeal.τ).loc Cert.StreamsIdeal.main_arg2)
      ∧ m' ((c.tc : Thread Cert.StreamsRefIdeal.nD Cert.StreamsRefIdeal.τ).loc Cert.StreamsRefIdeal.main_arg3) = m ((c.tc : Thread Cert.StreamsIdeal.nD Cert.StreamsIdeal.τ).loc Cert.StreamsIdeal.main_arg3)
      ∧ m' ((c.tc : Thread Cert.StreamsRefIdeal.nD Cert.StreamsRefIdeal.τ).loc Cert.StreamsRefIdeal.main_arg4) = m ((c.tc : Thread Cert.StreamsIdeal.nD Cert.StreamsIdeal.τ).loc Cert.StreamsIdeal.main_arg4)
      ∧ m' ((c.tc : Thread Cert.StreamsRefIdeal.nD Cert.StreamsRefIdeal.τ).loc Cert.StreamsRefIdeal.main_arg5) = m ((c.tc : Thread Cert.StreamsIdeal.nD Cert.StreamsIdeal.τ).loc Cert.StreamsIdeal.main_arg5)
      ∧ m' ((c.tc : Thread Cert.StreamsRefIdeal.nD Cert.StreamsRefIdeal.τ).loc Cert.StreamsRefIdeal.main_arg6) = m ((c.tc : Thread Cert.StreamsIdeal.nD Cert.StreamsIdeal.τ).loc Cert.StreamsIdeal.main_arg6)
      ∧ m' ((c.tc : Thread Cert.StreamsRefIdeal.nD Cert.StreamsRefIdeal.τ).loc Cert.StreamsRefIdeal.main_arg7) = m ((c.tc : Thread Cert.StreamsIdeal.nD Cert.StreamsIdeal.τ).loc Cert.StreamsIdeal.main_arg7)
      ∧ m' ((c.tc : Thread Cert.StreamsRefIdeal.nD Cert.StreamsRefIdeal.τ).loc Cert.StreamsRefIdeal.main_arg8) = m ((c.tc : Thread Cert.StreamsIdeal.nD Cert.StreamsIdeal.τ).loc Cert.StreamsIdeal.main_arg8)
      ∧ m' ((c.tc : Thread Cert.StreamsRefIdeal.nD Cert.StreamsRefIdeal.τ).loc Cert.StreamsRefIdeal.main_arg9) = m ((c.tc : Thread Cert.StreamsIdeal.nD Cert.StreamsIdeal.τ).loc Cert.StreamsIdeal.main_arg9)
      ∧ m' ((c.tc : Thread Cert.StreamsRefIdeal.nD Cert.StreamsRefIdeal.τ).loc Cert.StreamsRefIdeal.main_arg10) = m ((c.tc : Thread Cert.StreamsIdeal.nD Cert.StreamsIdeal.τ).loc Cert.StreamsIdeal.main_arg10)) →
    ∃ (v0 : (c : Dev Cert.StreamsIdeal.nD) → Buf (Elt Ideal) ((c.tc : Thread Cert.StreamsIdeal.nD Cert.StreamsIdeal.τ).loc Cert.StreamsIdeal.main_v9_0)) (v1 : (c : Dev Cert.StreamsIdeal.nD) → Buf (Elt Ideal) ((c.tc : Thread Cert.StreamsIdeal.nD Cert.StreamsIdeal.τ).loc Cert.StreamsIdeal.main_v9_1)) (v2 : (c : Dev Cert.StreamsIdeal.nD) → Buf (Elt Ideal) ((c.tc : Thread Cert.StreamsIdeal.nD Cert.StreamsIdeal.τ).loc Cert.StreamsIdeal.main_v9_2)) (v3 : (c : Dev Cert.StreamsIdeal.nD) → Buf (Elt Ideal) ((c.tc : Thread Cert.StreamsIdeal.nD Cert.StreamsIdeal.τ).loc Cert.StreamsIdeal.main_v9_3)),
      θ_run (Cert.StreamsIdeal.defs (F := Ideal)) (onTc (τ := Cert.StreamsIdeal.τ) (Cert.StreamsIdeal.main (F := Ideal))) ⟨m, fun _ => 0, g⟩ (fun r => ∀ c : Dev Cert.StreamsIdeal.nD,
          r.2.mem ((c.tc : Thread Cert.StreamsIdeal.nD Cert.StreamsIdeal.τ).loc Cert.StreamsIdeal.main_v9_0) = v0 c
          ∧ r.2.mem ((c.tc : Thread Cert.StreamsIdeal.nD Cert.StreamsIdeal.τ).loc Cert.StreamsIdeal.main_v9_1) = v1 c
          ∧ r.2.mem ((c.tc : Thread Cert.StreamsIdeal.nD Cert.StreamsIdeal.τ).loc Cert.StreamsIdeal.main_v9_2) = v2 c
          ∧ r.2.mem ((c.tc : Thread Cert.StreamsIdeal.nD Cert.StreamsIdeal.τ).loc Cert.StreamsIdeal.main_v9_3) = v3 c
          ∧ r.2.mem ((c.tc : Thread Cert.StreamsIdeal.nD Cert.StreamsIdeal.τ).loc Cert.StreamsIdeal.main_arg0) = m ((c.tc : Thread Cert.StreamsIdeal.nD Cert.StreamsIdeal.τ).loc Cert.StreamsIdeal.main_arg0)
          ∧ r.2.mem ((c.tc : Thread Cert.StreamsIdeal.nD Cert.StreamsIdeal.τ).loc Cert.StreamsIdeal.main_arg1) = m ((c.tc : Thread Cert.StreamsIdeal.nD Cert.StreamsIdeal.τ).loc Cert.StreamsIdeal.main_arg1)
          ∧ r.2.mem ((c.tc : Thread Cert.StreamsIdeal.nD Cert.StreamsIdeal.τ).loc Cert.StreamsIdeal.main_arg2) = m ((c.tc : Thread Cert.StreamsIdeal.nD Cert.StreamsIdeal.τ).loc Cert.StreamsIdeal.main_arg2)
          ∧ r.2.mem ((c.tc : Thread Cert.StreamsIdeal.nD Cert.StreamsIdeal.τ).loc Cert.StreamsIdeal.main_arg3) = m ((c.tc : Thread Cert.StreamsIdeal.nD Cert.StreamsIdeal.τ).loc Cert.StreamsIdeal.main_arg3)
          ∧ r.2.mem ((c.tc : Thread Cert.StreamsIdeal.nD Cert.StreamsIdeal.τ).loc Cert.StreamsIdeal.main_arg4) = m ((c.tc : Thread Cert.StreamsIdeal.nD Cert.StreamsIdeal.τ).loc Cert.StreamsIdeal.main_arg4)
          ∧ r.2.mem ((c.tc : Thread Cert.StreamsIdeal.nD Cert.StreamsIdeal.τ).loc Cert.StreamsIdeal.main_arg5) = m ((c.tc : Thread Cert.StreamsIdeal.nD Cert.StreamsIdeal.τ).loc Cert.StreamsIdeal.main_arg5)
          ∧ r.2.mem ((c.tc : Thread Cert.StreamsIdeal.nD Cert.StreamsIdeal.τ).loc Cert.StreamsIdeal.main_arg6) = m ((c.tc : Thread Cert.StreamsIdeal.nD Cert.StreamsIdeal.τ).loc Cert.StreamsIdeal.main_arg6)
          ∧ r.2.mem ((c.tc : Thread Cert.StreamsIdeal.nD Cert.StreamsIdeal.τ).loc Cert.StreamsIdeal.main_arg7) = m ((c.tc : Thread Cert.StreamsIdeal.nD Cert.StreamsIdeal.τ).loc Cert.StreamsIdeal.main_arg7)
          ∧ r.2.mem ((c.tc : Thread Cert.StreamsIdeal.nD Cert.StreamsIdeal.τ).loc Cert.StreamsIdeal.main_arg8) = m ((c.tc : Thread Cert.StreamsIdeal.nD Cert.StreamsIdeal.τ).loc Cert.StreamsIdeal.main_arg8)
          ∧ r.2.mem ((c.tc : Thread Cert.StreamsIdeal.nD Cert.StreamsIdeal.τ).loc Cert.StreamsIdeal.main_arg9) = m ((c.tc : Thread Cert.StreamsIdeal.nD Cert.StreamsIdeal.τ).loc Cert.StreamsIdeal.main_arg9)
          ∧ r.2.mem ((c.tc : Thread Cert.StreamsIdeal.nD Cert.StreamsIdeal.τ).loc Cert.StreamsIdeal.main_arg10) = m ((c.tc : Thread Cert.StreamsIdeal.nD Cert.StreamsIdeal.τ).loc Cert.StreamsIdeal.main_arg10))
      ∧ θ_run (Cert.StreamsRefIdeal.defs (F := Ideal)) (onTc (τ := Cert.StreamsRefIdeal.τ) (Cert.StreamsRefIdeal.main (F := Ideal))) ⟨m', fun _ => 0, g'⟩ (fun r => ∀ c : Dev Cert.StreamsRefIdeal.nD,
          r.2.mem ((c.tc : Thread Cert.StreamsRefIdeal.nD Cert.StreamsRefIdeal.τ).loc Cert.StreamsRefIdeal.main_v53) = v0 c
          ∧ r.2.mem ((c.tc : Thread Cert.StreamsRefIdeal.nD Cert.StreamsRefIdeal.τ).loc Cert.StreamsRefIdeal.main_v54) = v1 c
          ∧ r.2.mem ((c.tc : Thread Cert.StreamsRefIdeal.nD Cert.StreamsRefIdeal.τ).loc Cert.StreamsRefIdeal.main_v55) = v2 c
          ∧ r.2.mem ((c.tc : Thread Cert.StreamsRefIdeal.nD Cert.StreamsRefIdeal.τ).loc Cert.StreamsRefIdeal.main_v57) = v3 c
          ∧ r.2.mem ((c.tc : Thread Cert.StreamsRefIdeal.nD Cert.StreamsRefIdeal.τ).loc Cert.StreamsRefIdeal.main_arg0) = m' ((c.tc : Thread Cert.StreamsRefIdeal.nD Cert.StreamsRefIdeal.τ).loc Cert.StreamsRefIdeal.main_arg0)
          ∧ r.2.mem ((c.tc : Thread Cert.StreamsRefIdeal.nD Cert.StreamsRefIdeal.τ).loc Cert.StreamsRefIdeal.main_arg1) = m' ((c.tc : Thread Cert.StreamsRefIdeal.nD Cert.StreamsRefIdeal.τ).loc Cert.StreamsRefIdeal.main_arg1)
          ∧ r.2.mem ((c.tc : Thread Cert.StreamsRefIdeal.nD Cert.StreamsRefIdeal.τ).loc Cert.StreamsRefIdeal.main_arg2) = m' ((c.tc : Thread Cert.StreamsRefIdeal.nD Cert.StreamsRefIdeal.τ).loc Cert.StreamsRefIdeal.main_arg2)
          ∧ r.2.mem ((c.tc : Thread Cert.StreamsRefIdeal.nD Cert.StreamsRefIdeal.τ).loc Cert.StreamsRefIdeal.main_arg3) = m' ((c.tc : Thread Cert.StreamsRefIdeal.nD Cert.StreamsRefIdeal.τ).loc Cert.StreamsRefIdeal.main_arg3)
          ∧ r.2.mem ((c.tc : Thread Cert.StreamsRefIdeal.nD Cert.StreamsRefIdeal.τ).loc Cert.StreamsRefIdeal.main_arg4) = m' ((c.tc : Thread Cert.StreamsRefIdeal.nD Cert.StreamsRefIdeal.τ).loc Cert.StreamsRefIdeal.main_arg4)
          ∧ r.2.mem ((c.tc : Thread Cert.StreamsRefIdeal.nD Cert.StreamsRefIdeal.τ).loc Cert.StreamsRefIdeal.main_arg5) = m' ((c.tc : Thread Cert.StreamsRefIdeal.nD Cert.StreamsRefIdeal.τ).loc Cert.StreamsRefIdeal.main_arg5)
          ∧ r.2.mem ((c.tc : Thread Cert.StreamsRefIdeal.nD Cert.StreamsRefIdeal.τ).loc Cert.StreamsRefIdeal.main_arg6) = m' ((c.tc : Thread Cert.StreamsRefIdeal.nD Cert.StreamsRefIdeal.τ).loc Cert.StreamsRefIdeal.main_arg6)
          ∧ r.2.mem ((c.tc : Thread Cert.StreamsRefIdeal.nD Cert.StreamsRefIdeal.τ).loc Cert.StreamsRefIdeal.main_arg7) = m' ((c.tc : Thread Cert.StreamsRefIdeal.nD Cert.StreamsRefIdeal.τ).loc Cert.StreamsRefIdeal.main_arg7)
          ∧ r.2.mem ((c.tc : Thread Cert.StreamsRefIdeal.nD Cert.StreamsRefIdeal.τ).loc Cert.StreamsRefIdeal.main_arg8) = m' ((c.tc : Thread Cert.StreamsRefIdeal.nD Cert.StreamsRefIdeal.τ).loc Cert.StreamsRefIdeal.main_arg8)
          ∧ r.2.mem ((c.tc : Thread Cert.StreamsRefIdeal.nD Cert.StreamsRefIdeal.τ).loc Cert.StreamsRefIdeal.main_arg9) = m' ((c.tc : Thread Cert.StreamsRefIdeal.nD Cert.StreamsRefIdeal.τ).loc Cert.StreamsRefIdeal.main_arg9)
          ∧ r.2.mem ((c.tc : Thread Cert.StreamsRefIdeal.nD Cert.StreamsRefIdeal.τ).loc Cert.StreamsRefIdeal.main_arg10) = m' ((c.tc : Thread Cert.StreamsRefIdeal.nD Cert.StreamsRefIdeal.τ).loc Cert.StreamsRefIdeal.main_arg10))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def Claim : Prop :=
  ∃ (hFox : Cert.Fox.Facts) (hFoxIdeal : Cert.FoxIdeal.Facts) (hFoxRefIdeal : Cert.FoxRefIdeal.Facts) (hMixer : Cert.Mixer.Facts) (hMixerIdeal : Cert.MixerIdeal.Facts) (hMixerRefIdeal : Cert.MixerRefIdeal.Facts) (hProject : Cert.Project.Facts) (hProjectIdeal : Cert.ProjectIdeal.Facts) (hProjectRefIdeal : Cert.ProjectRefIdeal.Facts) (hStreams : Cert.Streams.Facts) (hStreamsIdeal : Cert.StreamsIdeal.Facts) (hStreamsRefIdeal : Cert.StreamsRefIdeal.Facts) (hModulation : Cert.Modulation.Facts) (hModulationIdeal : Cert.ModulationIdeal.Facts) (hModulationRefIdeal : Cert.ModulationRefIdeal.Facts) (hPre_finite : Cert.Pre_finite.Facts) (hPre_finite_streams : Cert.Pre_finite_streams.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Mixer (hMixer := hMixer)
    ∧ quiescent_MixerIdeal (hMixerIdeal := hMixerIdeal)
    ∧ quiescent_MixerRefIdeal (hMixerRefIdeal := hMixerRefIdeal)
    ∧ quiescent_Project (hProject := hProject)
    ∧ quiescent_ProjectIdeal (hProjectIdeal := hProjectIdeal)
    ∧ quiescent_ProjectRefIdeal (hProjectRefIdeal := hProjectRefIdeal)
    ∧ quiescent_Streams (hStreams := hStreams)
    ∧ quiescent_StreamsIdeal (hStreamsIdeal := hStreamsIdeal)
    ∧ quiescent_StreamsIdeal_pre_finite_streams (hStreamsIdeal := hStreamsIdeal) (hPre_finite_streams := hPre_finite_streams)
    ∧ quiescent_StreamsRefIdeal (hStreamsRefIdeal := hStreamsRefIdeal)
    ∧ quiescent_StreamsRefIdeal_pre_finite_streams (hStreamsRefIdeal := hStreamsRefIdeal) (hPre_finite_streams := hPre_finite_streams)
    ∧ quiescent_Modulation (hModulation := hModulation)
    ∧ quiescent_ModulationIdeal (hModulationIdeal := hModulationIdeal)
    ∧ quiescent_ModulationRefIdeal (hModulationRefIdeal := hModulationRefIdeal)
    ∧ preserves_Fox_FoxIdeal
    ∧ algebraic_FoxIdeal_FoxRefIdeal_pre_finite (hFoxIdeal := hFoxIdeal) (hFoxRefIdeal := hFoxRefIdeal) (hPre_finite := hPre_finite)
    ∧ preserves_Mixer_MixerIdeal
    ∧ algebraic_MixerIdeal_MixerRefIdeal (hMixerIdeal := hMixerIdeal) (hMixerRefIdeal := hMixerRefIdeal)
    ∧ preserves_Project_ProjectIdeal
    ∧ algebraic_ProjectIdeal_ProjectRefIdeal (hProjectIdeal := hProjectIdeal) (hProjectRefIdeal := hProjectRefIdeal)
    ∧ preserves_Streams_StreamsIdeal
    ∧ algebraic_StreamsIdeal_StreamsRefIdeal_pre_finite_streams (hStreamsIdeal := hStreamsIdeal) (hStreamsRefIdeal := hStreamsRefIdeal) (hPre_finite_streams := hPre_finite_streams)
    ∧ preserves_Modulation_ModulationIdeal
    ∧ algebraic_ModulationIdeal_ModulationRefIdeal (hModulationIdeal := hModulationIdeal) (hModulationRefIdeal := hModulationRefIdeal)
-- ==== Pre_finite.lean ====
abbrev S8x8192x1024 : Shape := ⟨3, ![8, 8192, 1024]⟩
abbrev S8x8192x128 : Shape := ⟨3, ![8, 8192, 128]⟩
abbrev S_ : Shape := ⟨0, ![]⟩
abbrev S8x8192x16 : Shape := ⟨3, ![8, 8192, 16]⟩

class Facts : Prop where
  bitsLt_bf16_f32 : FTy.bits .bf16 < FTy.bits .f32
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  slices_S8x8192x128_S8x8192x16_0_0_0 : S8x8192x128.Slices ![0, 0, 0] S8x8192x16
  bcast_S_S8x8192x16 : S_.BroadcastsInDim S8x8192x16 (![] : Fin 0 → Fin S8x8192x16.rank)
  reducesTo_S8x8192x16_S_d0_1_2 : S8x8192x16.ReducesTo [0, 1, 2] S_

variable [Facts]

def fn {F : FTy → Type} [FloatOps F] (main_arg0 : FVec F S8x8192x1024 .bf16) (main_arg1 : FVec F S8x8192x1024 .bf16) (main_arg2 : FVec F S8x8192x1024 .bf16) (main_arg3 : FVec F S8x8192x128 .f32) : IVec S_ 1 :=
  let main_v0 : FVec F S8x8192x1024 .f32 := (extf .f32 · bitsLt_bf16_f32) main_arg0
  let main_v1 : FVec F S8x8192x1024 .f32 := Host.absf main_v0
  let main_cst : FVec F S_ .f32 := constant S_ .f32 0x7F800000#32
  let main_v2 : FVec F S8x8192x1024 .f32 := broadcastInDim S8x8192x1024 ![] bcast_S_S8x8192x1024 main_cst
  let main_v3 : IVec S8x8192x1024 1 := cmpf .olt main_v1 main_v2
  let main_c : IVec S_ 1 := constantI S_ 1 1#1
  let main_v4 : IVec S_ 1 := (fun x v => Host.reduce IntOp.andi x v reducesTo_S8x8192x1024_S_d0_1_2 h_S_) main_v3 main_c
  let main_v5 : FVec F S8x8192x1024 .f32 := (extf .f32 · bitsLt_bf16_f32) main_arg1
  let main_v6 : FVec F S8x8192x1024 .f32 := Host.absf main_v5
  let main_cst_0 : FVec F S_ .f32 := constant S_ .f32 0x7F800000#32
  let main_v7 : FVec F S8x8192x1024 .f32 := broadcastInDim S8x8192x1024 ![] bcast_S_S8x8192x1024 main_cst_0
  let main_v8 : IVec S8x8192x1024 1 := cmpf .olt main_v6 main_v7
  let main_c_1 : IVec S_ 1 := constantI S_ 1 1#1
  let main_v9 : IVec S_ 1 := (fun x v => Host.reduce IntOp.andi x v reducesTo_S8x8192x1024_S_d0_1_2 h_S_) main_v8 main_c_1
  let main_v10 : IVec S_ 1 := andi main_v4 main_v9
  let main_v11 : FVec F S8x8192x16 .f32 := (extractStridedSlice S8x8192x16 ![0, 0, 0] · slices_S8x8192x128_S8x8192x16_0_0_0) main_arg3
  let main_v12 : FVec F S8x8192x16 .f32 := Host.absf main_v11
  let main_cst_2 : FVec F S_ .f32 := constant S_ .f32 0x7F800000#32
  let main_v13 : FVec F S8x8192x16 .f32 := broadcastInDim S8x8192x16 ![] bcast_S_S8x8192x16 main_cst_2
  let main_v14 : IVec S8x8192x16 1 := cmpf .olt main_v12 main_v13
  let main_c_3 : IVec S_ 1 := constantI S_ 1 1#1
  let main_v15 : IVec S_ 1 := (fun x v => Host.reduce IntOp.andi x v reducesTo_S8x8192x16_S_d0_1_2 h_S_) main_v14 main_c_3
  let main_v16 : IVec S_ 1 := andi main_v10 main_v15
  main_v16
-- ==== Pre_finite_streams.lean ====
abbrev S8x8192x1024 : Shape := ⟨3, ![8, 8192, 1024]⟩
abbrev S8x1x1024 : Shape := ⟨3, ![8, 1, 1024]⟩
abbrev S1024 : Shape := ⟨1, ![1024]⟩
abbrev S1024x2048 : Shape := ⟨2, ![1024, 2048]⟩
abbrev S1024x128 : Shape := ⟨2, ![1024, 128]⟩
abbrev S128 : Shape := ⟨1, ![128]⟩
abbrev S1024x1024 : Shape := ⟨2, ![1024, 1024]⟩
abbrev S_ : Shape := ⟨0, ![]⟩

class Facts : Prop where
  bcast_S_S8x1x1024 : S_.BroadcastsInDim S8x1x1024 (![] : Fin 0 → Fin S8x1x1024.rank)
  reducesTo_S8x1x1024_S_d0_1_2 : S8x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  main_v18

def fn {F : FTy → Type} [FloatOps F] (main_arg0 : FVec F S8x8192x1024 .f32) (main_arg1 : FVec F S8x1x1024 .f32) (main_arg2 : FVec F S8x1x1024 .f32) (main_arg3 : FVec F S1024 .f32) (main_arg4 : FVec F S8x1x1024 .f32) (main_arg5 : FVec F S8x1x1024 .f32) (main_arg6 : FVec F S1024 .f32) (main_arg7 : FVec F S1024x2048 .f32) (main_arg8 : FVec F S1024x128 .f32) (main_arg9 : FVec F S128 .f32) (main_arg10 : FVec F S1024x1024 .f32) : IVec S_ 1 :=
  let main_v0 : FVec F S8x1x1024 .f32 := Host.absf main_arg1
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_c : IVec S_ 1 := constantI S_ 1 1#1
  let main_v3 : IVec S_ 1 := (fun x v => Host.reduce IntOp.andi x v reducesTo_S8x1x1024_S_d0_1_2 h_S_) main_v2 main_c
  let main_v4 : FVec F S8x1x1024 .f32 := Host.absf main_arg2
  let main_cst_0 : FVec F S_ .f32 := constant S_ .f32 0x7F800000#32
  let main_v5 : FVec F S8x1x1024 .f32 := broadcastInDim S8x1x1024 ![] bcast_S_S8x1x1024 main_cst_0
  let main_v6 : IVec S8x1x1024 1 := cmpf .olt main_v4 main_v5
  let main_c_1 : IVec S_ 1 := constantI S_ 1 1#1
  let main_v7 : IVec S_ 1 := (fun x v => Host.reduce IntOp.andi x v reducesTo_S8x1x1024_S_d0_1_2 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x128 .f32 := Host.absf main_arg8
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_v13 main_v16
-- ==== Fox.lean ====
abbrev S8x8192x1024 : Shape := ⟨3, ![8, 8192, 1024]⟩
abbrev S8x8192x128 : Shape := ⟨3, ![8, 8192, 128]⟩
abbrev S8x8192x16 : Shape := ⟨3, ![8, 8192, 16]⟩
abbrev S8x16x8192 : Shape := ⟨3, ![8, 16, 8192]⟩
abbrev S8x8x2x8192 : Shape := ⟨4, ![8, 8, 2, 8192]⟩
abbrev S1x512x128 : Shape := ⟨3, ![1, 512, 128]⟩
abbrev S1x8192x128 : Shape := ⟨3, ![1, 8192, 128]⟩
abbrev S1x1x2x8192 : Shape := ⟨4, ![1, 1, 2, 8192]⟩
abbrev S1024x128 : Shape := ⟨2, ![1024, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1024x512 : Shape := ⟨2, ![1024, 512]⟩
abbrev S1x1x2x512 : Shape := ⟨4, ![1, 1, 2, 512]⟩
abbrev S2x512 : Shape := ⟨2, ![2, 512]⟩
abbrev S1x512 : Shape := ⟨2, ![1, 512]⟩

abbrev nBuf : Space → Nat
  | .hbm => 8
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x128, .f32⟩
  | .hbm, ⟨4, _⟩ => ⟨S8x8192x16, .f32⟩
  | .hbm, ⟨5, _⟩ => ⟨S8x16x8192, .f32⟩
  | .hbm, ⟨6, _⟩ => ⟨S8x8x2x8192, .f32⟩
  | .hbm, ⟨7, _⟩ => ⟨S8x8192x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S1x1x2x8192, .f32⟩
  | .local _ .vmem, ⟨9, _⟩ => ⟨S1x1x2x8192, .f32⟩
  | .local _ .vmem, ⟨10, _⟩ => ⟨S1x512x128, .bf16⟩
  | .local _ .vmem, ⟨11, _⟩ => ⟨S1x512x128, .bf16⟩
  | .local _ .vmem, ⟨12, _⟩ => ⟨S1024x128, .bf16⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 16], ![false, false, false]⟩

@[reducible] def k0_t1_loop (i : grid0.Coords) : Scf.Loop 32 :=
  let c0_i32_27 : BitVec 32 := 0#32
  let arg2 : BitVec 32 := BitVec.ofNat 32 (i 2).val
  let v57 : BitVec 32 := Scalar.subi arg2 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_29 : BitVec 32 := 1#32
  ⟨c0_i32_27, v61, c1_i32_29⟩
def k0_mult1 (i : grid0.Coords) (k0_t1 : Fin (k0_t1_loop i).trips) : BitVec 32 :=
  let c0_i32_27 : BitVec 32 := 0#32
  let c1_i32_29 : BitVec 32 := 1#32
  let arg14 : BitVec 32 := Scf.iv c0_i32_27 c1_i32_29 k0_t1
  let c512_i32_83 : BitVec 32 := 512#32
  let v159 : BitVec 32 := Scalar.muli arg14 c512_i32_83
  v159
def k0_off1 (i : grid0.Coords) (k0_t1 : Fin (k0_t1_loop i).trips) : Fin 3 → Nat :=
  let c0_84 : Index := 0#32
  let c0_i32_27 : BitVec 32 := 0#32
  let c1_i32_29 : BitVec 32 := 1#32
  let arg14 : BitVec 32 := Scf.iv c0_i32_27 c1_i32_29 k0_t1
  let c512_i32_83 : BitVec 32 := 512#32
  let v159 : BitVec 32 := Scalar.muli arg14 c512_i32_83
  let v160 : BitVec 32 := v159
  let v161 : Index := Scalar.indexCast v160
  let c0_85 : Index := 0#32
  ![0, v161.toNat, 0]
def k0_off2 (i : grid0.Coords) (k0_t1 : Fin (k0_t1_loop i).trips) : Fin 4 → Nat :=
  let c0_91 : Index := 0#32
  let c0_92 : Index := 0#32
  let c0_93 : Index := 0#32
  let c0_i32_27 : BitVec 32 := 0#32
  let c1_i32_29 : BitVec 32 := 1#32
  let arg14 : BitVec 32 := Scf.iv c0_i32_27 c1_i32_29 k0_t1
  let c512_i32_83 : BitVec 32 := 512#32
  let v159 : BitVec 32 := Scalar.muli arg14 c512_i32_83
  let v160 : BitVec 32 := v159
  let v169 : Index := Scalar.indexCast v160
  ![0, 0, 0, v169.toNat]
@[reducible] def k0_t2_loop (i : grid0.Coords) : Scf.Loop 32 :=
  let c0_i32_27 : BitVec 32 := 0#32
  let arg2 : BitVec 32 := BitVec.ofNat 32 (i 2).val
  let v57 : BitVec 32 := Scalar.subi arg2 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let v58 : BitVec 32 := Scalar.addi c0_i32_27 v57
  let c1_i32_30 : BitVec 32 := 1#32
  ⟨v61, v58, c1_i32_30⟩
def k0_mult2 (i : grid0.Coords) (k0_t2 : Fin (k0_t2_loop i).trips) : BitVec 32 :=
  let c0_i32_27 : BitVec 32 := 0#32
  let arg2 : BitVec 32 := BitVec.ofNat 32 (i 2).val
  let v57 : BitVec 32 := Scalar.subi arg2 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let c512_i32_83 : BitVec 32 := 512#32
  let v159 : BitVec 32 := Scalar.muli arg14 c512_i32_83
  v159
def k0_off3 (i : grid0.Coords) (k0_t2 : Fin (k0_t2_loop i).trips) : Fin 3 → Nat :=
  let c0_84 : Index := 0#32
  let c0_i32_27 : BitVec 32 := 0#32
  let arg2 : BitVec 32 := BitVec.ofNat 32 (i 2).val
  let v57 : BitVec 32 := Scalar.subi arg2 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let c512_i32_83 : BitVec 32 := 512#32
  let v159 : BitVec 32 := Scalar.muli arg14 c512_i32_83
  let v160 : BitVec 32 := v159
  let v161 : Index := Scalar.indexCast v160
  let c0_85 : Index := 0#32
  ![0, v161.toNat, 0]
def k0_off4 (i : grid0.Coords) (k0_t2 : Fin (k0_t2_loop i).trips) : Fin 4 → Nat :=
  let c0_91 : Index := 0#32
  let c0_92 : Index := 0#32
  let c0_93 : Index := 0#32
  let c0_i32_27 : BitVec 32 := 0#32
  let arg2 : BitVec 32 := BitVec.ofNat 32 (i 2).val
  let v57 : BitVec 32 := Scalar.subi arg2 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg14 : BitVec 32 := Scf.iv v61 c1_i32_30 k0_t2
  let c512_i32_83 : BitVec 32 := 512#32
  let v159 : BitVec 32 := Scalar.muli arg14 c512_i32_83
  let v160 : BitVec 32 := v159
  let v169 : Index := Scalar.indexCast v160
  ![0, 0, 0, v169.toNat]
def k0_mult3 (i : grid0.Coords) : BitVec 32 :=
  let arg2 : BitVec 32 := BitVec.ofNat 32 (i 2).val
  let c512_i32 : BitVec 32 := 512#32
  let v62 : BitVec 32 := Scalar.muli arg2 c512_i32
  v62
def k0_off5 (i : grid0.Coords) : Fin 3 → Nat :=
  let c0_31 : Index := 0#32
  let arg2 : BitVec 32 := BitVec.ofNat 32 (i 2).val
  let c512_i32 : BitVec 32 := 512#32
  let v62 : BitVec 32 := Scalar.muli arg2 c512_i32
  let v63 : BitVec 32 := v62
  let v64 : Index := Scalar.indexCast v63
  let c0_32 : Index := 0#32
  ![0, v64.toNat, 0]
def k0_off6 (i : grid0.Coords) : Fin 4 → Nat :=
  let c0_38 : Index := 0#32
  let c0_39 : Index := 0#32
  let c0_40 : Index := 0#32
  let arg2 : BitVec 32 := BitVec.ofNat 32 (i 2).val
  let c512_i32 : BitVec 32 := 512#32
  let v62 : BitVec 32 := Scalar.muli arg2 c512_i32
  let v63 : BitVec 32 := v62
  let v72 : Index := Scalar.indexCast v63
  ![0, 0, 0, v72.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x2x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxRefIdeal.lean ====
abbrev S8x8192x1024 : Shape := ⟨3, ![8, 8192, 1024]⟩
abbrev S8x8192x128 : Shape := ⟨3, ![8, 8192, 128]⟩
abbrev S8x8192x16x64 : Shape := ⟨4, ![8, 8192, 16, 64]⟩
abbrev S8x16x8192x64 : Shape := ⟨4, ![8, 16, 8192, 64]⟩
abbrev S8x8192x16 : Shape := ⟨3, ![8, 8192, 16]⟩
abbrev S8x16x8192 : Shape := ⟨3, ![8, 16, 8192]⟩
abbrev S8x16x8192x8192 : Shape := ⟨4, ![8, 16, 8192, 8192]⟩
abbrev S8x16x8192x1 : Shape := ⟨4, ![8, 16, 8192, 1]⟩
abbrev S8x16x1x8192 : Shape := ⟨4, ![8, 16, 1, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 55
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x128, .f32⟩
  | .hbm, ⟨4, _⟩ => ⟨S8x8192x1024, .f32⟩
  | .hbm, ⟨5, _⟩ => ⟨S8x8192x16x64, .f32⟩
  | .hbm, ⟨6, _⟩ => ⟨S8x16x8192x64, .f32⟩
  | .hbm, ⟨7, _⟩ => ⟨S8x8192x1024, .f32⟩
  | .hbm, ⟨8, _⟩ => ⟨S8x8192x16x64, .f32⟩
  | .hbm, ⟨9, _⟩ => ⟨S8x16x8192x64, .f32⟩
  | .hbm, ⟨10, _⟩ => ⟨S8x8192x1024, .f32⟩
  | .hbm, ⟨11, _⟩ => ⟨S8x8192x16x64, .f32⟩
  | .hbm, ⟨12, _⟩ => ⟨S8x16x8192x64, .f32⟩
  | .hbm, ⟨13, _⟩ => ⟨S8x8192x16, .f32⟩
  | .hbm, ⟨14, _⟩ => ⟨S8x16x8192, .f32⟩
  | .hbm, ⟨15, _⟩ => ⟨S8x16x8192x8192, .f32⟩
  | .hbm, ⟨16, _⟩ => ⟨S8x16x8192x1, .f32⟩
  | .hbm, ⟨17, _⟩ => ⟨S8x16x8192x8192, .f32⟩
  | .hbm, ⟨18, _⟩ => ⟨S8x16x8192x8192, .f32⟩
  | .hbm, ⟨19, _⟩ => ⟨S8x16x1x8192, .f32⟩
  | .hbm, ⟨20, _⟩ => ⟨S8x16x8192x8192, .f32⟩
  | .hbm, ⟨21, _⟩ => ⟨S8x16x8192x8192, .f32⟩
  | .hbm, ⟨22, _⟩ => ⟨S_, .f32⟩
  | .hbm, ⟨23, _⟩ => ⟨S_, .f32⟩
  | .hbm, ⟨24, _⟩ => ⟨S8x16x8192x8192, .f32⟩
  | .hbm, ⟨25, _⟩ => ⟨S8x16x8192x8192, .f32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S8x16x8192x8192, .i1⟩
  | .hbm, ⟨35, _⟩ => ⟨S8x16x8192x8192, .f32⟩
  | .hbm, ⟨36, _⟩ => ⟨S8x16x8192x8192, .f32⟩
  | .hbm, ⟨37, _⟩ => ⟨S_, .f32⟩
  | .hbm, ⟨38, _⟩ => ⟨S8x16x8192, .f32⟩
  | .hbm, ⟨39, _⟩ => ⟨S_, .f32⟩
  | .hbm, ⟨40, _⟩ => ⟨S8x16x8192, .f32⟩
  | .hbm, ⟨41, _⟩ => ⟨S8x16x8192, .f32⟩
  | .hbm, ⟨42, _⟩ => ⟨S8x16x8192x1, .f32⟩
  | .hbm, ⟨43, _⟩ => ⟨S8x16x8192x8192, .f32⟩
  | .hbm, ⟨44, _⟩ => ⟨S8x16x8192x8192, .f32⟩
  | .hbm, ⟨45, _⟩ => ⟨S8x16x8192x8192, .f32⟩
  | .hbm, ⟨46, _⟩ => ⟨S_, .f32⟩
  | .hbm, ⟨47, _⟩ => ⟨S8x16x8192, .f32⟩
  | .hbm, ⟨48, _⟩ => ⟨S8x16x8192x1, .f32⟩
  | .hbm, ⟨49, _⟩ => ⟨S8x16x8192x8192, .f32⟩
  | .hbm, ⟨50, _⟩ => ⟨S8x16x8192x8192, .f32⟩
  | .hbm, ⟨51, _⟩ => ⟨S8x16x8192x64, .f32⟩
  | .hbm, ⟨52, _⟩ => ⟨S8x8192x16x64, .f32⟩
  | .hbm, ⟨53, _⟩ => ⟨S8x8192x1024, .f32⟩
  | .hbm, ⟨54, _⟩ => ⟨S8x8192x1024, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Mixer.lean ====
abbrev S8x8192x1024 : Shape := ⟨3, ![8, 8192, 1024]⟩
abbrev S8x1x1024 : Shape := ⟨3, ![8, 1, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S1x1024 : Shape := ⟨2, ![1, 1024]⟩
abbrev S1x256x1024 : Shape := ⟨3, ![1, 256, 1024]⟩
abbrev S1x1x1024 : Shape := ⟨3, ![1, 1, 1024]⟩
abbrev S272x1024 : Shape := ⟨2, ![272, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S8x1024 : Shape := ⟨2, ![8, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S1x1024, .f32⟩
  | .hbm, ⟨12, _⟩ => ⟨S1024x3072, .bf16⟩
  | .hbm, ⟨13, _⟩ => ⟨S1024x1024, .bf16⟩
  | .hbm, ⟨14, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x3072, .bf16⟩
  | .local _ .vmem, ⟨10, _⟩ => ⟨S3x1024, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | .local _ .vmem, ⟨14, _⟩ => ⟨S272x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MixerRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3072 : Shape := ⟨3, ![8, 8192, 3072]⟩
abbrev S8x8194x1024 : Shape := ⟨3, ![8, 8194, 1024]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x3072, .f32⟩
  | .hbm, ⟨6, _⟩ => ⟨S3x1024, .f32⟩
  | .hbm, ⟨7, _⟩ => ⟨S1024x1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S8x8192x3072, .f32⟩
  | .hbm, ⟨32, _⟩ => ⟨S8x8192x1024, .f32⟩
  | .hbm, ⟨33, _⟩ => ⟨S8x8192x1024, .f32⟩
  | .hbm, ⟨34, _⟩ => ⟨S8x8192x1024, .f32⟩
  | .hbm, ⟨35, _⟩ => ⟨S8x8192x1024, .f32⟩
  | .hbm, ⟨36, _⟩ => ⟨S_, .i32⟩
  | .hbm, ⟨37, _⟩ => ⟨S_, .f32⟩
  | .hbm, ⟨38, _⟩ => ⟨S8x8194x1024, .f32⟩
  | .hbm, ⟨39, _⟩ => ⟨S1x1024, .f32⟩
  | .hbm, ⟨40, _⟩ => ⟨S1024, .f32⟩
  | .hbm, ⟨41, _⟩ => ⟨S8x8192x1024, .f32⟩
  | .hbm, ⟨42, _⟩ => ⟨S1x1x1024, .f32⟩
  | .hbm, ⟨43, _⟩ => ⟨S8x8192x1024, .f32⟩
  | .hbm, ⟨44, _⟩ => ⟨S8x8192x1024, .f32⟩
  | .hbm, ⟨45, _⟩ => ⟨S1x1024, .f32⟩
  | .hbm, ⟨46, _⟩ => ⟨S1024, .f32⟩
  | .hbm, ⟨47, _⟩ => ⟨S8x8192x1024, .f32⟩
  | .hbm, ⟨48, _⟩ => ⟨S1x1x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S1x1024, .f32⟩
  | .hbm, ⟨53, _⟩ => ⟨S1024, .f32⟩
  | .hbm, ⟨54, _⟩ => ⟨S8x8192x1024, .f32⟩
  | .hbm, ⟨55, _⟩ => ⟨S1x1x1024, .f32⟩
  | .hbm, ⟨56, _⟩ => ⟨S8x8192x1024, .f32⟩
  | .hbm, ⟨57, _⟩ => ⟨S8x8192x1024, .f32⟩
  | .hbm, ⟨58, _⟩ => ⟨S8x8192x1024, .f32⟩
  | .hbm, ⟨59, _⟩ => ⟨S8x8192x1024, .f32⟩
  | .hbm, ⟨60, _⟩ => ⟨S8x8192x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_call0_v0 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Project.lean ====
abbrev S8x8192x1024 : Shape := ⟨3, ![8, 8192, 1024]⟩
abbrev S8x1x1024 : Shape := ⟨3, ![8, 1, 1024]⟩
abbrev S1024x1024 : Shape := ⟨2, ![1024, 1024]⟩
abbrev S_ : Shape := ⟨0, ![]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S8x1x1024, .f32⟩
  | .hbm, ⟨3, _⟩ => ⟨S1024x1024, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S1024x1024, .bf16⟩
  | .hbm, ⟨8, _⟩ => ⟨S8x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjectRefIdeal.lean ====
abbrev S8x8192x1024 : Shape := ⟨3, ![8, 8192, 1024]⟩
abbrev S8x1x1024 : Shape := ⟨3, ![8, 1, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .f32⟩
  | .hbm, ⟨2, _⟩ => ⟨S8x1x1024, .f32⟩
  | .hbm, ⟨3, _⟩ => ⟨S1024x1024, .f32⟩
  | .hbm, ⟨4, _⟩ => ⟨S8x8192x1024, .f32⟩
  | .hbm, ⟨5, _⟩ => ⟨S8x8192x1024, .f32⟩
  | .hbm, ⟨6, _⟩ => ⟨S_, .f32⟩
  | .hbm, ⟨7, _⟩ => ⟨S8x1x1024, .f32⟩
  | .hbm, ⟨8, _⟩ => ⟨S8x1x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Streams.lean ====
abbrev S8x8192x1024 : Shape := ⟨3, ![8, 8192, 1024]⟩
abbrev S8x1x1024 : Shape := ⟨3, ![8, 1, 1024]⟩
abbrev S1024 : Shape := ⟨1, ![1024]⟩
abbrev S1024x2048 : Shape := ⟨2, ![1024, 2048]⟩
abbrev S1024x128 : Shape := ⟨2, ![1024, 128]⟩
abbrev S128 : Shape := ⟨1, ![128]⟩
abbrev S1024x1024 : Shape := ⟨2, ![1024, 1024]⟩
abbrev S1x1024 : Shape := ⟨2, ![1, 1024]⟩
abbrev S1x128 : Shape := ⟨2, ![1, 128]⟩
abbrev S8x8192x128 : Shape := ⟨3, ![8, 8192, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x2048 : Shape := ⟨2, ![512, 2048]⟩
abbrev S512x128 : Shape := ⟨2, ![512, 128]⟩
abbrev S512x512 : Shape := ⟨2, ![512, 512]⟩

abbrev nBuf : Space → Nat
  | .hbm => 24
  | .vmem => 26
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x2048, .f32⟩
  | .hbm, ⟨8, _⟩ => ⟨S1024x128, .f32⟩
  | .hbm, ⟨9, _⟩ => ⟨S128, .f32⟩
  | .hbm, ⟨10, _⟩ => ⟨S1024x1024, .f32⟩
  | .hbm, ⟨11, _⟩ => ⟨S1024x128, .bf16⟩
  | .hbm, ⟨12, _⟩ => ⟨S1024x128, .f32⟩
  | .hbm, ⟨13, _⟩ => ⟨S1024x128, .f32⟩
  | .hbm, ⟨14, _⟩ => ⟨S1024x128, .bf16⟩
  | .hbm, ⟨15, _⟩ => ⟨S1x1024, .f32⟩
  | .hbm, ⟨16, _⟩ => ⟨S1x1024, .f32⟩
  | .hbm, ⟨17, _⟩ => ⟨S1024x2048, .bf16⟩
  | .hbm, ⟨18, _⟩ => ⟨S1x128, .f32⟩
  | .hbm, ⟨19, _⟩ => ⟨S1024x1024, .bf16⟩
  | .hbm, ⟨20, _⟩ => ⟨S8x8192x1024, .bf16⟩
  | .hbm, ⟨21, _⟩ => ⟨S8x8192x1024, .bf16⟩
  | .hbm, ⟨22, _⟩ => ⟨S8x8192x1024, .bf16⟩
  | .hbm, ⟨23, _⟩ => ⟨S8x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1024, .f32⟩
  | .local _ .vmem, ⟨12, _⟩ => ⟨S1024x2048, .bf16⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S1024x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x128, .f32⟩
  | .local _ .vmem, ⟨24, _⟩ => ⟨S1x512x128, .f32⟩
  | .local _ .vmem, ⟨25, _⟩ => ⟨S1x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== StreamsIdeal.lean ====
variable {F : FTy → Type} [FloatOps F] [Named F]
def κ : String → Option EReal := fun
  | "log2_e" => some (((Real.log 2)⁻¹ : ℝ) : EReal)
  | "log2_e_8" => some (((Real.log 256)⁻¹ : ℝ) : EReal)
  | _ => none
-- ==== StreamsRefIdeal.lean ====
abbrev S8x8192x1024 : Shape := ⟨3, ![8, 8192, 1024]⟩
abbrev S8x1x1024 : Shape := ⟨3, ![8, 1, 1024]⟩
abbrev S1024 : Shape := ⟨1, ![1024]⟩
abbrev S1024x2048 : Shape := ⟨2, ![1024, 2048]⟩
abbrev S1024x128 : Shape := ⟨2, ![1024, 128]⟩
abbrev S128 : Shape := ⟨1, ![128]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2048 : Shape := ⟨3, ![8, 8192, 2048]⟩
abbrev S8x8192x128 : Shape := ⟨3, ![8, 8192, 128]⟩
abbrev S1x1x128 : Shape := ⟨3, ![1, 1, 128]⟩

abbrev nBuf : Space → Nat
  | .hbm => 96
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1x1024, .f32⟩
  | .hbm, ⟨2, _⟩ => ⟨S8x1x1024, .f32⟩
  | .hbm, ⟨3, _⟩ => ⟨S1024, .f32⟩
  | .hbm, ⟨4, _⟩ => ⟨S8x1x1024, .f32⟩
  | .hbm, ⟨5, _⟩ => ⟨S8x1x1024, .f32⟩
  | .hbm, ⟨6, _⟩ => ⟨S1024, .f32⟩
  | .hbm, ⟨7, _⟩ => ⟨S1024x2048, .f32⟩
  | .hbm, ⟨8, _⟩ => ⟨S1024x128, .f32⟩
  | .hbm, ⟨9, _⟩ => ⟨S128, .f32⟩
  | .hbm, ⟨10, _⟩ => ⟨S1024x1024, .f32⟩
  | .hbm, ⟨11, _⟩ => ⟨S8x8192x1024, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S8x8192x1024, .f32⟩
  | .hbm, ⟨23, _⟩ => ⟨S8x8192x1024, .f32⟩
  | .hbm, ⟨24, _⟩ => ⟨S1x1x1024, .f32⟩
  | .hbm, ⟨25, _⟩ => ⟨S8x8192x1024, .f32⟩
  | .hbm, ⟨26, _⟩ => ⟨S8x8192x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x8192x1024, .f32⟩
  | .hbm, ⟨31, _⟩ => ⟨S8x8192x1024, .f32⟩
  | .hbm, ⟨32, _⟩ => ⟨S8x8192x1024, .f32⟩
  | .hbm, ⟨33, _⟩ => ⟨S8x8192x1024, .f32⟩
  | .hbm, ⟨34, _⟩ => ⟨S8x8192x2048, .f32⟩
  | .hbm, ⟨35, _⟩ => ⟨S8x8192x1024, .f32⟩
  | .hbm, ⟨36, _⟩ => ⟨S8x8192x1024, .f32⟩
  | .hbm, ⟨37, _⟩ => ⟨S8x8192x128, .f32⟩
  | .hbm, ⟨38, _⟩ => ⟨S1x1x128, .f32⟩
  | .hbm, ⟨39, _⟩ => ⟨S8x8192x128, .f32⟩
  | .hbm, ⟨40, _⟩ => ⟨S8x8192x128, .f32⟩
  | .hbm, ⟨41, _⟩ => ⟨S8x8192x128, .f32⟩
  | .hbm, ⟨42, _⟩ => ⟨S_, .f32⟩
  | .hbm, ⟨43, _⟩ => ⟨S8x8192x128, .f32⟩
  | .hbm, ⟨44, _⟩ => ⟨S8x8192x128, .f32⟩
  | .hbm, ⟨45, _⟩ => ⟨S8x8192x128, .f32⟩
  | .hbm, ⟨46, _⟩ => ⟨S8x8192x128, .f32⟩
  | .hbm, ⟨47, _⟩ => ⟨S8x8192x128, .i1⟩
  | .hbm, ⟨48, _⟩ => ⟨S8x8192x128, .f32⟩
  | .hbm, ⟨49, _⟩ => ⟨S8x8192x128, .f32⟩
  | .hbm, ⟨50, _⟩ => ⟨S8x8192x128, .f32⟩
  | .hbm, ⟨51, _⟩ => ⟨S8x8192x128, .f32⟩
  | .hbm, ⟨52, _⟩ => ⟨S8x8192x128, .f32⟩
  | .hbm, ⟨53, _⟩ => ⟨S8x8192x128, .f32⟩
  | .hbm, ⟨54, _⟩ => ⟨S8x8192x128, .f32⟩
  | .hbm, ⟨55, _⟩ => ⟨S8x8192x128, .f32⟩
  | .hbm, ⟨56, _⟩ => ⟨S8x8192x128, .f32⟩
  | .hbm, ⟨57, _⟩ => ⟨S_, .f32⟩
  | .hbm, ⟨58, _⟩ => ⟨S_, .f32⟩
  | .hbm, ⟨59, _⟩ => ⟨S8x8192x128, .f32⟩
  | .hbm, ⟨60, _⟩ => ⟨S8x8192x1024, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x8192x1, .f32⟩
  | .hbm, ⟨71, _⟩ => ⟨S8x8192x1024, .f32⟩
  | .hbm, ⟨72, _⟩ => ⟨S8x8192x1024, .f32⟩
  | .hbm, ⟨73, _⟩ => ⟨S1x1x1024, .f32⟩
  | .hbm, ⟨74, _⟩ => ⟨S8x8192x1024, .f32⟩
  | .hbm, ⟨75, _⟩ => ⟨S8x8192x1024, .f32⟩
  | .hbm, ⟨76, _⟩ => ⟨S_, .f32⟩
  | .hbm, ⟨77, _⟩ => ⟨S8x1x1024, .f32⟩
  | .hbm, ⟨78, _⟩ => ⟨S8x1x1024, .f32⟩
  | .hbm, ⟨79, _⟩ => ⟨S8x8192x1024, .f32⟩
  | .hbm, ⟨80, _⟩ => ⟨S8x8192x1024, .f32⟩
  | .hbm, ⟨81, _⟩ => ⟨S8x8192x1024, .f32⟩
  | .hbm, ⟨82, _⟩ => ⟨S8x8192x1024, .f32⟩
  | .hbm, ⟨83, _⟩ => ⟨S8x8192x1024, .f32⟩
  | .hbm, ⟨84, _⟩ => ⟨S_, .f32⟩
  | .hbm, ⟨85, _⟩ => ⟨S8x8192x1024, .f32⟩
  | .hbm, ⟨86, _⟩ => ⟨S8x8192x1024, .f32⟩
  | .hbm, ⟨87, _⟩ => ⟨S_, .f32⟩
  | .hbm, ⟨88, _⟩ => ⟨S_, .f32⟩
  | .hbm, ⟨89, _⟩ => ⟨S8x8192x1024, .f32⟩
  | .hbm, ⟨90, _⟩ => ⟨S8x8192x1024, .f32⟩
  | .hbm, ⟨91, _⟩ => ⟨S8x8192x1024, .bf16⟩
  | .hbm, ⟨92, _⟩ => ⟨S8x8192x1024, .bf16⟩
  | .hbm, ⟨93, _⟩ => ⟨S8x8192x1024, .bf16⟩
  | .hbm, ⟨94, _⟩ => ⟨S8x8192x128, .f32⟩
  | .hbm, ⟨95, _⟩ => ⟨S8x8192x128, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_call0_cst : Ref sig .tc := ⟨.hbm, 42, rfl⟩
abbrev main_call0_call0_v0 : Ref sig .tc := ⟨.hbm, 43, rfl⟩
abbrev main_call0_call0_v1 : Ref sig .tc := ⟨.hbm, 44, rfl⟩
abbrev main_call0_call0_v2 : Ref sig .tc := ⟨.hbm, 45, rfl⟩
abbrev main_call0_call0_v3 : Ref sig .tc := ⟨.hbm, 46, rfl⟩
abbrev main_call0_call0_v4 : Ref sig .tc := ⟨.hbm, 47, rfl⟩
abbrev main_call0_call0_v5 : Ref sig .tc := ⟨.hbm, 48, rfl⟩
abbrev main_call0_call0_v6 : Ref sig .tc := ⟨.hbm, 49, rfl⟩
abbrev main_call0_call0_v7 : Ref sig .tc := ⟨.hbm, 50, rfl⟩
abbrev main_call0_call0_v8 : Ref sig .tc := ⟨.hbm, 51, rfl⟩
abbrev main_call0_call0_v9 : Ref sig .tc := ⟨.hbm, 52, rfl⟩
abbrev main_call0_call0_v10 : Ref sig .tc := ⟨.hbm, 53, rfl⟩
abbrev main_call0_call0_v11 : Ref sig .tc := ⟨.hbm, 54, rfl⟩
abbrev main_call0_v1 : Ref sig .tc := ⟨.hbm, 55, rfl⟩
abbrev main_v26 : Ref sig .tc := ⟨.hbm, 56, rfl⟩
abbrev main_call1_cst : Ref sig .tc := ⟨.hbm, 57, rfl⟩
abbrev main_call1_v0 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_v32 : Ref sig .tc := ⟨.hbm, 66, rfl⟩
abbrev main_cst_5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_cst_8 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩

abbrev nD : Nat := 1
abbrev τ : Topo := Topo.v7x

variable {F : FTy → Type} [FloatOps F]
-- ==== Modulation.lean ====
abbrev S8x1024 : Shape := ⟨2, ![8, 1024]⟩
abbrev S1024x14336 : Shape := ⟨2, ![1024, 14336]⟩
abbrev S14336 : Shape := ⟨1, ![14336]⟩
abbrev S1x14336 : Shape := ⟨2, ![1, 14336]⟩
abbrev S8x14336 : Shape := ⟨2, ![8, 14336]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x14336, .f32⟩
  | .hbm, ⟨2, _⟩ => ⟨S14336, .f32⟩
  | .hbm, ⟨3, _⟩ => ⟨S1x14336, .f32⟩
  | .hbm, ⟨4, _⟩ => ⟨S8x14336, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S8x1024 : Shape := ⟨2, ![8, 1024]⟩
abbrev S1024x14336 : Shape := ⟨2, ![1024, 14336]⟩
abbrev S14336 : Shape := ⟨1, ![14336]⟩
abbrev S_ : Shape := ⟨0, ![]⟩
abbrev S8x14336 : Shape := ⟨2, ![8, 14336]⟩
abbrev S1x14336 : Shape := ⟨2, ![1, 14336]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x14336, .f32⟩
  | .hbm, ⟨2, _⟩ => ⟨S14336, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x14336, .f32⟩
  | .hbm, ⟨13, _⟩ => ⟨S1x14336, .f32⟩
  | .hbm, ⟨14, _⟩ => ⟨S8x14336, .f32⟩
  | .hbm, ⟨15, _⟩ => ⟨S8x14336, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Modulation.lean ====
/- The modulation vectors: the array their kernel leaves is the reference's. -/
module

public import proofs.«01_k».proof.Proof.Gen.ModulationIdeal.Value
public import proofs.«01_k».proof.Proof.Gen.ModulationRefIdeal.Run
public import Idealize.ShloMosaic.Lib.Pipeline.ValueKit
public import Idealize.ShloMosaic.Lib.KernelVsHost

@[expose] public section

set_option maxRecDepth 16384

noncomputable section

namespace Cert.ModulationIdeal.Value

open Idealize.ShloMosaic Idealize.ShloMosaic.TcCoe Idealize.SL.Sem
open Cert.ModulationIdeal Cert.ModulationIdeal.Gen

/-- The gated conditioning: x times its sigmoid. -/
def silu (x : EReal) : EReal := x * Ideal.div (Ideal.ofBits .f32 0x3F800000#32) (Ideal.ofBits .f32 0x3F800000#32 + Ideal.exp (-x))

/-- One entry of its product with the weights, and the bias. -/
def entry (C : Vec Ideal S8x1024 .f32) (W : Vec Ideal S1024x14336 .f32) (B : Vec Ideal S14336 .f32) (b : Fin 8) (l : Fin 14336) : EReal :=
  (∑ d : Fin 1024, silu (C (ix2 b d)) * (W (ix2 d l) : EReal)) + (B (ix1 l) : EReal)

def whole (C : Vec Ideal S8x1024 .f32) (W : Vec Ideal S1024x14336 .f32) (B : Vec Ideal S14336 .f32) : Vec Ideal S8x14336 .f32 :=
  fun i => entry C W B ⟨(i 0).val, (i 0).isLt⟩ ⟨(i 1).val, (i 1).isLt⟩

theorem pay1_apply (v0 : Vec Ideal S8x1024 .f32) (v3 : Vec Ideal S1024x1024 .f32) (v5 : Vec Ideal S1x1024 .f32)
    (r : Fin 8) (l : Fin 1024) : (k0_pay1 v0 v3 v5 (ix2 r l) : EReal)
    = (∑ d : Fin 1024, silu (v0 (ix2 r d)) * (v3 (ix2 d l) : EReal)) + (v5 (ix2 0 l) : EReal) := by
  pointwise [k0_pay1, silu]
  rfl

theorem idx : ∀ t : Fin cfg0.N,
    win0_0.index t = ![0, 0]
    ∧ win0_1.index t = ![0, (grid0.coords t 0).val]
    ∧ win0_2.index t = ![0, (grid0.coords t 0).val]
    ∧ win0_3.index t = ![0, (grid0.coords t 0).val] :=
  (by decide +kernel : ∀ t : Fin grid0.N, _)

variable (m : (ℓ : Loc nD τ sig) → Buf (Elt Ideal) ℓ) (c : Dev nD)

abbrev argC : Vec Ideal S8x1024 .f32 := m ((c : Thread nD τ).loc main_arg0)
abbrev argW : Vec Ideal S1024x14336 .f32 := m ((c : Thread nD τ).loc main_arg1)
abbrev argB : Vec Ideal S14336 .f32 := m ((c : Thread nD τ).loc main_arg2)

/-- The column of the whole array at which column `l` of point `t` lies. -/
abbrev colOf (t : Fin cfg0.N) (l : Fin 1024) : Fin 14336 :=
  ⟨1024 * (grid0.coords t 0).val + l.val, by have h : (grid0.coords t 0).val < 14 := (grid0.coords t 0).isLt; omega⟩

theorem iblk0_apply (t : Fin cfg0.N) (r : Fin 8) (d : Fin 1024) : iblk m c 0 t (ix2 r d) = argC m c (ix2 r d) := by
  blk_point [iblk, V, idx t]

theorem iblk1_apply (t : Fin cfg0.N) (d l : Fin 1024) : iblk m c 1 t (ix2 d l) = argW m c (ix2 d (colOf t l)) := by
  blk_point [iblk, V, idx t]
  all_goals omega

theorem iblk2_apply (t : Fin cfg0.N) (l : Fin 1024) : (iblk m c 2 t (ix2 0 l) : EReal) = (argB m c (ix1 (colOf t l)) : EReal) := by
  have e : V m c main_v0 = (fun i => argB m c (ix1 (n0 := 14336) (i 1)) : Vec Ideal S1x14336 .f32) := by
    funext i
    obtain ⟨l, rfl⟩ : ∃ l : Fin 14336, i = ix2 0 l := ⟨i 1, by
      funext a
      match a with
      | ⟨0, _⟩ => exact Subsingleton.elim (α := Fin 1) _ _
      | ⟨1, _⟩ => rfl⟩
    show shapeCast S1x14336 (argB m c) shapeCasts_S14336_S1x14336 (ix2 0 l) = argB m c (ix1 l)
    pointwise
  blk_point [iblk, e, idx t]
  all_goals omega

theorem final : (dats m 0 c).arrAt 3 cfg0.N = whole (argC m c) (argW m c) (argB m c) := by
  refine (dats m 0 c).arrAt_eq_of_covers 3 _ (by decide +kernel) fun t _ y => ?_
  blk_simp
  rw [after0_3]
  obtain ⟨r, d, rfl⟩ : ∃ (r : Fin 8) (d : Fin 1024), y = ix2 r d := ⟨y 0, y 1, by
    funext a
    match a with
    | ⟨0, _⟩ => rfl
    | ⟨1, _⟩ => rfl⟩
  frame_out
  refine (pay1_apply _ _ _ r d).trans ?_
  simp only [iblk0_apply, iblk1_apply, iblk2_apply]
  show entry (argC m c) (argW m c) (argB m c) r (colOf t d) = _
  unfold whole
  congr 1 <;> (apply Fin.ext; blk_simp [idx t])
  exact congrArg (· + d.val) (Nat.mul_comm _ _)

end Cert.ModulationIdeal.Value

namespace Cert.ModulationRefIdeal.Value

open Idealize.ShloMosaic Idealize.ShloMosaic.TcCoe Idealize.SL.Sem
open Cert.ModulationRefIdeal Cert.ModulationRefIdeal.Gen

/-- The reference's result over its arguments. -/
def out (C : FVec Ideal S8x1024 .f32) (W : FVec Ideal S1024x14336 .f32) (B : FVec Ideal S14336 .f32) : FVec Ideal S8x14336 .f32 :=
  addf (Host.dotGeneral dot_S8x1024_S1024x14336_S8x14336_1_0_0_1_n_n none
      (mulf C (Host.divf (broadcastInDim S8x1024 ![] bcast_S_S8x1024 (constant (F := Ideal) S_ .f32 0x3F800000#32))
        (addf (broadcastInDim S8x1024 ![] bcast_S_S8x1024 (constant (F := Ideal) S_ .f32 0x3F800000#32)) (Host.exp (Host.negf C))))) W)
    (broadcastInDim S8x14336 ![0, 1] bcast_S1x14336_S8x14336_0_1 (broadcastInDim S1x14336 ![1] bcast_S14336_S1x14336_1 B))

theorem out_apply (C : FVec Ideal S8x1024 .f32) (W : FVec Ideal S1024x14336 .f32) (B : FVec Ideal S14336 .f32)
    (b : Fin 8) (l : Fin 14336) : (out C W B (ix2 b l) : EReal) = Cert.ModulationIdeal.Value.entry C W B b l := by
  unfold out Cert.ModulationIdeal.Value.entry Cert.ModulationIdeal.Value.silu
  pointwise

theorem whole_eq (C : FVec Ideal S8x1024 .f32) (W : FVec Ideal S1024x14336 .f32) (B : FVec Ideal S14336 .f32) :
    out C W B = Cert.ModulationIdeal.Value.whole C W B := by
  funext i
  obtain ⟨b, l, rfl⟩ : ∃ (b : Fin 8) (l : Fin 14336), i = ix2 b l := ⟨i 0, i 1, by
    funext a
    match a with
    | ⟨0, _⟩ => rfl
    | ⟨1, _⟩ => rfl⟩
  exact out_apply C W B b l

end Cert.ModulationRefIdeal.Value

end
-- ==== Proof.Project.lean ====
/- The output projection: the array its kernel leaves is the reference's. -/
module

public import proofs.«01_k».proof.Proof.Gen.ProjectIdeal.Value
public import proofs.«01_k».proof.Proof.Gen.ProjectRefIdeal.Run
public import Idealize.ShloMosaic.Lib.Pipeline.ValueKit
public import Idealize.ShloMosaic.Lib.KernelVsHost

@[expose] public section

set_option maxRecDepth 16384

noncomputable section

namespace Cert.ProjectIdeal.Value

open Idealize.ShloMosaic Idealize.ShloMosaic.TcCoe Idealize.SL.Sem
open Cert.ProjectIdeal Cert.ProjectIdeal.Gen

/-- One entry of the projection added to the stream. -/
def entry (O : Vec Ideal S8x8192x1024 .bf16) (X : Vec Ideal S8x8192x1024 .f32) (G : Vec Ideal S8x1x1024 .f32) (W : Vec Ideal S1024x1024 .f32)
    (b : Fin 8) (t : Fin 8192) (l : Fin 1024) : EReal :=
  (X (ix3 b t l) : EReal) + (Ideal.ofBits .f32 0x3F800000#32 + (G (ix3 b 0 l) : EReal)) * ∑ d : Fin 1024, (O (ix3 b t d) : EReal) * (W (ix2 d l) : EReal)

def whole (O : Vec Ideal S8x8192x1024 .bf16) (X : Vec Ideal S8x8192x1024 .f32) (G : Vec Ideal S8x1x1024 .f32) (W : Vec Ideal S1024x1024 .f32) :
    Vec Ideal S8x8192x1024 .f32 :=
  fun i => entry O X G W ⟨(i 0).val, (i 0).isLt⟩ ⟨(i 1).val, (i 1).isLt⟩ ⟨(i 2).val, (i 2).isLt⟩

theorem pay1_apply (v0 : Vec Ideal S1x512x1024 .bf16) (v2 : Vec Ideal S1024x1024 .bf16) (v5 : Vec Ideal S1x512x1024 .f32) (v7 : Vec Ideal S1x1x1024 .f32)
    (r : Fin 512) (l : Fin 1024) : (k0_pay1 v0 v2 v5 v7 (ix3 0 r l) : EReal)
    = (v5 (ix3 0 r l) : EReal) + (v7 (ix3 0 0 l) : EReal) * ∑ d : Fin 1024, (v0 (ix3 0 r d) : EReal) * (v2 (ix2 d l) : EReal) := by
  pointwise [k0_pay1]

theorem idx : ∀ t : Fin cfg0.N,
    win0_0.index t = ![(grid0.coords t 0).val, (grid0.coords t 1).val, 0]
    ∧ win0_1.index t = ![(grid0.coords t 0).val, (grid0.coords t 1).val, 0]
    ∧ win0_2.index t = ![(grid0.coords t 0).val, 0, 0]
    ∧ win0_3.index t = ![0, 0]
    ∧ win0_4.index t = ![(grid0.coords t 0).val, (grid0.coords t 1).val, 0] :=
  (by decide +kernel : ∀ t : Fin grid0.N, _)

variable (m : (ℓ : Loc nD τ sig) → Buf (Elt Ideal) ℓ) (c : Dev nD)

abbrev argO : Vec Ideal S8x8192x1024 .bf16 := m ((c : Thread nD τ).loc main_arg0)
abbrev argX : Vec Ideal S8x8192x1024 .f32 := m ((c : Thread nD τ).loc main_arg1)
abbrev argG : Vec Ideal S8x1x1024 .f32 := m ((c : Thread nD τ).loc main_arg2)
abbrev argW : Vec Ideal S1024x1024 .f32 := m ((c : Thread nD τ).loc main_arg3)

abbrev bOf (t : Fin cfg0.N) : Fin 8 := grid0.coords t 0
abbrev qOf (t : Fin cfg0.N) : Fin 16 := grid0.coords t 1

theorem iblk0_apply (t : Fin cfg0.N) (r : Fin 512) (d : Fin 1024) : iblk m c 0 t (ix3 0 r d)
    = argO m c (ix3 (bOf t) ⟨512 * (qOf t).val + r.val, by have := (qOf t).isLt; omega⟩ d) := by
  blk_point [iblk, V, idx t]
  all_goals (first | unfold bOf | unfold qOf) <;> omega

theorem iblk1_apply (t : Fin cfg0.N) (r : Fin 512) (d : Fin 1024) : iblk m c 1 t (ix3 0 r d)
    = argX m c (ix3 (bOf t) ⟨512 * (qOf t).val + r.val, by have := (qOf t).isLt; omega⟩ d) := by
  blk_point [iblk, V, idx t]
  all_goals (first | unfold bOf | unfold qOf) <;> omega

theorem iblk2_apply (t : Fin cfg0.N) (d : Fin 1024) : (iblk m c 2 t (ix3 0 0 d) : EReal)
    = Ideal.ofBits .f32 0x3F800000#32 + (argG m c (ix3 (bOf t) 0 d) : EReal) := by
  have e : V m c main_v1 = addf (broadcastInDim S8x1x1024 ![] bcast_S_S8x1x1024 (constant (F := Ideal) S_ .f32 0x3F800000#32)) (argG m c) := rfl
  blk_point [iblk, e, idx t]
  all_goals (first | unfold bOf | unfold qOf) <;> omega

theorem iblk3_apply (t : Fin cfg0.N) (d l : Fin 1024) : (iblk m c 3 t (ix2 d l) : EReal) = (argW m c (ix2 d l) : EReal) := by
  have e : V m c main_v2 = (truncf .bf16 (argW m c : FVec Ideal S1024x1024 .f32) bitsLt_bf16_f32 : FVec Ideal S1024x1024 .bf16) := rfl
  blk_point [iblk, e, idx t]

theorem final : (dats m 0 c).arrAt 4 cfg0.N = whole (argO m c) (argX m c) (argG m c) (argW m c) := by
  refine (dats m 0 c).arrAt_eq_of_covers 4 _ (by decide +kernel) fun t _ y => ?_
  blk_simp
  rw [after0_4]
  obtain ⟨r, d, rfl⟩ : ∃ (r : Fin 512) (d : Fin 1024), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  frame_out
  refine (pay1_apply _ _ _ _ r d).trans ?_
  simp only [iblk0_apply, iblk1_apply, iblk2_apply, iblk3_apply]
  show entry (argO m c) (argX m c) (argG m c) (argW m c) (bOf t) ⟨512 * (qOf t).val + r.val, _⟩ d = _
  unfold whole
  congr 1 <;> (apply Fin.ext; blk_simp [idx t])
  · exact (Nat.add_zero _).symm
  · exact congrArg (· + r.val) (Nat.mul_comm _ _)

end Cert.ProjectIdeal.Value

namespace Cert.ProjectRefIdeal.Value

open Idealize.ShloMosaic Idealize.ShloMosaic.TcCoe Idealize.SL.Sem
open Cert.ProjectRefIdeal Cert.ProjectRefIdeal.Gen

/-- The reference's result over its arguments. -/
def out (O : FVec Ideal S8x8192x1024 .bf16) (X : FVec Ideal S8x8192x1024 .f32) (G : FVec Ideal S8x1x1024 .f32) (W : FVec Ideal S1024x1024 .f32) : FVec Ideal S8x8192x1024 .f32 :=
  addf X (mulf (broadcastInDim S8x8192x1024 ![0, 1, 2] bcast_S8x1x1024_S8x8192x1024_0_1_2 (addf (broadcastInDim S8x1x1024 ![] bcast_S_S8x1x1024 (constant (F := Ideal) S_ .f32 0x3F800000#32)) G)) (Host.dotGeneral dot_S8x8192x1024_S1024x1024_S8x8192x1024_2_0_01_1_n_n none (extf .f32 O bitsLt_bf16_f32) W))

theorem out_apply (O : FVec Ideal S8x8192x1024 .bf16) (X : FVec Ideal S8x8192x1024 .f32) (G : FVec Ideal S8x1x1024 .f32) (W : FVec Ideal S1024x1024 .f32)
    (b : Fin 8) (t : Fin 8192) (l : Fin 1024) : (out O X G W (ix3 b t l) : EReal) = Cert.ProjectIdeal.Value.entry O X G W b t l := by
  unfold out Cert.ProjectIdeal.Value.entry
  pointwise

theorem whole_eq (O : FVec Ideal S8x8192x1024 .bf16) (X : FVec Ideal S8x8192x1024 .f32) (G : FVec Ideal S8x1x1024 .f32) (W : FVec Ideal S1024x1024 .f32) :
    out O X G W = Cert.ProjectIdeal.Value.whole O X G W := by
  funext i
  obtain ⟨b, t, l, rfl⟩ : ∃ (b : Fin 8) (t : Fin 8192) (l : Fin 1024), i = ix3 b t l := ⟨i 0, i 1, i 2, by
    funext a
    match a with
    | ⟨0, _⟩ => rfl
    | ⟨1, _⟩ => rfl
    | ⟨2, _⟩ => rfl⟩
  exact out_apply O X G W b t l

end Cert.ProjectRefIdeal.Value

end
-- ==== Proof.MixRunIdeal.lean ====
/- The mixer's body run at one grid point (MixerIdeal). -/
module

public import proofs.«01_k».proof.Proof.Gen.MixerIdeal.Skeleton
public import proofs.«01_k».proof.Proof.Gen.MixerIdeal.Frame
public import Idealize.ShloMosaic.Lib.WritesUnit

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev 𝕄 (F : FTy → Type) := MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 32 = 0 :=
  (fun t => by
    have ht : t.val < 256 := Nat.lt_of_lt_of_eq t.isLt N_0
    have e0 : (grid0.coords t 0).val = t.val / 32 % 8 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

set_option maxHeartbeats 1000000 in
/-- The body at a point where the halo is cleared: the pieces it leaves in the output's buffer and in the scratch, over the
    scratch's contents before. -/
noncomputable def mixRun_A (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S3x1024 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S272x1024 .f32) (harg11 : arg11.IsWhole) (hc0 : cond0_0 i)
    (x0 : Vec F S1x256x1024 .f32) (x1 : Vec F S1x1x1024 .f32) (x2 : Vec F S1x1x1024 .f32) (x3 : Vec F S1x1x1024 .f32) (x4 : Vec F S1x1024 .f32) (x5 : Vec F S1024x3072 .bf16) (x6 : Vec F S3x1024 .f32) (x7 : Vec F S1024x1024 .bf16) (xs : Vec F S272x1024 .f32) :
    Σ' (L8 : List (View.Piece (Elt F) S1x256x1024 .f32)), { LS : List (View.Piece (Elt F) S272x1024 .f32) //
      ∀ (E : Set ℕ) (K : PUnit → sProp (𝕄 F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_mixer_a i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mixer_a_eq_skeleton]; unfold cc0_mixer_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexact HS

set_option maxHeartbeats 1000000 in
/-- The body at a point where the halo is kept: the pieces it leaves in the output's buffer and in the scratch, over the
    scratch's contents before. -/
noncomputable def mixRun_B (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S3x1024 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S272x1024 .f32) (harg11 : arg11.IsWhole) (hc0 : ¬cond0_0 i)
    (x0 : Vec F S1x256x1024 .f32) (x1 : Vec F S1x1x1024 .f32) (x2 : Vec F S1x1x1024 .f32) (x3 : Vec F S1x1x1024 .f32) (x4 : Vec F S1x1024 .f32) (x5 : Vec F S1024x3072 .bf16) (x6 : Vec F S3x1024 .f32) (x7 : Vec F S1024x1024 .bf16) (xs : Vec F S272x1024 .f32) :
    Σ' (L8 : List (View.Piece (Elt F) S1x256x1024 .f32)), { LS : List (View.Piece (Elt F) S272x1024 .f32) //
      ∀ (E : Set ℕ) (K : PUnit → sProp (𝕄 F)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (arg11.view.loc (c : Thread nD τ) ↦[arg11.view.set]{fullShare} arg11.view.writes (Elt F) (harg11.unread xs) LS)) -∗ K ⟨⟩))
          ⊢ wp frame (wpE (defs₀ (F := F)) Variants.none c none) E (cc0_mixer_a i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0_mixer_a_eq_skeleton]; unfold cc0_mixer_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexact HS

end Cert.MixerIdeal.Gen

end
-- ==== Proof.MixSpecIdeal.lean ====
/- What the mixer's body leaves at one grid point, as functions of its blocks (MixerIdeal). -/
module

public import proofs.«01_k».proof.Proof.MixRunIdeal
public import Idealize.ShloMosaic.Lib.Pipeline.ValueKit
public import Idealize.ShloMosaic.Lib.WritesUnit

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The first eight rows of the scratch. -/
def topOf (g : Vec F S272x1024 .f32) : Vec F S8x1024 .f32 :=
  fun y => g (ix2 (n0 := 272) (n1 := 1024) ⟨(y 0).val, lt_of_lt_of_le (show (y 0).val < 8 from (y 0).isLt) (by decide)⟩ (y 1))

/-- The last eight rows of a block. -/
def tailOf (u : Vec F S256x1024 .f32) : Vec F S8x1024 .f32 :=
  fun y => u (ix2 (n0 := 256) (n1 := 1024) ⟨248 + (y 0).val, by have : (y 0).val < 8 := (y 0).isLt; omega⟩ (y 1))

/-- A block moved down two rows, the halo's last two above it. -/
def sh2 (h : Vec F S8x1024 .f32) (u : Vec F S256x1024 .f32) : Vec F S256x1024 .f32 :=
  fun y => if g : (y 0).val < 2 then h (ix2 (n0 := 8) (n1 := 1024) ⟨6 + (y 0).val, by omega⟩ (y 1))
    else u (ix2 (n0 := 256) (n1 := 1024) ⟨(y 0).val - 2, by have : (y 0).val < 256 := (y 0).isLt; omega⟩ (y 1))

theorem sh2_pos (h : Vec F S8x1024 .f32) (u : Vec F S256x1024 .f32) (r : Fin 256) (l : Fin 1024) (hr : r.val < 2) :
    sh2 h u (ix2 r l) = h (ix2 ⟨6 + r.val, by omega⟩ l) := by
  unfold sh2; exact dif_pos hr

theorem sh2_neg (h : Vec F S8x1024 .f32) (u : Vec F S256x1024 .f32) (r : Fin 256) (l : Fin 1024) (hr : ¬r.val < 2) :
    sh2 h u (ix2 r l) = u (ix2 ⟨r.val - 2, by omega⟩ l) := by
  unfold sh2; exact dif_neg hr

/-- A block moved down one row, the halo's last above it. -/
def sh1 (h : Vec F S8x1024 .f32) (u : Vec F S256x1024 .f32) : Vec F S256x1024 .f32 :=
  fun y => if g : (y 0).val < 1 then h (ix2 (n0 := 8) (n1 := 1024) ⟨7 + (y 0).val, by omega⟩ (y 1))
    else u (ix2 (n0 := 256) (n1 := 1024) ⟨(y 0).val - 1, by have : (y 0).val < 256 := (y 0).isLt; omega⟩ (y 1))

theorem sh1_pos (h : Vec F S8x1024 .f32) (u : Vec F S256x1024 .f32) (r : Fin 256) (l : Fin 1024) (hr : r.val < 1) :
    sh1 h u (ix2 r l) = h (ix2 ⟨7 + r.val, by omega⟩ l) := by
  unfold sh1; exact dif_pos hr

theorem sh1_neg (h : Vec F S8x1024 .f32) (u : Vec F S256x1024 .f32) (r : Fin 256) (l : Fin 1024) (hr : ¬r.val < 1) :
    sh1 h u (ix2 r l) = u (ix2 ⟨r.val - 1, by omega⟩ l) := by
  unfold sh1; exact dif_neg hr

/-- The product the convolution runs over. -/
def cuOf (x0 : Vec F S1x256x1024 .f32) (x1 x2 : Vec F S1x1x1024 .f32) (x4 : Vec F S1x1024 .f32) (x5 : Vec F S1024x3072 .bf16) : Vec F S256x1024 .f32 :=
  k0_pay7 x0 x4 x1 x2 x5

/-- The output block over a halo. -/
def outOf (h : Vec F S8x1024 .f32) (x0 : Vec F S1x256x1024 .f32) (x1 x2 x3 : Vec F S1x1x1024 .f32) (x4 : Vec F S1x1024 .f32) (x5 : Vec F S1024x3072 .bf16)
    (x6 : Vec F S3x1024 .f32) (x7 : Vec F S1024x1024 .bf16) : Vec F S1x256x1024 .f32 :=
  k0_pay3 (k0_pay4 x0) (k0_pay6 x0 x4 x1 x2 x5) (cuOf x0 x1 x2 x4 x5) x6 (sh2 h (cuOf x0 x1 x2 x4 x5)) (sh1 h (cuOf x0 x1 x2 x4 x5)) x7 x3

/-- A scratch holding the halo and, under it, a block. -/
structure Holds (g : Vec F S272x1024 .f32) (h : Vec F S8x1024 .f32) (u : Vec F S256x1024 .f32) : Prop where
  top : ∀ (r : Fin 8) (l : Fin 1024), g (ix2 ⟨r.val, by omega⟩ l) = h (ix2 r l)
  body : ∀ (r : Fin 256) (l : Fin 1024), g (ix2 ⟨8 + r.val, by omega⟩ l) = u (ix2 r l)

theorem pay1_eq (u : FVec F S256x1024 .f32) : k0_pay1 u = u := by
  pointwise [k0_pay1]

theorem pay2_eq (u : FVec F S8x1024 .f32) : k0_pay2 u = u := by
  pointwise [k0_pay2]

theorem ld_row {g : Vec F S272x1024 .f32} {o W : ℕ} (inb) (r : Fin W) (l : Fin 1024) (h : o + r.val < 272) :
    View.ld g (Rect.unit (s := S272x1024) ![o, 0] ![W, 1024] inb) (ix2 r l) = g (ix2 ⟨o + r.val, h⟩ l) :=
  View.ld_unit_apply_of g _ _ _ _ _ fun a => by
    match a with
    | ⟨0, _⟩ => rfl
    | ⟨1, _⟩ => exact (Nat.zero_add _).symm

theorem Holds.ld2 {g : Vec F S272x1024 .f32} {h : Vec F S8x1024 .f32} {u : Vec F S256x1024 .f32} (H : Holds g h u) (inb) :
    View.ld g (Rect.unit (s := S272x1024) ![6, 0] ![256, 1024] inb) = sh2 h u := by
  funext y
  obtain ⟨r, l, rfl⟩ : ∃ (r : Fin 256) (l : Fin 1024), y = ix2 r l := ⟨y 0, y 1, (ix2_eta y).symm⟩
  refine (ld_row inb r l (by omega)).trans ?_
  by_cases hr : r.val < 2
  · exact (H.top ⟨6 + r.val, by omega⟩ l).trans (sh2_pos h u r l hr).symm
  · refine Eq.trans ?_ ((H.body ⟨r.val - 2, by omega⟩ l).trans (sh2_neg h u r l hr).symm)
    exact congrArg (fun q => g (ix2 q l)) (Fin.ext (by show 6 + r.val = 8 + (r.val - 2); omega))

theorem Holds.ld1 {g : Vec F S272x1024 .f32} {h : Vec F S8x1024 .f32} {u : Vec F S256x1024 .f32} (H : Holds g h u) (inb) :
    View.ld g (Rect.unit (s := S272x1024) ![7, 0] ![256, 1024] inb) = sh1 h u := by
  funext y
  obtain ⟨r, l, rfl⟩ : ∃ (r : Fin 256) (l : Fin 1024), y = ix2 r l := ⟨y 0, y 1, (ix2_eta y).symm⟩
  refine (ld_row inb r l (by omega)).trans ?_
  by_cases hr : r.val < 1
  · exact (H.top ⟨7 + r.val, by omega⟩ l).trans (sh1_pos h u r l hr).symm
  · refine Eq.trans ?_ ((H.body ⟨r.val - 1, by omega⟩ l).trans (sh1_neg h u r l hr).symm)
    exact congrArg (fun q => g (ix2 q l)) (Fin.ext (by show 7 + r.val = 8 + (r.val - 1); omega))

theorem Holds.ldT {g : Vec F S272x1024 .f32} {h : Vec F S8x1024 .f32} {u : Vec F S256x1024 .f32} (H : Holds g h u) (inb) :
    View.ld g (Rect.unit (s := S272x1024) ![256, 0] ![8, 1024] inb) = tailOf u := by
  funext y
  obtain ⟨r, l, rfl⟩ : ∃ (r : Fin 8) (l : Fin 1024), y = ix2 r l := ⟨y 0, y 1, (ix2_eta y).symm⟩
  refine (ld_row inb r l (by omega)).trans ?_
  have := H.body ⟨248 + r.val, by omega⟩ l
  refine Eq.trans ?_ this
  exact congrArg (fun q => g (ix2 q l)) (Fin.ext (by show 256 + r.val = 8 + (248 + r.val); omega))

section
variable {sig' : RefSig} {κ : Kind} {sp : Space} (v : View sig' κ sp S272x1024 .f32) (f : v.ty.Contents (Elt F))

/-- The block stored over a list whose first rows hold the halo. -/
theorem holds_cons (inb) (u : Vec F S256x1024 .f32) (L : List (View.Piece (Elt F) S272x1024 .f32)) (h : Vec F S8x1024 .f32)
    (H : ∀ (r : Fin 8) (l : Fin 1024), v.read (Elt F) (v.writes (Elt F) f L) (ix2 ⟨r.val, by omega⟩ l) = h (ix2 r l)) :
    Holds (v.read (Elt F) (v.writes (Elt F) f ((⟨Rect.unit (s := S272x1024) ![8, 0] ![256, 1024] inb, u⟩ : View.Piece (Elt F) S272x1024 .f32) :: L))) h u where
  top r l := (View.read_writes_cons_rows_of_not_mem v f inb u L _ rfl rfl (Or.inl r.isLt)).trans (H r l)
  body r l := View.read_writes_cons_rows_of_mem v f inb u L _ (ix2 r l) rfl rfl rfl

theorem top_cons (inb) (u : Vec F S8x1024 .f32) (L : List (View.Piece (Elt F) S272x1024 .f32)) (r : Fin 8) (l : Fin 1024) :
    v.read (Elt F) (v.writes (Elt F) f ((⟨Rect.unit (s := S272x1024) ![0, 0] ![8, 1024] inb, u⟩ : View.Piece (Elt F) S272x1024 .f32) :: L))
      (ix2 ⟨r.val, by omega⟩ l) = u (ix2 r l) :=
  View.read_writes_cons_rows_of_mem v f inb u L _ (ix2 r l) rfl (Nat.zero_add _).symm rfl
end

theorem read_whole {sig' : RefSig} {κ : Kind} {sp : Space} (v : View sig' κ sp S1x256x1024 .f32) (f : v.ty.Contents (Elt F)) (inb) (w : Vec F S1x256x1024 .f32) :
    v.read (Elt F) (v.writes (Elt F) f [(⟨Rect.unit (s := S1x256x1024) ![0, 0, 0] ![1, 256, 1024] inb, w⟩ : View.Piece (Elt F) S1x256x1024 .f32)]) = w :=
  funext fun y => View.read_writes_cons_unit_of_mem v f inb w [] y y rfl fun a => by
    match a with
    | ⟨0, _⟩ => exact (Nat.zero_add _).symm
    | ⟨1, _⟩ => exact (Nat.zero_add _).symm
    | ⟨2, _⟩ => exact (Nat.zero_add _).symm

variable (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x3072 .bf16) (harg7 : arg7.IsWhole) (arg8 : Memref sig .tc .vmem S3x1024 .f32) (harg8 : arg8.IsWhole) (arg9 : Memref sig .tc .vmem S1024x1024 .bf16) (harg9 : arg9.IsWhole) (arg10 : Memref sig .tc .vmem S1x256x1024 .f32) (harg10 : arg10.IsWhole) (arg11 : Memref sig .tc .vmem S272x1024 .f32) (harg11 : arg11.IsWhole)
    (x0 : Vec F S1x256x1024 .f32) (x1 : Vec F S1x1x1024 .f32) (x2 : Vec F S1x1x1024 .f32) (x3 : Vec F S1x1x1024 .f32) (x4 : Vec F S1x1024 .f32) (x5 : Vec F S1024x3072 .bf16) (x6 : Vec F S3x1024 .f32) (x7 : Vec F S1024x1024 .bf16) (xs : Vec F S272x1024 .f32)

theorem mixA_out (hc0 : cond0_0 i) (f) : arg10.view.read (Elt F) (arg10.view.writes (Elt F) f (mixRun_A c i arg2 harg2 arg3 harg3 arg4 harg4 arg5 harg5 arg6 harg6 arg7 harg7 arg8 harg8 arg9 harg9 arg10 harg10 arg11 harg11 hc0 x0 x1 x2 x3 x4 x5 x6 x7 xs).1)
    = outOf k0_pay8 x0 x1 x2 x3 x4 x5 x6 x7 := by
  unfold mixRun_A
  dsimp only
  sl_unfold_words
  have H := holds_cons arg11.view arg11.view.junk inb_S272x1024_S256x1024_8_0 (k0_pay7 x0 x4 x1 x2 x5) [⟨Rect.unit (s := S272x1024) ![0, 0] S8x1024.size inb_S272x1024_S8x1024_0_0, k0_pay8⟩] k0_pay8
    (top_cons arg11.view arg11.view.junk inb_S272x1024_S8x1024_0_0 k0_pay8 [])
  frame_out
  refine (read_whole arg10.view f _ _).trans ?_
  rw [pay1_eq]
  exact congrArg₂ (fun p q => k0_pay3 (k0_pay4 x0) (k0_pay6 x0 x4 x1 x2 x5) (k0_pay7 x0 x4 x1 x2 x5) x6 p q x7 x3) (H.ld2 _) (H.ld1 _)

theorem mixB_out (hc0 : ¬cond0_0 i) (f) : arg10.view.read (Elt F) (arg10.view.writes (Elt F) f (mixRun_B c i arg2 harg2 arg3 harg3 arg4 harg4 arg5 harg5 arg6 harg6 arg7 harg7 arg8 harg8 arg9 harg9 arg10 harg10 arg11 harg11 hc0 x0 x1 x2 x3 x4 x5 x6 x7 xs).1)
    = outOf (topOf xs) x0 x1 x2 x3 x4 x5 x6 x7 := by
  unfold mixRun_B
  dsimp only
  sl_unfold_words
  have H := holds_cons arg11.view (harg11.unread xs) inb_S272x1024_S256x1024_8_0 (k0_pay7 x0 x4 x1 x2 x5) [] (topOf xs)
    (fun r l => congrFun (harg11.read_unread xs) (ix2 ⟨r.val, by omega⟩ l))
  frame_out
  refine (read_whole arg10.view f _ _).trans ?_
  rw [pay1_eq]
  exact congrArg₂ (fun p q => k0_pay3 (k0_pay4 x0) (k0_pay6 x0 x4 x1 x2 x5) (k0_pay7 x0 x4 x1 x2 x5) x6 p q x7 x3) (H.ld2 _) (H.ld1 _)

theorem mixA_tail (hc0 : cond0_0 i) : topOf (arg11.view.read (Elt F) (arg11.view.writes (Elt F) (harg11.unread xs) (mixRun_A c i arg2 harg2 arg3 harg3 arg4 harg4 arg5 harg5 arg6 harg6 arg7 harg7 arg8 harg8 arg9 harg9 arg10 harg10 arg11 harg11 hc0 x0 x1 x2 x3 x4 x5 x6 x7 xs).2.1))
    = tailOf (cuOf x0 x1 x2 x4 x5) := by
  unfold mixRun_A
  dsimp only
  sl_unfold_words
  have H := holds_cons arg11.view arg11.view.junk inb_S272x1024_S256x1024_8_0 (k0_pay7 x0 x4 x1 x2 x5) [⟨Rect.unit (s := S272x1024) ![0, 0] S8x1024.size inb_S272x1024_S8x1024_0_0, k0_pay8⟩] k0_pay8
    (top_cons arg11.view arg11.view.junk inb_S272x1024_S8x1024_0_0 k0_pay8 [])
  frame_out
  rw [pay1_eq, pay2_eq]
  funext y
  obtain ⟨r, l, rfl⟩ : ∃ (r : Fin 8) (l : Fin 1024), y = ix2 r l := ⟨y 0, y 1, (ix2_eta y).symm⟩
  exact (top_cons arg11.view _ _ _ _ r l).trans (congrFun (H.ldT _) _)

theorem mixB_tail (hc0 : ¬cond0_0 i) : topOf (arg11.view.read (Elt F) (arg11.view.writes (Elt F) (harg11.unread xs) (mixRun_B c i arg2 harg2 arg3 harg3 arg4 harg4 arg5 harg5 arg6 harg6 arg7 harg7 arg8 harg8 arg9 harg9 arg10 harg10 arg11 harg11 hc0 x0 x1 x2 x3 x4 x5 x6 x7 xs).2.1))
    = tailOf (cuOf x0 x1 x2 x4 x5) := by
  unfold mixRun_B
  dsimp only
  sl_unfold_words
  have H := holds_cons arg11.view arg11.view.junk inb_S272x1024_S256x1024_8_0 (k0_pay7 x0 x4 x1 x2 x5) [] (topOf (arg11.view.read (Elt F) arg11.view.junk)) (fun _ _ => rfl)
  frame_out
  rw [pay1_eq, pay2_eq]
  funext y
  obtain ⟨r, l, rfl⟩ : ∃ (r : Fin 8) (l : Fin 1024), y = ix2 r l := ⟨y 0, y 1, (ix2_eta y).symm⟩
  exact (top_cons arg11.view _ _ _ _ r l).trans (congrFun (H.ldT _) _)

end Cert.MixerIdeal.Gen

end
-- ==== Proof.MixBodyIdeal.lean ====
/- The mixer's run over its grid and what it leaves unchanged (MixerIdeal). -/
module

public import proofs.«01_k».proof.Proof.MixSpecIdeal
public import Idealize.ShloMosaic.Lib.Pipeline.ValueKit
public import Idealize.ShloMosaic.Lib.WritesUnit

@[expose] public section

set_option maxRecDepth 16384

noncomputable section

namespace Cert.MixerIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x3072 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256x1024 .f32 := win0_8.stage (cfg0.slots t 8)
abbrev hs0_8 (t : Fin cfg0.N) : (ms0_8 t).IsWhole := hstage0_8 ((cfg0.slots t 8).cast nbuf0_8)
abbrev scM0_0 : Memref sig .tc .vmem S272x1024 .f32 := Memref.whole cc0_scratch0

theorem PhiA0_eq (c : Dev nD) :
    (Pipeline.ΦA spec0 c : sProp (𝕄 F))
      = iprop(iprop((∃ d, owns (c : Thread nD τ) scM0_0 fullShare d)) ∗ (∃ r, prngReg c r)) := by
  unfold Pipeline.ΦA; rw [scopedRest0_eq]; simp only [scM0_0, owns_whole]; try rfl

variable (c : Dev nD)

/-- The product the convolution runs over, at a point. -/
def cur (t : Fin cfg0.N) : Vec F S256x1024 .f32 := cuOf (iblk m c 0 t) (iblk m c 1 t) (iblk m c 2 t) (iblk m c 4 t) (iblk m c 5 t)

/-- The halo a point finds: zeros where a sequence begins, the last rows of the point before elsewhere. -/
def halo (t : Fin cfg0.N) : Vec F S8x1024 .f32 :=
  if t.val % 32 = 0 then k0_pay8 else tailOf (cur m c ⟨t.val - 1, lt_of_le_of_lt (Nat.sub_le _ _) t.isLt⟩)

/-- The output block of a point. -/
def outv (t : Fin cfg0.N) : Vec F S1x256x1024 .f32 := outOf (halo m c t) (iblk m c 0 t) (iblk m c 1 t) (iblk m c 2 t) (iblk m c 3 t) (iblk m c 4 t) (iblk m c 5 t) (iblk m c 6 t) (iblk m c 7 t)

/-- The invariant before position `n`: after a point the first rows of the scratch are that point's last. -/
def PhiM : (n : ℕ) → n ≤ cfg0.N → sProp (𝕄 F)
  | 0, _ => Pipeline.ΦA spec0 c
  | n + 1, hn => iprop(iprop(∃ xs, ⌜topOf xs = tailOf (cur m c ⟨n, hn⟩)⌝ ∗ owns (c : Thread nD τ) scM0_0 fullShare xs) ∗ (∃ r, prngReg c r))

theorem PhiM_zero (n : ℕ) (h : n ≤ cfg0.N) (hz : n = 0) : PhiM m c n h = Pipeline.ΦA spec0 c := by
  subst hz; rfl

theorem PhiM_succ (n : ℕ) (hn : n < cfg0.N) :
    PhiM m c (n + 1) hn = iprop(iprop(∃ xs, ⌜topOf xs = tailOf (cur m c ⟨n, hn⟩)⌝ ∗ owns (c : Thread nD τ) scM0_0 fullShare xs) ∗ (∃ r, prngReg c r)) := rfl

theorem PhiM_pos (n : ℕ) (h : n ≤ cfg0.N) (hz : n ≠ 0) :
    PhiM m c n h = iprop(iprop(∃ xs, ⌜topOf xs = tailOf (cur m c ⟨n - 1, by omega⟩)⌝ ∗ owns (c : Thread nD τ) scM0_0 fullShare xs) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv m c t
    | ⟨_ + 9, h⟩ => absurd h (Nat.not_lt.2 (Nat.le_add_left _ _))
  Φ t := PhiM m c t.val (Nat.le_of_lt_succ t.isLt)
  q _ := fullShare
  owed _ := 0

theorem A_eq (w : Fin cfg0.W) : (dats m 0 c).A w = V m c (Pipeline.arrRef spec0 w) := by
  dsimp only [dats]

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = iblk m c 7 t := by dsimp only [dats]
theorem after0_8 (t : Fin cfg0.N) : (dats m 0 c).after 8 t = outv m c t := by dsimp only [dats]
theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d
theorem before0_6 (t : Fin cfg0.N) (d) : (dats m 0 c).before 6 t d = iblk m c 6 t :=
  before0_6_of m (dats m 0 c) (A_eq m c 6) (after0_6 m c) t d
theorem before0_7 (t : Fin cfg0.N) (d) : (dats m 0 c).before 7 t d = iblk m c 7 t :=
  before0_7_of m (dats m 0 c) (A_eq m c 7) (after0_7 m c) t d

theorem PhiM_castSucc (t : Fin cfg0.N) : (dats m 0 c).Φ t.castSucc = PhiM m c t.val (Nat.le_of_lt t.isLt) := by
  dsimp only [dats]; rfl

def bodyPre (t : Fin cfg0.N) : sProp (𝕄 F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (t : Fin cfg0.N) : sProp (𝕄 F) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
theorem sound_A (t : Fin cfg0.N) (h0 : t.val % 32 = 0) (xs : Vec F S272x1024 .f32) (K : PUnit → sProp (𝕄 F)) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ owns (c : Thread nD τ) scM0_0 fullShare xs
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (outv m c t)
          ∗ (∃ xs, ⌜topOf xs = tailOf (cur m c t)⌝ ∗ owns (c : Thread nD τ) scM0_0 fullShare xs)) -∗ K ⟨⟩))
      ⊢ wp frame (wpE (defs₀ (F := F)) Variants.none c none) Set.univ (bodyAt0 t) K := by
  have eo : outv m c t = outOf k0_pay8 (iblk m c 0 t) (iblk m c 1 t) (iblk m c 2 t) (iblk m c 3 t) (iblk m c 4 t) (iblk m c 5 t) (iblk m c 6 t) (iblk m c 7 t) := by unfold outv halo; rw [if_pos h0]
  rw [eo]
  unfold bodyAt0
  iintro ⟨H0, H1, H2, H3, H4, H5, H6, H7, H8, HS, Hk⟩
  iapply ((mixRun_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) xs).2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, ⟨%f8, H8⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact mixA_out c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) xs ((hcond0_0 t).mpr h0) f8
  iexists _; isplitr
  swap
  · unfold owns; iexists _; isplitr
    swap; · iexact HS
    ipureintro; rfl
  ipureintro; exact mixA_tail c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) xs ((hcond0_0 t).mpr h0)

set_option maxHeartbeats 4000000 in
theorem sound_B (t : Fin cfg0.N) (h0 : ¬t.val % 32 = 0) (xs : Vec F S272x1024 .f32) (hx : topOf xs = halo m c t) (K : PUnit → sProp (𝕄 F)) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ (∃ d, owns (c : Thread nD τ) (ms0_8 t) fullShare d) ∗ owns (c : Thread nD τ) scM0_0 fullShare xs
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (outv m c t)
          ∗ (∃ xs, ⌜topOf xs = tailOf (cur m c t)⌝ ∗ owns (c : Thread nD τ) scM0_0 fullShare xs)) -∗ K ⟨⟩))
      ⊢ wp frame (wpE (defs₀ (F := F)) Variants.none c none) Set.univ (bodyAt0 t) K := by
  have eo : outv m c t = outOf (topOf xs) (iblk m c 0 t) (iblk m c 1 t) (iblk m c 2 t) (iblk m c 3 t) (iblk m c 4 t) (iblk m c 5 t) (iblk m c 6 t) (iblk m c 7 t) := by unfold outv; rw [hx]
  rw [eo]
  unfold bodyAt0
  iintro ⟨H0, H1, H2, H3, H4, H5, H6, H7, H8, HS, Hk⟩
  iapply ((mixRun_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) xs).2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, ⟨%f8, H8⟩, HS⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact mixB_out c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) xs (fun h => h0 ((hcond0_0 t).mp h)) f8
  iexists _; isplitr
  swap
  · unfold owns; iexists _; isplitr
    swap; · iexact HS
    ipureintro; rfl
  ipureintro; exact mixB_tail c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) xs (fun h => h0 ((hcond0_0 t).mp h))

set_option maxHeartbeats 4000000 in
theorem sound_body (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.succ = PhiM m c (t.val + 1) t.isLt from rfl, PhiM_succ, PhiM_castSucc m c t]
  by_cases hz : t.val = 0
  · have h0 : t.val % 32 = 0 := by rw [hz]
    rw [PhiM_zero m c _ _ hz, PhiA0_eq]
    iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_A m c t h0 xs _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS]; · iexact HS
    iintro ⟨H0, H1, H2, H3, H4, H5, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiM_pos m c _ _ hz]
    iintro ⟨⟨⟨%xs, %hx, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    by_cases h0 : t.val % 32 = 0
    · iapply (sound_A m c t h0 xs _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iapply (sound_B m c t h0 xs (hx.trans (by unfold halo; rw [if_neg h0])) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

theorem defs₀_row (t : Fin cfg0.N) :
    defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiM m c 0 (Nat.zero_le _) from rfl, PhiM_zero m c 0 _ rfl]
  try exact Idealize.SL.BI.Entails.refl _

theorem Phi_out (t : Fin (cfg0.N + 1)) (ht : t.val ≠ 0) : (dats m 0 c).Φ t ⊢ Pipeline.ΦA spec0 c := by
  rw [show (dats m 0 c).Φ t = PhiM m c t.val (Nat.le_of_lt_succ t.isLt) from rfl, PhiM_pos m c _ _ ht, PhiA0_eq]
  iintro ⟨⟨%xs, %hx, HS0⟩, Hg⟩
  isplitl [HS0]
  · iexists _; iexact HS0
  iexact Hg

theorem hout : (dats m 0 c).Φ (Fin.last cfg0.N) ⊢ Pipeline.ΦA spec0 c :=
  Phi_out m c _ (by rw [Fin.val_last]; have : cfg0.N = 256 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.MixerIdeal.Gen

end
-- ==== Proof.Mixer.lean ====
/- The first mixer: the array its kernel leaves is the reference's. -/
module

public import proofs.«01_k».proof.Proof.MixBodyIdeal
public import proofs.«01_k».proof.Proof.Gen.MixerRefIdeal.Run
public import Idealize.ShloMosaic.Lib.Pipeline.ValueKit
public import Idealize.ShloMosaic.Lib.KernelVsHost

@[expose] public section

set_option maxRecDepth 16384

noncomputable section

namespace Cert.MixerIdeal.Value

open Idealize.ShloMosaic Idealize.ShloMosaic.TcCoe Idealize.SL.Sem
open Cert.MixerIdeal Cert.MixerIdeal.Gen

/-- One entry of the normed and modulated row. -/
def hAt (X : Vec Ideal S8x8192x1024 .f32) (Sh Sc : Vec Ideal S8x1x1024 .f32) (G : Vec Ideal S1024 .f32) (b : Fin 8) (t : Fin 8192) (d : Fin 1024) : EReal :=
  (X (ix3 b t d) : EReal) * Ideal.rsqrt (Ideal.div (∑ x : Fin 1024, (X (ix3 b t x) : EReal) * (X (ix3 b t x) : EReal)) (Ideal.ofBits FTy.f32 1149239296#32) + Ideal.ofBits FTy.f32 897988541#32)
    * (G (ix1 d) : EReal) * (1 + (Sc (ix3 b 0 d) : EReal)) + (Sh (ix3 b 0 d) : EReal)

/-- One entry of the three projections side by side. -/
def prAt (X : Vec Ideal S8x8192x1024 .f32) (Sh Sc : Vec Ideal S8x1x1024 .f32) (G : Vec Ideal S1024 .f32) (W : Vec Ideal S1024x3072 .f32)
    (b : Fin 8) (t : Fin 8192) (j : Fin 3072) : EReal :=
  ∑ d : Fin 1024, hAt X Sh Sc G b t d * (W (ix2 d j) : EReal)

/-- One entry of the gated stream the convolution runs over. -/
def cuAt (X : Vec Ideal S8x8192x1024 .f32) (Sh Sc : Vec Ideal S8x1x1024 .f32) (G : Vec Ideal S1024 .f32) (W : Vec Ideal S1024x3072 .f32)
    (b : Fin 8) (t : Fin 8192) (l : Fin 1024) : EReal :=
  prAt X Sh Sc G W b t ⟨1024 + l.val, by omega⟩ * prAt X Sh Sc G W b t ⟨2048 + l.val, by omega⟩

/-- That stream with two rows of zeros before it. -/
def pastAt (X : Vec Ideal S8x8192x1024 .f32) (Sh Sc : Vec Ideal S8x1x1024 .f32) (G : Vec Ideal S1024 .f32) (W : Vec Ideal S1024x3072 .f32)
    (b : Fin 8) (n : ℕ) (l : Fin 1024) : EReal :=
  if h : 2 ≤ n ∧ n - 2 < 8192 then cuAt X Sh Sc G W b ⟨n - 2, h.2⟩ l else 0

/-- One entry of the mixer's result. -/
def entry (X : Vec Ideal S8x8192x1024 .f32) (Sh Sc Ga : Vec Ideal S8x1x1024 .f32) (G : Vec Ideal S1024 .f32) (W : Vec Ideal S1024x3072 .f32) (K : Vec Ideal S3x1024 .f32)
    (W2 : Vec Ideal S1024x1024 .f32) (b : Fin 8) (t : Fin 8192) (l : Fin 1024) : EReal :=
  (X (ix3 b t l) : EReal) + (1 + (Ga (ix3 b 0 l) : EReal)) * ∑ x : Fin 1024, prAt X Sh Sc G W b t ⟨x.val, by omega⟩
    * ((K (ix2 0 x) : EReal) * pastAt X Sh Sc G W b t.val x + (K (ix2 1 x) : EReal) * pastAt X Sh Sc G W b (1 + t.val) x
      + (K (ix2 2 x) : EReal) * pastAt X Sh Sc G W b (2 + t.val) x) * (W2 (ix2 x l) : EReal)

def whole (X : Vec Ideal S8x8192x1024 .f32) (Sh Sc Ga : Vec Ideal S8x1x1024 .f32) (G : Vec Ideal S1024 .f32) (W : Vec Ideal S1024x3072 .f32) (K : Vec Ideal S3x1024 .f32)
    (W2 : Vec Ideal S1024x1024 .f32) : Vec Ideal S8x8192x1024 .f32 :=
  fun i => entry X Sh Sc Ga G W K W2 ⟨(i 0).val, (i 0).isLt⟩ ⟨(i 1).val, (i 1).isLt⟩ ⟨(i 2).val, (i 2).isLt⟩

theorem pay5_apply (v0 : Vec Ideal S1x256x1024 .f32) (v2 : Vec Ideal S1x1024 .f32) (v4 v6 : Vec Ideal S1x1x1024 .f32) (v27 : Vec Ideal S1024x3072 .bf16)
    (r : Fin 256) (j : Fin 3072) : (k0_pay5 v0 v2 v4 v6 v27 (ix2 r j) : EReal)
    = ∑ d : Fin 1024, ((v0 (ix3 0 r d) : EReal) * Ideal.rsqrt (Ideal.div (∑ x : Fin 1024, (v0 (ix3 0 r x) : EReal) * (v0 (ix3 0 r x) : EReal)) (Ideal.ofBits FTy.f32 1149239296#32) + Ideal.ofBits FTy.f32 897988541#32)
      * (v2 (ix2 0 d) : EReal) * (1 + (v6 (ix3 0 0 d) : EReal)) + (v4 (ix3 0 0 d) : EReal)) * (v27 (ix2 d j) : EReal) := by
  pointwise [k0_pay5, k0_pay4]

theorem pay4_apply (v0 : Vec Ideal S1x256x1024 .f32) (r : Fin 256) (l : Fin 1024) : (k0_pay4 v0 (ix2 r l) : EReal) = (v0 (ix3 0 r l) : EReal) := by
  pointwise [k0_pay4]

theorem pay6_apply (v0 : Vec Ideal S1x256x1024 .f32) (v2 : Vec Ideal S1x1024 .f32) (v4 v6 : Vec Ideal S1x1x1024 .f32) (v27 : Vec Ideal S1024x3072 .bf16)
    (r : Fin 256) (l : Fin 1024) : (k0_pay6 v0 v2 v4 v6 v27 (ix2 r l) : EReal) = (k0_pay5 v0 v2 v4 v6 v27 (ix2 r ⟨l.val, by omega⟩) : EReal) := by
  unfold k0_pay6
  generalize k0_pay5 v0 v2 v4 v6 v27 = z
  pointwise

theorem pay7_apply (v0 : Vec Ideal S1x256x1024 .f32) (v2 : Vec Ideal S1x1024 .f32) (v4 v6 : Vec Ideal S1x1x1024 .f32) (v27 : Vec Ideal S1024x3072 .bf16)
    (r : Fin 256) (l : Fin 1024) : (k0_pay7 v0 v2 v4 v6 v27 (ix2 r l) : EReal)
    = (k0_pay5 v0 v2 v4 v6 v27 (ix2 r ⟨1024 + l.val, by omega⟩) : EReal) * (k0_pay5 v0 v2 v4 v6 v27 (ix2 r ⟨2048 + l.val, by omega⟩) : EReal) := by
  unfold k0_pay7
  generalize k0_pay5 v0 v2 v4 v6 v27 = z
  pointwise

theorem pay8_apply (r : Fin 8) (l : Fin 1024) : (k0_pay8 (F := Ideal) (ix2 r l) : EReal) = 0 := by
  pointwise [k0_pay8]

theorem pay3_apply (v1 v30 v33 : FVec Ideal S256x1024 .f32) (v40 : Vec Ideal S3x1024 .f32) (v42 v46 : Vec Ideal S256x1024 .f32) (v60 : Vec Ideal S1024x1024 .bf16) (v63 : Vec Ideal S1x1x1024 .f32)
    (r : Fin 256) (l : Fin 1024) : (k0_pay3 v1 v30 v33 v40 v42 v46 v60 v63 (ix3 0 r l) : EReal)
    = (v1 (ix2 r l) : EReal) + (v63 (ix3 0 0 l) : EReal) * ∑ x : Fin 1024, (v30 (ix2 r x) : EReal)
      * ((v40 (ix2 0 x) : EReal) * (v42 (ix2 r x) : EReal) + (v40 (ix2 1 x) : EReal) * (v46 (ix2 r x) : EReal) + (v40 (ix2 2 x) : EReal) * (v33 (ix2 r x) : EReal)) * (v60 (ix2 x l) : EReal) := by
  pointwise [k0_pay3]

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![(grid0.coords t 0).val, 0, 0]
    ∧ win0_4.index t = ![0, 0]
    ∧ win0_5.index t = ![0, 0]
    ∧ win0_6.index t = ![0, 0]
    ∧ win0_7.index t = ![0, 0]
    ∧ win0_8.index t = ![(grid0.coords t 0).val, (grid0.coords t 1).val, 0] :=
  (by decide +kernel : ∀ t : Fin grid0.N, _)

theorem linear : ∀ t : Fin cfg0.N, t.val = 32 * (grid0.coords t 0).val + (grid0.coords t 1).val :=
  (by decide +kernel : ∀ t : Fin grid0.N, _)

variable (m : (ℓ : Loc nD τ sig) → Buf (Elt Ideal) ℓ) (c : Dev nD)

abbrev argX : Vec Ideal S8x8192x1024 .f32 := m ((c : Thread nD τ).loc main_arg0)
abbrev argSh : Vec Ideal S8x1x1024 .f32 := m ((c : Thread nD τ).loc main_arg1)
abbrev argSc : Vec Ideal S8x1x1024 .f32 := m ((c : Thread nD τ).loc main_arg2)
abbrev argGa : Vec Ideal S8x1x1024 .f32 := m ((c : Thread nD τ).loc main_arg3)
abbrev argG : Vec Ideal S1024 .f32 := m ((c : Thread nD τ).loc main_arg4)
abbrev argW : Vec Ideal S1024x3072 .f32 := m ((c : Thread nD τ).loc main_arg5)
abbrev argK : Vec Ideal S3x1024 .f32 := m ((c : Thread nD τ).loc main_arg6)
abbrev argV : Vec Ideal S1024x1024 .f32 := m ((c : Thread nD τ).loc main_arg7)

abbrev bOf (t : Fin cfg0.N) : Fin 8 := grid0.coords t 0
abbrev qOf (t : Fin cfg0.N) : Fin 32 := grid0.coords t 1
/-- The row of the sequence a block's row is. -/
abbrev rowOf (t : Fin cfg0.N) (r : Fin 256) : Fin 8192 := ⟨256 * (qOf t).val + r.val, by have := (qOf t).isLt; omega⟩

theorem iblk0_apply (t : Fin cfg0.N) (r : Fin 256) (d : Fin 1024) : (iblk m c 0 t (ix3 0 r d) : EReal) = (argX m c (ix3 (bOf t) (rowOf t r) d) : EReal) := by
  blk_point [iblk, V, idx t]
  all_goals (first | unfold bOf | unfold qOf) <;> omega

theorem iblk1_apply (t : Fin cfg0.N) (d : Fin 1024) : (iblk m c 1 t (ix3 0 0 d) : EReal) = (argSh m c (ix3 (bOf t) 0 d) : EReal) := by
  blk_point [iblk, V, idx t]
  all_goals (first | unfold bOf | unfold qOf) <;> omega

theorem iblk2_apply (t : Fin cfg0.N) (d : Fin 1024) : (iblk m c 2 t (ix3 0 0 d) : EReal) = (argSc m c (ix3 (bOf t) 0 d) : EReal) := by
  blk_point [iblk, V, idx t]
  all_goals (first | unfold bOf | unfold qOf) <;> omega

theorem iblk3_apply (t : Fin cfg0.N) (d : Fin 1024) : (iblk m c 3 t (ix3 0 0 d) : EReal) = 1 + (argGa m c (ix3 (bOf t) 0 d) : EReal) := by
  have e : V m c main_v1 = addf (broadcastInDim S8x1x1024 ![] bcast_S_S8x1x1024 (constant (F := Ideal) S_ .f32 0x3F800000#32)) (argGa m c) := rfl
  have one : Ideal.ofBits .f32 0x3F800000#32 = 1 := Idealize.ShloMosaic.Ideal.ofBits_one_f32
  rw [← one]
  blk_point [iblk, e, idx t]
  all_goals (first | unfold bOf | unfold qOf) <;> omega

theorem iblk4_apply (t : Fin cfg0.N) (d : Fin 1024) : (iblk m c 4 t (ix2 0 d) : EReal) = (argG m c (ix1 d) : EReal) := by
  have e : V m c main_v2 = (fun i => argG m c (ix1 (n0 := 1024) (i 1)) : Vec Ideal S1x1024 .f32) := by
    funext i
    obtain ⟨l, rfl⟩ : ∃ l : Fin 1024, i = ix2 (n0 := 1) (n1 := 1024) 0 l := ⟨i 1, by
      funext a
      match a with
      | ⟨0, _⟩ => exact Fin.ext (by have := (i 0).isLt; change _ < 1 at this; show (i 0).val = 0; omega)
      | ⟨1, _⟩ => rfl⟩
    show shapeCast S1x1024 (argG m c) shapeCasts_S1024_S1x1024 (ix2 0 l) = argG m c (ix1 l)
    pointwise
  blk_point [iblk, e, idx t]

theorem iblk5_apply (t : Fin cfg0.N) (d : Fin 1024) (l : Fin 3072) : (iblk m c 5 t (ix2 d l) : EReal) = (argW m c (ix2 d l) : EReal) := by
  have e : V m c main_v3 = (truncf .bf16 (argW m c : FVec Ideal S1024x3072 .f32) bitsLt_bf16_f32 : FVec Ideal S1024x3072 .bf16) := rfl
  blk_point [iblk, e, idx t]

theorem iblk6_apply (t : Fin cfg0.N) (d : Fin 3) (l : Fin 1024) : (iblk m c 6 t (ix2 d l) : EReal) = (argK m c (ix2 d l) : EReal) := by
  blk_point [iblk, V, idx t]

theorem iblk7_apply (t : Fin cfg0.N) (d l : Fin 1024) : (iblk m c 7 t (ix2 d l) : EReal) = (argV m c (ix2 d l) : EReal) := by
  have e : V m c main_v4 = (truncf .bf16 (argV m c : FVec Ideal S1024x1024 .f32) bitsLt_bf16_f32 : FVec Ideal S1024x1024 .bf16) := rfl
  blk_point [iblk, e, idx t]

theorem pr_apply (t : Fin cfg0.N) (r : Fin 256) (j : Fin 3072) : (k0_pay5 (iblk m c 0 t) (iblk m c 4 t) (iblk m c 1 t) (iblk m c 2 t) (iblk m c 5 t) (ix2 r j) : EReal)
    = prAt (argX m c) (argSh m c) (argSc m c) (argG m c) (argW m c) (bOf t) (rowOf t r) j := by
  refine (pay5_apply _ _ _ _ _ r j).trans ?_
  simp only [iblk0_apply, iblk1_apply, iblk2_apply, iblk4_apply, iblk5_apply]
  rfl

theorem cur_apply (t : Fin cfg0.N) (r : Fin 256) (l : Fin 1024) : (cur m c t (ix2 r l) : EReal)
    = cuAt (argX m c) (argSh m c) (argSc m c) (argG m c) (argW m c) (bOf t) (rowOf t r) l := by
  refine (pay7_apply _ _ _ _ _ r l).trans ?_
  rw [pr_apply, pr_apply]
  rfl

theorem past_low (b : Fin 8) (n : ℕ) (l : Fin 1024) (h : n < 2) : pastAt (argX m c) (argSh m c) (argSc m c) (argG m c) (argW m c) b n l = 0 :=
  dif_neg (fun k => absurd k.1 (by omega))

theorem past_row (b : Fin 8) (n : ℕ) (l : Fin 1024) (u : Fin 8192) (h : n = u.val + 2) : pastAt (argX m c) (argSh m c) (argSc m c) (argG m c) (argW m c) b n l
    = cuAt (argX m c) (argSh m c) (argSc m c) (argG m c) (argW m c) b u l := by
  subst h
  exact (dif_pos ⟨by omega, by have := u.isLt; omega⟩).trans (congrArg (fun v => cuAt (argX m c) (argSh m c) (argSc m c) (argG m c) (argW m c) b v l) (Fin.ext (by show u.val + 2 - 2 = u.val; omega)))

/-- What stands before a block's first row, as rows of the padded stream. -/
theorem halo_apply (t : Fin cfg0.N) (r : Fin 8) (hr : 6 ≤ r.val) (l : Fin 1024) : (halo m c t (ix2 r l) : EReal)
    = pastAt (argX m c) (argSh m c) (argSc m c) (argG m c) (argW m c) (bOf t) (256 * (qOf t).val + r.val - 6) l := by
  have ht := linear t
  have hq : (grid0.coords t 1).val < 32 := (qOf t).isLt
  have e0 : (qOf t).val = (grid0.coords t 1).val := rfl
  by_cases h : t.val % 32 = 0
  · have e : halo m c t = (k0_pay8 (F := Ideal) : Vec Ideal S8x1024 .f32) := if_pos h
    rw [e, past_low m c _ _ _ (by omega)]
    exact pay8_apply r l
  · have e : halo m c t = tailOf (cur m c ⟨t.val - 1, lt_of_le_of_lt (Nat.sub_le _ _) t.isLt⟩) := if_neg h
    have hp := linear ⟨t.val - 1, lt_of_le_of_lt (Nat.sub_le _ _) t.isLt⟩
    have hpq : (grid0.coords ⟨t.val - 1, lt_of_le_of_lt (Nat.sub_le _ _) t.isLt⟩ 1).val < 32 := (qOf ⟨t.val - 1, lt_of_le_of_lt (Nat.sub_le _ _) t.isLt⟩).isLt
    rw [e]
    refine (cur_apply m c ⟨t.val - 1, lt_of_le_of_lt (Nat.sub_le _ _) t.isLt⟩ ⟨248 + r.val, by omega⟩ l).trans ?_
    have eb : bOf ⟨t.val - 1, lt_of_le_of_lt (Nat.sub_le _ _) t.isLt⟩ = bOf t := Fin.ext (by
      show (grid0.coords ⟨t.val - 1, lt_of_le_of_lt (Nat.sub_le _ _) t.isLt⟩ 0).val = (grid0.coords t 0).val
      dsimp only at hp
      omega)
    rw [eb]
    refine (past_row m c _ _ _ _ ?_).symm
    show 256 * (grid0.coords t 1).val + r.val - 6 = 256 * (grid0.coords ⟨t.val - 1, lt_of_le_of_lt (Nat.sub_le _ _) t.isLt⟩ 1).val + (248 + r.val) + 2
    dsimp only at hp
    omega

theorem sh2_apply (t : Fin cfg0.N) (r : Fin 256) (l : Fin 1024) : (sh2 (halo m c t) (cur m c t) (ix2 r l) : EReal)
    = pastAt (argX m c) (argSh m c) (argSc m c) (argG m c) (argW m c) (bOf t) (256 * (qOf t).val + r.val) l := by
  by_cases h : r.val < 2
  · rw [sh2_pos _ _ r l h, halo_apply m c t _ (by show 6 ≤ 6 + r.val; omega)]
    congr 1
    show _ + (6 + r.val) - 6 = _
    omega
  · rw [sh2_neg _ _ r l h, cur_apply]
    refine (past_row m c _ _ _ _ ?_).symm
    show _ = 256 * (qOf t).val + (r.val - 2) + 2
    omega

theorem sh1_apply (t : Fin cfg0.N) (r : Fin 256) (l : Fin 1024) : (sh1 (halo m c t) (cur m c t) (ix2 r l) : EReal)
    = pastAt (argX m c) (argSh m c) (argSc m c) (argG m c) (argW m c) (bOf t) (1 + (256 * (qOf t).val + r.val)) l := by
  by_cases h : r.val < 1
  · rw [sh1_pos _ _ r l h, halo_apply m c t _ (by show 6 ≤ 7 + r.val; omega)]
    congr 1
    show _ + (7 + r.val) - 6 = _
    omega
  · rw [sh1_neg _ _ r l h, cur_apply]
    refine (past_row m c _ _ _ _ ?_).symm
    show _ = 256 * (qOf t).val + (r.val - 1) + 2
    omega

theorem outv_apply (t : Fin cfg0.N) (r : Fin 256) (l : Fin 1024) : (outv m c t (ix3 0 r l) : EReal)
    = entry (argX m c) (argSh m c) (argSc m c) (argGa m c) (argG m c) (argW m c) (argK m c) (argV m c) (bOf t) (rowOf t r) l := by
  refine (pay3_apply _ _ _ _ _ _ _ _ r l).trans ?_
  rw [pay4_apply, iblk0_apply, iblk3_apply]
  unfold entry
  refine congrArg₂ (· + ·) rfl (congrArg₂ (· * ·) rfl (Finset.sum_congr rfl fun x _ => ?_))
  have hs2 := sh2_apply m c t r x
  have hs1 := sh1_apply m c t r x
  have hs0 := (cur_apply m c t r x).trans (past_row m c (bOf t) (2 + (256 * (qOf t).val + r.val)) x (rowOf t r) (Nat.add_comm _ _)).symm
  unfold cur at hs2 hs1 hs0
  rw [hs2, hs1, hs0, pay6_apply, pr_apply, iblk6_apply, iblk6_apply, iblk6_apply, iblk7_apply]

theorem final : (dats m 0 c).arrAt 8 cfg0.N
    = whole (argX m c) (argSh m c) (argSc m c) (argGa m c) (argG m c) (argW m c) (argK m c) (argV m c) := by
  refine (dats m 0 c).arrAt_eq_of_covers 8 _ (by decide +kernel) fun t _ y => ?_
  blk_simp
  rw [after0_8]
  obtain ⟨r, d, rfl⟩ : ∃ (r : Fin 256) (d : Fin 1024), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (outv_apply m c t r d).trans ?_
  unfold whole
  congr 1 <;> (apply Fin.ext; blk_simp [idx t])
  · exact (Nat.add_zero _).symm
  · exact congrArg (· + r.val) (Nat.mul_comm _ _)

variable (ρ : Dev nD → PrngReg)

theorem run_blocks : θ_run defs (onTc (τ := τ) (main (F := Ideal))) ⟨m, fun _ => 0, ρ⟩ fun r => ∀ c : Dev nD,
      r.2.mem ((c : Thread nD τ).loc main_v5) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main m ρ)

end Cert.MixerIdeal.Value

namespace Cert.MixerRefIdeal.Value

open Idealize.ShloMosaic Idealize.ShloMosaic.TcCoe Idealize.SL.Sem
open Cert.MixerRefIdeal Cert.MixerRefIdeal.Gen
open Cert.MixerIdeal.Value (hAt prAt cuAt pastAt entry whole)

def hOut (X : FVec Ideal S8x8192x1024 .f32) (Sh Sc : FVec Ideal S8x1x1024 .f32) (G : FVec Ideal S1024 .f32) : FVec Ideal S8x8192x1024 .f32 :=
  addf (mulf (mulf (mulf X (broadcastInDim S8x8192x1024 ![0, 1, 2] bcast_S8x8192x1_S8x8192x1024_0_1_2
      (Host.rsqrt (addf (Host.divf (broadcastInDim S8x8192x1 ![0, 1] bcast_S8x8192_S8x8192x1_0_1
          (Host.reduceAdd (mulf X X) (constant (F := Ideal) S_ .f32 0x00000000#32) reducesTo_S8x8192x1024_S8x8192_d2 h_S_))
        (broadcastInDim S8x8192x1 ![] bcast_S_S8x8192x1 (constant (F := Ideal) S_ .f32 0x44800000#32)))
        (broadcastInDim S8x8192x1 ![] bcast_S_S8x8192x1 (constant (F := Ideal) S_ .f32 0x358637BD#32))))))
    (broadcastInDim S8x8192x1024 ![0, 1, 2] bcast_S1x1x1024_S8x8192x1024_0_1_2 (broadcastInDim S1x1x1024 ![2] bcast_S1024_S1x1x1024_2 G)))
    (broadcastInDim S8x8192x1024 ![0, 1, 2] bcast_S8x1x1024_S8x8192x1024_0_1_2 (addf (broadcastInDim S8x1x1024 ![] bcast_S_S8x1x1024 (constant (F := Ideal) S_ .f32 0x3F800000#32)) Sc)))
    (broadcastInDim S8x8192x1024 ![0, 1, 2] bcast_S8x1x1024_S8x8192x1024_0_1_2 Sh)

def pOut (H : FVec Ideal S8x8192x1024 .f32) (W : FVec Ideal S1024x3072 .f32) : FVec Ideal S8x8192x3072 .f32 :=
  Host.dotGeneral dot_S8x8192x1024_S1024x3072_S8x8192x3072_2_0_01_1_n_n none H W

def cuOut (P : FVec Ideal S8x8192x3072 .f32) : FVec Ideal S8x8192x1024 .f32 :=
  mulf (extractStridedSlice S8x8192x1024 ![0, 0, 1024] P slices_S8x8192x3072_S8x8192x1024_0_0_1024) (extractStridedSlice S8x8192x1024 ![0, 0, 2048] P slices_S8x8192x3072_S8x8192x1024_0_0_2048)

def pastOut (C : FVec Ideal S8x8192x1024 .f32) : FVec Ideal S8x8194x1024 .f32 :=
  pad S8x8194x1024 ![0, 2, 0] ![0, 0, 0] ![0, 0, 0] C (sitofp .f32 (constantI S_ 32 0#32) : FVec Ideal S_ .f32) pads_S8x8192x1024_S8x8194x1024_000_200_000 h_S_

def rowOut (o : Fin 2 → ℕ) (h : S3x1024.Slices o S1x1024) (K : FVec Ideal S3x1024 .f32) : FVec Ideal S8x8192x1024 .f32 :=
  broadcastInDim S8x8192x1024 ![0, 1, 2] bcast_S1x1x1024_S8x8192x1024_0_1_2 (broadcastInDim S1x1x1024 ![2] bcast_S1024_S1x1x1024_2 (shapeCast S1024 (extractStridedSlice S1x1024 o K h) shapeCasts_S1x1024_S1024))

def zOut (K : FVec Ideal S3x1024 .f32) (Q : FVec Ideal S8x8194x1024 .f32) : FVec Ideal S8x8192x1024 .f32 :=
  addf (addf (mulf (rowOut ![0, 0] slices_S3x1024_S1x1024_0_0 K) (extractStridedSlice S8x8192x1024 ![0, 0, 0] Q slices_S8x8194x1024_S8x8192x1024_0_0_0))
    (mulf (rowOut ![1, 0] slices_S3x1024_S1x1024_1_0 K) (extractStridedSlice S8x8192x1024 ![0, 1, 0] Q slices_S8x8194x1024_S8x8192x1024_0_1_0)))
    (mulf (rowOut ![2, 0] slices_S3x1024_S1x1024_2_0 K) (extractStridedSlice S8x8192x1024 ![0, 2, 0] Q slices_S8x8194x1024_S8x8192x1024_0_2_0))

def endOut (X : FVec Ideal S8x8192x1024 .f32) (Ga : FVec Ideal S8x1x1024 .f32) (P : FVec Ideal S8x8192x3072 .f32) (Z : FVec Ideal S8x8192x1024 .f32) (W2 : FVec Ideal S1024x1024 .f32) : FVec Ideal S8x8192x1024 .f32 :=
  addf X (mulf (broadcastInDim S8x8192x1024 ![0, 1, 2] bcast_S8x1x1024_S8x8192x1024_0_1_2 (addf (broadcastInDim S8x1x1024 ![] bcast_S_S8x1x1024 (constant (F := Ideal) S_ .f32 0x3F800000#32)) Ga))
    (Host.dotGeneral dot_S8x8192x1024_S1024x1024_S8x8192x1024_2_0_01_1_n_n none (mulf (extractStridedSlice S8x8192x1024 ![0, 0, 0] P slices_S8x8192x3072_S8x8192x1024_0_0_0) Z) W2))

def out (X : FVec Ideal S8x8192x1024 .f32) (Sh Sc Ga : FVec Ideal S8x1x1024 .f32) (G : FVec Ideal S1024 .f32) (W : FVec Ideal S1024x3072 .f32) (K : FVec Ideal S3x1024 .f32)
    (W2 : FVec Ideal S1024x1024 .f32) : FVec Ideal S8x8192x1024 .f32 :=
  endOut X Ga (pOut (hOut X Sh Sc G) W) (zOut K (pastOut (cuOut (pOut (hOut X Sh Sc G) W)))) W2

variable (m : (ℓ : Loc nD τ sig) → Buf (Elt Ideal) ℓ) (c : Dev nD)
theorem res_eq : res_main_v51 (F := Ideal) m c = out (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := rfl

theorem hOut_apply (X : FVec Ideal S8x8192x1024 .f32) (Sh Sc : FVec Ideal S8x1x1024 .f32) (G : FVec Ideal S1024 .f32) (b : Fin 8) (t : Fin 8192) (d : Fin 1024) :
    (hOut X Sh Sc G (ix3 b t d) : EReal) = hAt X Sh Sc G b t d := by
  unfold hAt
  pointwise [hOut]

theorem pOut_apply (H : FVec Ideal S8x8192x1024 .f32) (W : FVec Ideal S1024x3072 .f32) (b : Fin 8) (t : Fin 8192) (j : Fin 3072) :
    (pOut H W (ix3 b t j) : EReal) = ∑ d : Fin 1024, (H (ix3 b t d) : EReal) * (W (ix2 d j) : EReal) := by
  pointwise [pOut]

theorem cuOut_apply (P : FVec Ideal S8x8192x3072 .f32) (b : Fin 8) (t : Fin 8192) (l : Fin 1024) :
    (cuOut P (ix3 b t l) : EReal) = (P (ix3 b t ⟨1024 + l.val, by omega⟩) : EReal) * (P (ix3 b t ⟨2048 + l.val, by omega⟩) : EReal) := by
  pointwise [cuOut]

theorem zero_int : (FloatOps.sitofp (F := Ideal) FTy.f32 (0#32 : BitVec 32) : EReal) = 0 := by
  show (((0#32 : BitVec 32).toInt : ℝ) : EReal) = 0
  simp

theorem pastOut_apply (C : FVec Ideal S8x8192x1024 .f32) (b : Fin 8) (t : Fin 8194) (d : Fin 1024) :
    (pastOut C (ix3 b t d) : EReal) = if h : 2 ≤ t.val ∧ t.val - 2 < 8192 then (C (ix3 b ⟨t.val - 2, h.2⟩ d) : EReal) else 0 := by
  rw [← zero_int]
  pointwise [pastOut]

theorem zOut_apply (K : FVec Ideal S3x1024 .f32) (C : FVec Ideal S8x8194x1024 .f32) (b : Fin 8) (t : Fin 8192) (d : Fin 1024) :
    (zOut K C (ix3 b t d) : EReal) = (K (ix2 0 d) : EReal) * (C (ix3 b ⟨t.val, by omega⟩ d) : EReal) + (K (ix2 1 d) : EReal) * (C (ix3 b ⟨1 + t.val, by omega⟩ d) : EReal)
      + (K (ix2 2 d) : EReal) * (C (ix3 b ⟨2 + t.val, by omega⟩ d) : EReal) := by
  pointwise [zOut, rowOut]

theorem endOut_apply (X : FVec Ideal S8x8192x1024 .f32) (Ga : FVec Ideal S8x1x1024 .f32) (P : FVec Ideal S8x8192x3072 .f32) (Z : FVec Ideal S8x8192x1024 .f32) (W2 : FVec Ideal S1024x1024 .f32)
    (b : Fin 8) (t : Fin 8192) (l : Fin 1024) : (endOut X Ga P Z W2 (ix3 b t l) : EReal)
    = (X (ix3 b t l) : EReal) + (1 + (Ga (ix3 b 0 l) : EReal)) * ∑ x : Fin 1024, (P (ix3 b t ⟨x.val, by omega⟩) : EReal) * (Z (ix3 b t x) : EReal) * (W2 (ix2 x l) : EReal) := by
  pointwise [endOut]

theorem pr_eq (X : FVec Ideal S8x8192x1024 .f32) (Sh Sc : FVec Ideal S8x1x1024 .f32) (G : FVec Ideal S1024 .f32) (W : FVec Ideal S1024x3072 .f32)
    (b : Fin 8) (t : Fin 8192) (j : Fin 3072) : (pOut (hOut X Sh Sc G) W (ix3 b t j) : EReal) = prAt X Sh Sc G W b t j :=
  (pOut_apply _ _ b t j).trans (Finset.sum_congr rfl fun d _ => congrArg₂ (· * ·) (hOut_apply X Sh Sc G b t d) rfl)

theorem cu_eq (X : FVec Ideal S8x8192x1024 .f32) (Sh Sc : FVec Ideal S8x1x1024 .f32) (G : FVec Ideal S1024 .f32) (W : FVec Ideal S1024x3072 .f32)
    (b : Fin 8) (t : Fin 8192) (l : Fin 1024) : (cuOut (pOut (hOut X Sh Sc G) W) (ix3 b t l) : EReal) = cuAt X Sh Sc G W b t l :=
  (cuOut_apply _ b t l).trans (congrArg₂ (· * ·) (pr_eq X Sh Sc G W b t _) (pr_eq X Sh Sc G W b t _))

theorem past_eq (X : FVec Ideal S8x8192x1024 .f32) (Sh Sc : FVec Ideal S8x1x1024 .f32) (G : FVec Ideal S1024 .f32) (W : FVec Ideal S1024x3072 .f32)
    (b : Fin 8) (t : Fin 8194) (l : Fin 1024) : (pastOut (cuOut (pOut (hOut X Sh Sc G) W)) (ix3 b t l) : EReal) = pastAt X Sh Sc G W b t.val l := by
  refine (pastOut_apply _ b t l).trans ?_
  unfold pastAt
  by_cases h : 2 ≤ t.val ∧ t.val - 2 < 8192
  · rw [dif_pos h, dif_pos h]; exact cu_eq X Sh Sc G W b _ l
  · rw [dif_neg h, dif_neg h]

theorem out_apply (X : FVec Ideal S8x8192x1024 .f32) (Sh Sc Ga : FVec Ideal S8x1x1024 .f32) (G : FVec Ideal S1024 .f32) (W : FVec Ideal S1024x3072 .f32) (K : FVec Ideal S3x1024 .f32)
    (W2 : FVec Ideal S1024x1024 .f32)
    (b : Fin 8) (t : Fin 8192) (l : Fin 1024) : (out X Sh Sc Ga G W K W2 (ix3 b t l) : EReal) = entry X Sh Sc Ga G W K W2 b t l := by
  refine (endOut_apply _ _ _ _ _ b t l).trans ?_
  unfold entry
  refine congrArg₂ (· + ·) rfl (congrArg₂ (· * ·) rfl (Finset.sum_congr rfl fun x _ => ?_))
  rw [pr_eq, zOut_apply, past_eq, past_eq, past_eq]

theorem whole_eq (X : FVec Ideal S8x8192x1024 .f32) (Sh Sc Ga : FVec Ideal S8x1x1024 .f32) (G : FVec Ideal S1024 .f32) (W : FVec Ideal S1024x3072 .f32) (K : FVec Ideal S3x1024 .f32)
    (W2 : FVec Ideal S1024x1024 .f32) :
    out X Sh Sc Ga G W K W2 = whole X Sh Sc Ga G W K W2 := by
  funext i
  obtain ⟨b, t, l, rfl⟩ : ∃ (b : Fin 8) (t : Fin 8192) (l : Fin 1024), i = ix3 b t l := ⟨i 0, i 1, i 2, by
    funext a
    match a with
    | ⟨0, _⟩ => rfl
    | ⟨1, _⟩ => rfl
    | ⟨2, _⟩ => rfl⟩
  exact out_apply X Sh Sc Ga G W K W2 b t l

end Cert.MixerRefIdeal.Value

end
-- ==== Proof.Soft.lean ====
/- The softmax of one row taken block by block (a running maximum, a running sum and a running weighted sum, each
   rescaled when the maximum moves) against the softmax of the whole row, over the extended reals. -/
module

public import Idealize.ShloMosaic.PureOps.Ideal
public import Mathlib.Data.EReal.Operations
public import Mathlib.Data.EReal.Inv
public import Mathlib.Analysis.SpecialFunctions.Pow.Real

@[expose] public section

noncomputable section

namespace Cert.Soft

open Idealize.ShloMosaic

/-- The largest of the 512 logits of block `n`. -/
def blockMax (a : ℕ → EReal) (n : ℕ) : EReal := (Finset.univ : Finset (Fin 512)).fold max ⊥ fun j => a (512 * n + j.val)

/-- The running maximum after `n` blocks. -/
def mAt (a : ℕ → EReal) : ℕ → EReal
  | 0 => ⊥
  | n + 1 => max (mAt a n) (blockMax a n)

/-- The running sum after `n` blocks. -/
def lAt (a : ℕ → EReal) : ℕ → EReal
  | 0 => 0
  | n + 1 => Ideal.exp2 (mAt a n - mAt a (n + 1)) * lAt a n
      + ∑ j : Fin 512, Ideal.exp2 (a (512 * n + j.val) - mAt a (n + 1))

/-- The running weighted sum after `n` blocks. -/
def accAt (a v : ℕ → EReal) : ℕ → EReal
  | 0 => 0
  | n + 1 => Ideal.exp2 (mAt a n - mAt a (n + 1)) * accAt a v n
      + ∑ j : Fin 512, Ideal.exp2 (a (512 * n + j.val) - mAt a (n + 1)) * v (512 * n + j.val)

theorem exp2_nonneg (x : EReal) : 0 ≤ Ideal.exp2 x := by
  induction x with
  | bot => simp
  | top => simp
  | coe r => simpa using (Real.rpow_pos_of_pos (by norm_num : (0 : ℝ) < 2) r).le

theorem exp2_ne_top {x : EReal} (h : x ≠ ⊤) : Ideal.exp2 x ≠ ⊤ := by
  induction x with
  | bot => simp
  | top => exact absurd rfl h
  | coe r => simp

/-- Rescaling a weight from one maximum to a later one. -/
theorem exp2_rescale {a m m' : EReal} (h : a ≤ m) (h' : m ≤ m') (ht : m' ≠ ⊤) :
    Ideal.exp2 (m - m') * Ideal.exp2 (a - m) = Ideal.exp2 (a - m') := by
  induction a with
  | bot => simp
  | top => exact absurd (top_le_iff.mp (h.trans h')) ht
  | coe a =>
    induction m with
    | bot => exact absurd (le_bot_iff.mp h) (EReal.coe_ne_bot a)
    | top => exact absurd (top_le_iff.mp h') ht
    | coe m =>
      induction m' with
      | bot => exact absurd (le_bot_iff.mp h') (EReal.coe_ne_bot m)
      | top => exact absurd rfl ht
      | coe m' =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (a - m) = (2 : ℝ) ^ (a - m')
        rw [← Real.rpow_add (by norm_num)]
        congr 1
        ring

theorem sub_ne_top {a m : EReal} (ha : a ≠ ⊤) (h : a ≤ m) : a - m ≠ ⊤ := by
  induction a with
  | bot => simp
  | top => exact absurd rfl ha
  | coe a =>
    induction m with
    | bot => exact absurd (le_bot_iff.mp h) (EReal.coe_ne_bot a)
    | top => simp
    | coe m => rw [← EReal.coe_sub]; exact EReal.coe_ne_top _

/-- A finite nonnegative factor goes into a sum. -/
theorem mul_sum_of_nonneg {ι : Type*} {c : EReal} (hc : 0 ≤ c) (hc' : c ≠ ⊤) (s : Finset ι) (f : ι → EReal) :
    c * ∑ k ∈ s, f k = ∑ k ∈ s, c * f k := by
  classical
  induction s using Finset.induction_on with
  | empty => simp
  | insert x s hx ih => rw [Finset.sum_insert hx, Finset.sum_insert hx, EReal.left_distrib_of_nonneg_of_ne_top hc hc', ih]

theorem blockMax_le_iff (a : ℕ → EReal) (n : ℕ) (c : EReal) : blockMax a n ≤ c ↔ ∀ j : Fin 512, a (512 * n + j.val) ≤ c := by
  unfold blockMax
  rw [Finset.fold_max_le]
  simp

theorem mAt_mono (a : ℕ → EReal) (n : ℕ) : mAt a n ≤ mAt a (n + 1) := le_max_left _ _

theorem mAt_le_iff (a : ℕ → EReal) (c : EReal) : ∀ n, mAt a n ≤ c ↔ ∀ k < 512 * n, a k ≤ c
  | 0 => by simp [mAt]
  | n + 1 => by
    rw [mAt, max_le_iff, mAt_le_iff a c n, blockMax_le_iff]
    constructor
    · rintro ⟨h, h'⟩ k hk
      rcases Nat.lt_or_ge k (512 * n) with hlt | hge
      · exact h k hlt
      · have := h' ⟨k - 512 * n, by omega⟩
        simpa [Nat.add_sub_cancel' hge] using this
    · intro h
      exact ⟨fun k hk => h k (by omega), fun j => h _ (by have := j.isLt; omega)⟩

theorem le_mAt (a : ℕ → EReal) {n k : ℕ} (hk : k < 512 * n) : a k ≤ mAt a n := (mAt_le_iff a _ n).mp le_rfl k hk

theorem mAt_ne_top (a : ℕ → EReal) (ha : ∀ k, a k ≠ ⊤) : ∀ n, mAt a n ≠ ⊤
  | 0 => by simp [mAt]
  | n + 1 => by
    have h : blockMax a n < ⊤ := by
      unfold blockMax
      rw [Finset.fold_max_lt]
      exact ⟨bot_lt_top, fun j _ => lt_top_iff_ne_top.mpr (ha _)⟩
    exact (max_lt (lt_top_iff_ne_top.mpr (mAt_ne_top a ha n)) h).ne

/-- A sum over the first `512 (n + 1)` keys is the sum over the first `512 n` and the sum over block `n`. -/
theorem sum_range_block (f : ℕ → EReal) (n : ℕ) :
    ∑ k ∈ Finset.range (512 * (n + 1)), f k = ∑ k ∈ Finset.range (512 * n), f k + ∑ j : Fin 512, f (512 * n + j.val) := by
  rw [show 512 * (n + 1) = 512 * n + 512 by ring, Finset.sum_range_add, Finset.sum_range fun x => f (512 * n + x)]

/-- THE RUNNING SUMS IN CLOSED FORM: the weighted sum after `n` blocks is the sum over the keys so far of their weights
    against the maximum so far. -/
theorem accAt_eq (a v : ℕ → EReal) (ha : ∀ k, a k ≠ ⊤) :
    ∀ n, accAt a v n = ∑ k ∈ Finset.range (512 * n), Ideal.exp2 (a k - mAt a n) * v k
  | 0 => by simp [accAt]
  | n + 1 => by
    rw [accAt, accAt_eq a v ha n, sum_range_block]
    congr 1
    rw [mul_sum_of_nonneg (exp2_nonneg _)]
    · refine Finset.sum_congr rfl fun k hk => ?_
      rw [← mul_assoc, exp2_rescale (le_mAt a (Finset.mem_range.mp hk)) (mAt_mono a n) (mAt_ne_top a ha _)]
    · exact exp2_ne_top (sub_ne_top (mAt_ne_top a ha n) (mAt_mono a n))

/-- The running sum is the weighted sum of ones. -/
theorem lAt_eq_accAt (a : ℕ → EReal) : ∀ n, lAt a n = accAt a (fun _ => 1) n
  | 0 => rfl
  | n + 1 => by rw [lAt, accAt, lAt_eq_accAt a n]; simp only [mul_one]

theorem lAt_eq (a : ℕ → EReal) (ha : ∀ k, a k ≠ ⊤) (n : ℕ) :
    lAt a n = ∑ k ∈ Finset.range (512 * n), Ideal.exp2 (a k - mAt a n) := by
  rw [lAt_eq_accAt, accAt_eq a _ ha]; simp only [mul_one]

/-- The maximum is some key's logit, a real number, once one key is. -/
theorem exists_mAt (a : ℕ → EReal) (ha : ∀ k, a k ≠ ⊤) {n k₀ : ℕ} (hk : k₀ < 512 * n) (h₀ : a k₀ ≠ ⊥) :
    ∃ M : ℝ, mAt a n = M := by
  have h1 : mAt a n ≠ ⊥ := fun h => h₀ (le_bot_iff.mp (h ▸ le_mAt a hk))
  exact ⟨(mAt a n).toReal, (EReal.coe_toReal (mAt_ne_top a ha n) h1).symm⟩

theorem sum_exp2_ne_top {ι : Type*} (s : Finset ι) (f : ι → EReal) (h : ∀ k ∈ s, f k ≠ ⊤) :
    ∑ k ∈ s, Ideal.exp2 (f k) ≠ ⊤ := by
  classical
  induction s using Finset.induction_on with
  | empty => simp
  | insert x s hx ih =>
    rw [Finset.sum_insert hx]
    exact EReal.add_ne_top (exp2_ne_top (h _ (Finset.mem_insert_self ..))) (ih fun k hk => h k (Finset.mem_insert_of_mem hk))

/-- The running sum is a positive real number once one key's logit is a real number. -/
theorem exists_lAt (a : ℕ → EReal) (ha : ∀ k, a k ≠ ⊤) {n k₀ : ℕ} (hk : k₀ < 512 * n) (h₀ : a k₀ ≠ ⊥) :
    ∃ L : ℝ, 0 < L ∧ lAt a n = L := by
  obtain ⟨M, hM⟩ := exists_mAt a ha hk h₀
  have hne : lAt a n ≠ ⊤ := by
    rw [lAt_eq a ha]
    exact sum_exp2_ne_top _ _ fun k hk => sub_ne_top (ha k) (le_mAt a (Finset.mem_range.mp hk))
  have hpos : 0 < lAt a n := by
    rw [lAt_eq a ha]
    refine lt_of_lt_of_le ?_ (Finset.single_le_sum (f := fun k => Ideal.exp2 (a k - mAt a n)) (fun k _ => exp2_nonneg _) (Finset.mem_range.mpr hk))
    show 0 < Ideal.exp2 (a k₀ - mAt a n)
    rw [hM, ← EReal.coe_toReal (ha k₀) h₀, ← EReal.coe_sub, Ideal.exp2_coe]
    exact EReal.coe_pos.mpr (Real.rpow_pos_of_pos (by norm_num) _)
  refine ⟨(lAt a n).toReal, ?_, (EReal.coe_toReal hne hpos.ne_bot).symm⟩
  exact EReal.toReal_pos hpos hne

/-! ## Against the softmax of the whole row in base e -/

theorem exp_mul_log_two {a : EReal} (ha : a ≠ ⊤) (M : ℝ) :
    Ideal.exp (a * (Real.log 2 : ℝ) - (M : EReal) * (Real.log 2 : ℝ)) = Ideal.exp2 (a - M) := by
  have hl : (0 : ℝ) < Real.log 2 := Real.log_pos (by norm_num)
  induction a with
  | bot =>
    rw [EReal.bot_mul_coe_of_pos hl]
    simp
  | top => exact absurd rfl ha
  | coe a =>
    rw [← EReal.coe_mul, ← EReal.coe_mul, ← EReal.coe_sub, ← EReal.coe_sub, Ideal.exp_coe, Ideal.exp2_coe]
    congr 1
    show Real.exp (a * Real.log 2 - M * Real.log 2) = (2 : ℝ) ^ (a - M)
    rw [Real.rpow_def_of_pos (by norm_num)]
    congr 1
    ring

/-- The largest of the first `K` logits in base e, the keys past block `n` masked away, is the running maximum scaled. -/
theorem fold_max_mul_log_two (a : ℕ → EReal) {n K : ℕ} (hK : 512 * n ≤ K) (hz : ∀ k, 512 * n ≤ k → a k = ⊥) {M : ℝ} (hM : mAt a n = M) :
    (Finset.univ : Finset (Fin K)).fold max ⊥ (fun k => a k.val * ((Real.log 2 : ℝ) : EReal)) = (M : EReal) * ((Real.log 2 : ℝ) : EReal) := by
  have hl : (0 : ℝ) < Real.log 2 := Real.log_pos (by norm_num)
  have hl' : (0 : EReal) ≤ ((Real.log 2 : ℝ) : EReal) := EReal.coe_nonneg.mpr hl.le
  refine le_antisymm ?_ ?_
  · rw [Finset.fold_max_le]
    refine ⟨bot_le, fun k _ => ?_⟩
    rcases Nat.lt_or_ge k.val (512 * n) with h | h
    · exact mul_le_mul_of_nonneg_right (hM ▸ le_mAt a h) hl'
    · rw [hz _ h, EReal.bot_mul_coe_of_pos hl]; exact bot_le
  · set F := (Finset.univ : Finset (Fin K)).fold max ⊥ (fun k => a k.val * ((Real.log 2 : ℝ) : EReal)) with hF
    have hle : ∀ k : Fin K, a k.val * ((Real.log 2 : ℝ) : EReal) ≤ F := fun k =>
      (Finset.fold_max_le (s := (Finset.univ : Finset (Fin K))) (c := F)).mp le_rfl |>.2 k (Finset.mem_univ k)
    have h1 : mAt a n ≤ F * ((Real.log 2)⁻¹ : ℝ) := by
      rw [mAt_le_iff]
      intro k hk
      have := mul_le_mul_of_nonneg_right (hle ⟨k, by omega⟩) (EReal.coe_nonneg.mpr (inv_nonneg.mpr hl.le))
      rwa [mul_assoc, ← EReal.coe_mul, mul_inv_cancel₀ hl.ne', EReal.coe_one, mul_one] at this
    have := mul_le_mul_of_nonneg_right h1 hl'
    rwa [mul_assoc, ← EReal.coe_mul, inv_mul_cancel₀ hl.ne', EReal.coe_one, mul_one, hM] at this

theorem div_eq {x : EReal} {L : ℝ} (hL : 0 < L) : Ideal.div x (L : EReal) = x * ((L⁻¹ : ℝ) : EReal) := by
  have h : (L : EReal) ≠ 0 := fun h => hL.ne' (EReal.coe_eq_zero.mp h)
  unfold Ideal.div
  rw [if_neg h, EReal.coe_inv]

/-- A sum over all `K` keys of terms that vanish past block `n` is the sum over the first `512 n`. -/
theorem sum_fin_eq (f : ℕ → EReal) {n K : ℕ} (hK : 512 * n ≤ K) (hf : ∀ k, 512 * n ≤ k → f k = 0) :
    ∑ k : Fin K, f k.val = ∑ k ∈ Finset.range (512 * n), f k := by
  rw [← Finset.sum_range fun k => f k]
  symm
  refine Finset.sum_subset (fun k hk => Finset.mem_range.mpr (lt_of_lt_of_le (Finset.mem_range.mp hk) hK)) fun k _ hk => hf k ?_
  exact Nat.le_of_not_lt fun h => hk (Finset.mem_range.mpr h)

/-- THE ROW: the weighted sum over the sum after `n` blocks is the softmax-weighted sum of the values over all `K` keys. -/
theorem row_eq (a v : ℕ → EReal) (ha : ∀ k, a k ≠ ⊤) {n k₀ K : ℕ} (hk : k₀ < 512 * n) (h₀ : a k₀ ≠ ⊥)
    (hK : 512 * n ≤ K) (hz : ∀ k, 512 * n ≤ k → a k = ⊥) (F : EReal)
    (hF : F = (Finset.univ : Finset (Fin K)).fold max ⊥ (fun k => a k.val * ((Real.log 2 : ℝ) : EReal))) :
    Ideal.div (accAt a v n) (lAt a n)
      = ∑ k : Fin K, Ideal.div (Ideal.exp (a k.val * ((Real.log 2 : ℝ) : EReal) - F))
          (∑ k' : Fin K, Ideal.exp (a k'.val * ((Real.log 2 : ℝ) : EReal) - F)) * v k.val := by
  obtain ⟨M, hM⟩ := exists_mAt a ha hk h₀
  obtain ⟨L, hL, hLe⟩ := exists_lAt a ha hk h₀
  rw [fold_max_mul_log_two a hK hz hM] at hF
  subst hF
  have he : ∀ k, Ideal.exp (a k * ((Real.log 2 : ℝ) : EReal) - (M : EReal) * ((Real.log 2 : ℝ) : EReal)) = Ideal.exp2 (a k - M) :=
    fun k => exp_mul_log_two (ha k) M
  have hs : ∑ k' : Fin K, Ideal.exp (a k'.val * ((Real.log 2 : ℝ) : EReal) - (M : EReal) * ((Real.log 2 : ℝ) : EReal)) = L := by
    rw [← hLe, lAt_eq a ha, hM, ← sum_fin_eq _ hK]
    · exact Finset.sum_congr rfl fun k _ => he k
    · intro k hk; rw [hz k hk]; simp
  rw [hs]
  have hc : (0 : EReal) ≤ ((L⁻¹ : ℝ) : EReal) := EReal.coe_nonneg.mpr (inv_nonneg.mpr hL.le)
  rw [hLe, div_eq hL, accAt_eq a v ha, hM, mul_comm, mul_sum_of_nonneg hc (EReal.coe_ne_top _)]
  rw [← sum_fin_eq (fun k => ((L⁻¹ : ℝ) : EReal) * (Ideal.exp2 (a k - M) * v k)) hK]
  · refine Finset.sum_congr rfl fun k _ => ?_
    rw [he, div_eq hL, ← mul_assoc, mul_comm ((L⁻¹ : ℝ) : EReal)]
  · intro k hk; rw [hz k hk]; simp

end Cert.Soft

end
-- ==== Proof.Block.lean ====
/- One block of 512 keys in the attention kernel: the new maximum, the rescaling factor, the weights, the new sum and
   the new weighted sum, as vector terms, and each read at a row. -/
module

public import proofs.«01_k».proof.Proof.Gen.FoxIdeal.Value
public import proofs.«01_k».proof.Proof.Soft
public import Idealize.ShloMosaic.Lib.Pipeline.ValueKit
public import Idealize.ShloMosaic.Lib.MatmulPlain

@[expose] public section

noncomputable section

namespace Cert.FoxIdeal.Value

open Idealize.ShloMosaic Idealize.ShloMosaic.TcCoe Idealize.SL.Sem
open Cert.FoxIdeal Cert.FoxIdeal.Gen Cert.Soft

/-- The maximum so far of the rows of one head, the block's logits `s` taken in. -/
def gMax (s : FVec Ideal S512x512 .f32) (m : FVec Ideal S512x128 .f32) : FVec Ideal S512x128 .f32 :=
  maximumf m (broadcastTo S512x128 (shapeCast S512x1 (multiReduction .maximumf [1] S512 s 0xFF800000#32 reduces_S512x512_S512 (.inl rfl) rfl)
    shapeCasts_S512_S512x1) broadcasts_S512x1_S512x128)

/-- The factor that rescales the sums so far. -/
def gAlpha (s : FVec Ideal S512x512 .f32) (m : FVec Ideal S512x128 .f32) : FVec Ideal S512x128 .f32 := exp2 (subf m (gMax s m))

/-- The block's weights. -/
def gP (s : FVec Ideal S512x512 .f32) (m : FVec Ideal S512x128 .f32) : FVec Ideal S512x512 .f32 :=
  exp2 (subf s (concatenate S512x512 1 [⟨S512x128, gMax s m⟩, ⟨S512x128, gMax s m⟩, ⟨S512x128, gMax s m⟩, ⟨S512x128, gMax s m⟩]
    concatenates_S512x128_S512x128_S512x128_S512x128_S512x512_d1))

/-- The sum so far, the block's weights taken in. -/
def gSum (s : FVec Ideal S512x512 .f32) (m l : FVec Ideal S512x128 .f32) : FVec Ideal S512x128 .f32 :=
  addf (mulf (gAlpha s m) l) (broadcastTo S512x128 (shapeCast S512x1 (multiReduction .add [1] S512 (gP s m) 0x00000000#32 reduces_S512x512_S512 (.inl rfl) rfl)
    shapeCasts_S512_S512x1) broadcasts_S512x1_S512x128)

/-- The weights of both heads against the block's values. -/
def gPv (vb : FVec Ideal S512x128 .bf16) (p0 p1 : FVec Ideal S512x512 .f32) : FVec Ideal S1024x128 .f32 :=
  matmul dot_S1024x512_S512x128_S1024x128_1_0_0_1_n_n none
    (concatenate S1024x512 0 [⟨S512x512, truncf .bf16 p0 bitsLt_bf16_f32⟩, ⟨S512x512, truncf .bf16 p1 bitsLt_bf16_f32⟩] concatenates_S512x512_S512x512_S1024x512_d0)
    vb (constant S1024x128 .f32 0x00000000#32)

/-- The weighted sum so far, the block taken in. -/
def gAcc (vb : FVec Ideal S512x128 .bf16) (s0 s1 : FVec Ideal S512x512 .f32) (m0 m1 : FVec Ideal S512x128 .f32) (acc : FVec Ideal S1024x128 .f32) :
    FVec Ideal S1024x128 .f32 :=
  addf (mulf (concatenate S1024x128 0 [⟨S512x128, gAlpha s0 m0⟩, ⟨S512x128, gAlpha s1 m1⟩] concatenates_S512x128_S512x128_S1024x128_d0) acc)
    (gPv vb (gP s0 m0) (gP s1 m1))

/-- The largest logit of a row of the block. -/
def rowMax (s : FVec Ideal S512x512 .f32) (r : Fin 512) : EReal :=
  (Finset.univ : Finset (Fin 512)).fold max ⊥ fun j => (s (ix2 r j) : EReal)

theorem ofBits_neg_inf : Ideal.ofBits .f32 0xFF800000#32 = ⊥ := by simp [Ideal.ofBits, Ideal.ieee]

theorem multiMax_apply (s : FVec Ideal S512x512 .f32) (r : Fin 512) :
    multiReduction .maximumf [1] S512 s 0xFF800000#32 reduces_S512x512_S512 (.inl rfl) rfl (ix1 r) = rowMax s r := by
  refine (Ideal.multiReduction_maximumf_single s _ reduces_S512x512_S512 (.inl rfl) rfl (ix1 r)).trans ?_
  show Finset.univ.fold max (Ideal.ofBits .f32 0xFF800000#32) _ = _
  rw [ofBits_neg_inf]
  unfold rowMax
  congr 1
  funext j
  show s _ = s _
  congr 1
  funext a; apply Fin.ext
  match a with
  | ⟨0, _⟩ => rfl
  | ⟨1, _⟩ => rfl

theorem multiSum_apply (s : FVec Ideal S512x512 .f32) (r : Fin 512) :
    multiReduction .add [1] S512 s 0x00000000#32 reduces_S512x512_S512 (.inl rfl) rfl (ix1 r) = ∑ j : Fin 512, (s (ix2 r j) : EReal) := by
  refine (Ideal.multiReduction_add_single s _ reduces_S512x512_S512 (.inl rfl) rfl (ix1 r)).trans ?_
  refine Finset.sum_congr rfl fun j _ => ?_
  show s _ = s _
  congr 1
  funext a; apply Fin.ext
  match a with
  | ⟨0, _⟩ => rfl
  | ⟨1, _⟩ => rfl

/-- A column broadcast along the lanes, read at a row. -/
theorem col_apply (x : FVec Ideal S512 .f32) (r : Fin 512) (c : Fin 128) :
    broadcastTo S512x128 (shapeCast S512x1 x shapeCasts_S512_S512x1) broadcasts_S512x1_S512x128 (ix2 r c) = x (ix1 r) := by
  pointwise

theorem gMax_apply (s : FVec Ideal S512x512 .f32) (m : FVec Ideal S512x128 .f32) (r : Fin 512) (c : Fin 128) :
    (gMax s m (ix2 r c) : EReal) = max (m (ix2 r c) : EReal) (rowMax s r) := by
  unfold gMax
  show max (m (ix2 r c) : EReal) _ = _
  rw [col_apply, multiMax_apply]

theorem gAlpha_apply (s : FVec Ideal S512x512 .f32) (m : FVec Ideal S512x128 .f32) (r : Fin 512) (c : Fin 128) :
    (gAlpha s m (ix2 r c) : EReal) = Ideal.exp2 ((m (ix2 r c) : EReal) - max (m (ix2 r c) : EReal) (rowMax s r)) := by
  unfold gAlpha
  show Ideal.exp2 ((m (ix2 r c) : EReal) - gMax s m (ix2 r c)) = _
  rw [gMax_apply]

/-- Four copies of a lane vector side by side, read at a column: the vector at the column's lane. -/
theorem rep_apply (x : FVec Ideal S512x128 .f32) (r : Fin 512) (j : Fin 512) :
    concatenate S512x512 1 [⟨S512x128, x⟩, ⟨S512x128, x⟩, ⟨S512x128, x⟩, ⟨S512x128, x⟩]
      concatenates_S512x128_S512x128_S512x128_S512x128_S512x512_d1 (ix2 r j) = x (ix2 r ⟨j.val % 128, Nat.mod_lt _ (by decide)⟩) := by
  pointwise
  split_ifs with h1 h2 h3 <;>
    exact congrArg (fun k : Fin 128 => x (ix2 r k)) (Fin.ext (by have := j.isLt; show (_ : ℕ) = j.val % 128; dsimp only; omega))

theorem gP_apply (s : FVec Ideal S512x512 .f32) (m : FVec Ideal S512x128 .f32) (mv : Fin 512 → EReal) (hm : ∀ r c, m (ix2 r c) = mv r)
    (r j : Fin 512) : (gP s m (ix2 r j) : EReal) = Ideal.exp2 ((s (ix2 r j) : EReal) - max (mv r) (rowMax s r)) := by
  unfold gP
  show Ideal.exp2 ((s (ix2 r j) : EReal) - concatenate S512x512 1 _ _ (ix2 r j)) = _
  rw [rep_apply, gMax_apply, hm]

theorem gSum_apply (s : FVec Ideal S512x512 .f32) (m l : FVec Ideal S512x128 .f32) (mv : Fin 512 → EReal) (hm : ∀ r c, m (ix2 r c) = mv r)
    (r : Fin 512) (c : Fin 128) : (gSum s m l (ix2 r c) : EReal)
      = Ideal.exp2 (mv r - max (mv r) (rowMax s r)) * (l (ix2 r c) : EReal)
        + ∑ j : Fin 512, Ideal.exp2 ((s (ix2 r j) : EReal) - max (mv r) (rowMax s r)) := by
  unfold gSum
  show (gAlpha s m (ix2 r c) : EReal) * (l (ix2 r c) : EReal) + _ = _
  rw [col_apply, multiSum_apply, gAlpha_apply, hm]
  congr 1
  exact Finset.sum_congr rfl fun j _ => gP_apply s m mv hm r j

/-- The product of the stacked weights with the values, read at a row of the first head. -/
theorem gPv_apply₀ (vb : FVec Ideal S512x128 .bf16) (p0 p1 : FVec Ideal S512x512 .f32) (r : Fin 512) (c : Fin 128) :
    (gPv vb p0 p1 (ix2 ⟨r.val, by omega⟩ c) : EReal) = ∑ j : Fin 512, (p0 (ix2 r j) : EReal) * (vb (ix2 j c) : EReal) := by
  unfold gPv
  refine (Ideal.matmul_plain_apply (M := 1024) (K := 512) (N := 128) none _ _ _ _ _).trans ?_
  show Ideal.ofBits .f32 0x00000000#32 + _ = _
  rw [Ideal.ofBits_zero_f32, zero_add]
  refine Finset.sum_congr rfl fun j _ => ?_
  congr 1
  pointwise

/-- The same at a row of the second head. -/
theorem gPv_apply₁ (vb : FVec Ideal S512x128 .bf16) (p0 p1 : FVec Ideal S512x512 .f32) (r : Fin 512) (c : Fin 128) :
    (gPv vb p0 p1 (ix2 ⟨512 + r.val, by omega⟩ c) : EReal) = ∑ j : Fin 512, (p1 (ix2 r j) : EReal) * (vb (ix2 j c) : EReal) := by
  unfold gPv
  refine (Ideal.matmul_plain_apply (M := 1024) (K := 512) (N := 128) none _ _ _ _ _).trans ?_
  show Ideal.ofBits .f32 0x00000000#32 + _ = _
  rw [Ideal.ofBits_zero_f32, zero_add]
  refine Finset.sum_congr rfl fun j _ => ?_
  congr 1
  pointwise

theorem gAcc_apply₀ (vb : FVec Ideal S512x128 .bf16) (s0 s1 : FVec Ideal S512x512 .f32) (m0 m1 : FVec Ideal S512x128 .f32)
    (acc : FVec Ideal S1024x128 .f32) (mv : Fin 512 → EReal) (hm : ∀ r c, m0 (ix2 r c) = mv r) (r : Fin 512) (c : Fin 128) :
    (gAcc vb s0 s1 m0 m1 acc (ix2 ⟨r.val, by omega⟩ c) : EReal)
      = Ideal.exp2 (mv r - max (mv r) (rowMax s0 r)) * (acc (ix2 ⟨r.val, by omega⟩ c) : EReal)
        + ∑ j : Fin 512, Ideal.exp2 ((s0 (ix2 r j) : EReal) - max (mv r) (rowMax s0 r)) * (vb (ix2 j c) : EReal) := by
  unfold gAcc
  show (concatenate S1024x128 0 _ _ (ix2 ⟨r.val, _⟩ c) : EReal) * (acc (ix2 ⟨r.val, by omega⟩ c) : EReal) + (gPv vb _ _ (ix2 ⟨r.val, by omega⟩ c) : EReal) = _
  rw [gPv_apply₀]
  congr 1
  · congr 1
    pointwise
    exact (gAlpha_apply s0 m0 r c).trans (by rw [hm])
  · exact Finset.sum_congr rfl fun j _ => by rw [gP_apply s0 m0 mv hm]

theorem gAcc_apply₁ (vb : FVec Ideal S512x128 .bf16) (s0 s1 : FVec Ideal S512x512 .f32) (m0 m1 : FVec Ideal S512x128 .f32)
    (acc : FVec Ideal S1024x128 .f32) (mv : Fin 512 → EReal) (hm : ∀ r c, m1 (ix2 r c) = mv r) (r : Fin 512) (c : Fin 128) :
    (gAcc vb s0 s1 m0 m1 acc (ix2 ⟨512 + r.val, by omega⟩ c) : EReal)
      = Ideal.exp2 (mv r - max (mv r) (rowMax s1 r)) * (acc (ix2 ⟨512 + r.val, by omega⟩ c) : EReal)
        + ∑ j : Fin 512, Ideal.exp2 ((s1 (ix2 r j) : EReal) - max (mv r) (rowMax s1 r)) * (vb (ix2 j c) : EReal) := by
  unfold gAcc
  show (concatenate S1024x128 0 _ _ (ix2 ⟨512 + r.val, _⟩ c) : EReal) * (acc (ix2 ⟨512 + r.val, by omega⟩ c) : EReal)
    + (gPv vb _ _ (ix2 ⟨512 + r.val, by omega⟩ c) : EReal) = _
  rw [gPv_apply₁]
  congr 1
  · congr 1
    pointwise
    exact (gAlpha_apply s1 m1 r c).trans (by rw [hm])
  · exact Finset.sum_congr rfl fun j _ => by rw [gP_apply s1 m1 mv hm]

/-! ## The payloads of the kernel's two copies of the block are these terms -/

theorem pay12_eq (a : Vec Ideal S1x512x128 .bf16) (b : Vec Ideal S1024x128 .bf16) (d : Vec Ideal S1x1x2x512 .f32) (e f : Vec Ideal S512x128 .f32) :
    k0_pay12 (k0_pay7 a b d e f) = gMax (k0_pay6 a b d e) f := by
  unfold k0_pay12 k0_pay7 gMax
  dsimp only
  rw [shapeCast_self]

theorem pay18_eq (x : FVec Ideal S1024x512 .f32) (y : FVec Ideal S2x512 .f32) (e f : Vec Ideal S512x128 .f32) :
    k0_pay18 x y e f = gMax (k0_pay13 x y e) f := by
  unfold k0_pay18 k0_pay14 gMax
  dsimp only
  rw [shapeCast_self]

theorem pay11_eq (a : Vec Ideal S1x512x128 .bf16) (b : Vec Ideal S1024x128 .bf16) (d : Vec Ideal S1x1x2x512 .f32) (e f g : Vec Ideal S512x128 .f32) :
    k0_pay11 (k0_pay10 a b d e f g) = gSum (k0_pay6 a b d e) f g := by
  unfold k0_pay11 k0_pay10 k0_pay9 k0_pay8 k0_pay7 gSum gAlpha gP gMax
  dsimp only
  rw [shapeCast_self]

theorem pay17_eq (x : FVec Ideal S1024x512 .f32) (y : FVec Ideal S2x512 .f32) (e f g : Vec Ideal S512x128 .f32) :
    k0_pay17 x y e f g = gSum (k0_pay13 x y e) f g := by
  unfold k0_pay17 k0_pay16 k0_pay15 k0_pay14 gSum gAlpha gP gMax
  dsimp only
  rw [shapeCast_self]

theorem pay52_eq (vb : FVec Ideal S512x128 .bf16) (x : FVec Ideal S1024x512 .f32) (y : FVec Ideal S2x512 .f32)
    (a : Vec Ideal S1x512x128 .bf16) (b : Vec Ideal S1024x128 .bf16) (d : Vec Ideal S1x1x2x512 .f32) (e f e' f' : Vec Ideal S512x128 .f32)
    (acc : Vec Ideal S1024x128 .f32) :
    k0_pay52 (k0_pay19 vb x y (k0_pay9 a b d e f) e' f') (k0_pay20 x y (k0_pay8 a b d e f) e' f') acc
      = gAcc vb (k0_pay6 a b d e) (k0_pay13 x y e') f f' acc := by
  unfold k0_pay52 k0_pay19 k0_pay20 k0_pay16 k0_pay15 k0_pay14 k0_pay9 k0_pay8 k0_pay7 gAcc gPv gAlpha gP gMax
  dsimp only
  rw [shapeCast_self]

end Cert.FoxIdeal.Value

end
-- ==== Proof.Logit.lean ====
/- The logits of one block in the attention kernel, the mask of the block on the diagonal, and the block's terms in the
   kernel's own payloads. -/
module

public import proofs.«01_k».proof.Proof.Block
public import Idealize.ShloMosaic.Lib.WordCmp

@[expose] public section

noncomputable section

namespace Cert.FoxIdeal.Value

open Idealize.ShloMosaic Idealize.ShloMosaic.TcCoe Idealize.SL.Sem
open Cert.FoxIdeal Cert.FoxIdeal.Gen Cert.Soft

/-- The stacked queries against the block's keys, read at an entry. -/
theorem pay4_apply (kb : Vec Ideal S1x512x128 .bf16) (q : Vec Ideal S1024x128 .bf16) (r : Fin 1024) (j : Fin 512) :
    (k0_pay4 kb q (ix2 r j) : EReal) = ∑ d : Fin 128, (q (ix2 r d) : EReal) * (kb (ix3 0 j d) : EReal) := by
  unfold k0_pay4
  refine (Ideal.matmul_transposedRhs_apply (M := 1024) (K := 128) (N := 512) none _ _ _ _ _).trans ?_
  show Ideal.ofBits .f32 0x00000000#32 + _ = _
  rw [Ideal.ofBits_zero_f32, zero_add]
  refine Finset.sum_congr rfl fun d _ => ?_
  congr 1
  pointwise

theorem pay6_apply (kb : Vec Ideal S1x512x128 .bf16) (q : Vec Ideal S1024x128 .bf16) (ck : Vec Ideal S1x1x2x512 .f32)
    (c0 : Vec Ideal S512x128 .f32) (r : Fin 512) (j : Fin 512) :
    (k0_pay6 kb q ck c0 (ix2 r j) : EReal)
      = (∑ d : Fin 128, (q (ix2 ⟨r.val, by omega⟩ d) : EReal) * (kb (ix3 0 j d) : EReal))
        + (c0 (ix2 r ⟨j.val % 128, Nat.mod_lt _ (by decide)⟩) : EReal) - (ck (ix4 0 0 0 j) : EReal) := by
  have e1 : extractStridedSlice S512x512 ![0, 0] (k0_pay4 (F := Ideal) kb q) slices_S1024x512_o0_0_S512x512 (ix2 r j)
      = k0_pay4 (F := Ideal) kb q (ix2 ⟨r.val, by omega⟩ j) := by pointwise
  have e2 : broadcastTo S512x512 (extractStridedSlice S1x512 ![0, 0] (k0_pay5 (F := Ideal) ck) slices_S2x512_o0_0_S1x512)
      broadcasts_S1x512_S512x512 (ix2 r j) = ck (ix4 0 0 0 j) := by
    pointwise [k0_pay5]
  unfold k0_pay6
  show (extractStridedSlice S512x512 ![0, 0] (k0_pay4 (F := Ideal) kb q) slices_S1024x512_o0_0_S512x512 (ix2 r j) : EReal)
    + (concatenate S512x512 1 [⟨S512x128, c0⟩, ⟨S512x128, c0⟩, ⟨S512x128, c0⟩, ⟨S512x128, c0⟩]
      concatenates_S512x128_S512x128_S512x128_S512x128_S512x512_d1 (ix2 r j) : EReal) - _ = _
  rw [e1, rep_apply, pay4_apply]
  exact congrArg _ e2

theorem pay13_apply (kb : Vec Ideal S1x512x128 .bf16) (q : Vec Ideal S1024x128 .bf16) (ck : Vec Ideal S1x1x2x512 .f32)
    (c1 : Vec Ideal S512x128 .f32) (r : Fin 512) (j : Fin 512) :
    (k0_pay13 (k0_pay4 kb q) (k0_pay5 ck) c1 (ix2 r j) : EReal)
      = (∑ d : Fin 128, (q (ix2 ⟨512 + r.val, by omega⟩ d) : EReal) * (kb (ix3 0 j d) : EReal))
        + (c1 (ix2 r ⟨j.val % 128, Nat.mod_lt _ (by decide)⟩) : EReal) - (ck (ix4 0 0 1 j) : EReal) := by
  have e1 : extractStridedSlice S512x512 ![512, 0] (k0_pay4 (F := Ideal) kb q) slices_S1024x512_o512_0_S512x512 (ix2 r j)
      = k0_pay4 (F := Ideal) kb q (ix2 ⟨512 + r.val, by omega⟩ j) := by pointwise
  have e2 : broadcastTo S512x512 (extractStridedSlice S1x512 ![1, 0] (k0_pay5 (F := Ideal) ck) slices_S2x512_o1_0_S1x512)
      broadcasts_S1x512_S512x512 (ix2 r j) = ck (ix4 0 0 1 j) := by
    pointwise [k0_pay5]
  unfold k0_pay13
  show (extractStridedSlice S512x512 ![512, 0] (k0_pay4 (F := Ideal) kb q) slices_S1024x512_o512_0_S512x512 (ix2 r j) : EReal)
    + (concatenate S512x512 1 [⟨S512x128, c1⟩, ⟨S512x128, c1⟩, ⟨S512x128, c1⟩, ⟨S512x128, c1⟩]
      concatenates_S512x128_S512x128_S512x128_S512x128_S512x512_d1 (ix2 r j) : EReal) - _ = _
  rw [e1, rep_apply, pay4_apply]
  exact congrArg _ e2

/-- The logits of a block with those after the row's own place set to -∞. -/
def gMask (s : FVec Ideal S512x512 .f32) : FVec Ideal S512x512 .f32 :=
  select k0_pay51 s (broadcast S512x512 (Scalar.ofBits (F := Ideal) .f32 0xFF800000#32))

theorem pay51_apply (r j : Fin 512) : k0_pay51 (ix2 r j) = if j.val ≤ r.val then 1#1 else 0#1 := by
  have hj := j.isLt
  have hr := r.isLt
  unfold k0_pay51
  pointwise
  rw [WordCmp.cmpi_sle_of_lt (by rw [BitVec.toNat_ofNat]; omega) (by rw [BitVec.toNat_ofNat]; omega)]
  simp only [BitVec.toNat_ofNat, Nat.mod_eq_of_lt (show j.val < 2 ^ 32 by omega), Nat.mod_eq_of_lt (show r.val < 2 ^ 32 by omega)]
  by_cases h : j.val ≤ r.val <;> simp [h]

theorem gMask_apply (s : FVec Ideal S512x512 .f32) (r j : Fin 512) :
    (gMask s (ix2 r j) : EReal) = if j.val ≤ r.val then (s (ix2 r j) : EReal) else ⊥ := by
  unfold gMask
  show (if k0_pay51 (ix2 r j) = 1#1 then _ else _) = _
  rw [pay51_apply]
  by_cases h : j.val ≤ r.val
  · rw [if_pos h, if_pos h]
    exact if_pos rfl
  · rw [if_neg h, if_neg h]
    exact (if_neg (by decide)).trans ofBits_neg_inf

theorem pay58_eq (kb : Vec Ideal S1x512x128 .bf16) (q : Vec Ideal S1024x128 .bf16) (ck : Vec Ideal S1x1x2x512 .f32)
    (c0 : Vec Ideal S512x128 .f32) : k0_pay58 k0_pay51 (k0_pay54 kb) q ck c0 = gMask (k0_pay6 kb q ck c0) := rfl

theorem pay64_eq (kb : Vec Ideal S1x512x128 .bf16) (q : Vec Ideal S1024x128 .bf16) (ck : Vec Ideal S1x1x2x512 .f32)
    (c1 : Vec Ideal S512x128 .f32) : k0_pay64 k0_pay51 (k0_pay56 (k0_pay54 kb) q) (k0_pay57 ck) c1
      = gMask (k0_pay13 (k0_pay4 kb q) (k0_pay5 ck) c1) := rfl

end Cert.FoxIdeal.Value

end
-- ==== Proof.Step.lean ====
/- One block's step of the attention kernel's three running buffers, in the closed recursion of `Soft`. -/
module

public import proofs.«01_k».proof.Proof.Logit
public import Idealize.ShloMosaic.Lib.WritesUnit

@[expose] public section

noncomputable section

namespace Cert.FoxIdeal.Value

open Idealize.ShloMosaic Idealize.ShloMosaic.TcCoe Idealize.SL.Sem
open Cert.FoxIdeal Cert.FoxIdeal.Gen Cert.Soft

/-- What the running maximum, sum and weighted sum hold after `n` blocks: the first 512 rows are one head's, the others
    the other's. -/
structure Holds (M L A : Vec Ideal S1024x128 .f32) (a0 a1 : Fin 512 → ℕ → EReal) (v : Fin 128 → ℕ → EReal) (n : ℕ) : Prop where
  m0 : ∀ (r : Fin 512) (c : Fin 128), (M (ix2 ⟨r.val, by omega⟩ c) : EReal) = mAt (a0 r) n
  m1 : ∀ (r : Fin 512) (c : Fin 128), (M (ix2 ⟨512 + r.val, by omega⟩ c) : EReal) = mAt (a1 r) n
  l0 : ∀ (r : Fin 512) (c : Fin 128), (L (ix2 ⟨r.val, by omega⟩ c) : EReal) = lAt (a0 r) n
  l1 : ∀ (r : Fin 512) (c : Fin 128), (L (ix2 ⟨512 + r.val, by omega⟩ c) : EReal) = lAt (a1 r) n
  acc0 : ∀ (r : Fin 512) (c : Fin 128), (A (ix2 ⟨r.val, by omega⟩ c) : EReal) = accAt (a0 r) (v c) n
  acc1 : ∀ (r : Fin 512) (c : Fin 128), (A (ix2 ⟨512 + r.val, by omega⟩ c) : EReal) = accAt (a1 r) (v c) n

theorem rowMax_eq (s : FVec Ideal S512x512 .f32) (a : Fin 512 → ℕ → EReal) (n : ℕ)
    (hs : ∀ r j, (s (ix2 r j) : EReal) = a r (512 * n + j.val)) (r : Fin 512) : rowMax s r = blockMax (a r) n := by
  unfold rowMax blockMax
  congr 1
  funext j
  exact hs r j

theorem gMax_step (s : FVec Ideal S512x512 .f32) (m : FVec Ideal S512x128 .f32) (a : Fin 512 → ℕ → EReal) (n : ℕ)
    (hs : ∀ r j, (s (ix2 r j) : EReal) = a r (512 * n + j.val)) (hm : ∀ r c, (m (ix2 r c) : EReal) = mAt (a r) n)
    (r : Fin 512) (c : Fin 128) : (gMax s m (ix2 r c) : EReal) = mAt (a r) (n + 1) := by
  rw [gMax_apply, hm, rowMax_eq s a n hs]
  rfl

theorem gSum_step (s : FVec Ideal S512x512 .f32) (m l : FVec Ideal S512x128 .f32) (a : Fin 512 → ℕ → EReal) (n : ℕ)
    (hs : ∀ r j, (s (ix2 r j) : EReal) = a r (512 * n + j.val)) (hm : ∀ r c, (m (ix2 r c) : EReal) = mAt (a r) n)
    (hl : ∀ r c, (l (ix2 r c) : EReal) = lAt (a r) n)
    (r : Fin 512) (c : Fin 128) : (gSum s m l (ix2 r c) : EReal) = lAt (a r) (n + 1) := by
  rw [gSum_apply s m l (fun r => mAt (a r) n) hm, hl, rowMax_eq s a n hs]
  simp only [hs]
  rfl

theorem gAcc_step₀ (vb : FVec Ideal S512x128 .bf16) (s0 s1 : FVec Ideal S512x512 .f32) (m0 m1 : FVec Ideal S512x128 .f32)
    (acc : FVec Ideal S1024x128 .f32) (a : Fin 512 → ℕ → EReal) (v : Fin 128 → ℕ → EReal) (n : ℕ)
    (hs : ∀ r j, (s0 (ix2 r j) : EReal) = a r (512 * n + j.val)) (hm : ∀ r c, (m0 (ix2 r c) : EReal) = mAt (a r) n)
    (hv : ∀ j c, (vb (ix2 j c) : EReal) = v c (512 * n + j.val))
    (ha : ∀ (r : Fin 512) (c : Fin 128), (acc (ix2 ⟨r.val, by omega⟩ c) : EReal) = accAt (a r) (v c) n) (r : Fin 512) (c : Fin 128) :
    (gAcc vb s0 s1 m0 m1 acc (ix2 ⟨r.val, by omega⟩ c) : EReal) = accAt (a r) (v c) (n + 1) := by
  rw [gAcc_apply₀ vb s0 s1 m0 m1 acc (fun r => mAt (a r) n) hm, ha, rowMax_eq s0 a n hs]
  simp only [hs, hv]
  rfl

theorem gAcc_step₁ (vb : FVec Ideal S512x128 .bf16) (s0 s1 : FVec Ideal S512x512 .f32) (m0 m1 : FVec Ideal S512x128 .f32)
    (acc : FVec Ideal S1024x128 .f32) (a : Fin 512 → ℕ → EReal) (v : Fin 128 → ℕ → EReal) (n : ℕ)
    (hs : ∀ r j, (s1 (ix2 r j) : EReal) = a r (512 * n + j.val)) (hm : ∀ r c, (m1 (ix2 r c) : EReal) = mAt (a r) n)
    (hv : ∀ j c, (vb (ix2 j c) : EReal) = v c (512 * n + j.val))
    (ha : ∀ (r : Fin 512) (c : Fin 128), (acc (ix2 ⟨512 + r.val, by omega⟩ c) : EReal) = accAt (a r) (v c) n) (r : Fin 512) (c : Fin 128) :
    (gAcc vb s0 s1 m0 m1 acc (ix2 ⟨512 + r.val, by omega⟩ c) : EReal) = accAt (a r) (v c) (n + 1) := by
  rw [gAcc_apply₁ vb s0 s1 m0 m1 acc (fun r => mAt (a r) n) hm, ha, rowMax_eq s1 a n hs]
  simp only [hs, hv]
  rfl

/-! ## Loads and stores of the two halves of a buffer -/

/-- The first 512 rows. -/
abbrev R0 : Rect S1024x128 := Rect.unit (s := S1024x128) ![0, 0] ![512, 128] inb_S1024x128_S512x128_0_0
/-- The other 512 rows. -/
abbrev R1 : Rect S1024x128 := Rect.unit (s := S1024x128) ![512, 0] ![512, 128] inb_S1024x128_S512x128_512_0
/-- All rows. -/
abbrev RW : Rect S1024x128 := Rect.unit (s := S1024x128) ![0, 0] ![1024, 128] inb_S1024x128_S1024x128_0_0

theorem ld_R0 {e : EltTy} (X : S1024x128.Idx → Elt Ideal e) (r : Fin 512) (c : Fin 128) :
    View.ld X R0 (ix2 r c) = X (ix2 ⟨r.val, by omega⟩ c) :=
  View.ld_unit_apply_of X _ _ _ _ _ fun a => by
    match a with
    | ⟨0, _⟩ => exact (Nat.zero_add _).symm
    | ⟨1, _⟩ => exact (Nat.zero_add _).symm

theorem ld_R1 {e : EltTy} (X : S1024x128.Idx → Elt Ideal e) (r : Fin 512) (c : Fin 128) :
    View.ld X R1 (ix2 r c) = X (ix2 ⟨512 + r.val, by omega⟩ c) :=
  View.ld_unit_apply_of X _ _ _ _ _ fun a => by
    match a with
    | ⟨0, _⟩ => rfl
    | ⟨1, _⟩ => exact (Nat.zero_add _).symm

section
variable {sig' : RefSig} {κ : Kind} {sp : Space} {e : EltTy} (v : View sig' κ sp S1024x128 e) (f : v.ty.Contents (Elt Ideal))

theorem read_R1_R0₀ (w0 : R0.shape.Idx → Elt Ideal e) (w1 : R1.shape.Idx → Elt Ideal e) (T : List (View.Piece (Elt Ideal) S1024x128 e))
    (r : Fin 512) (c : Fin 128) :
    v.read (Elt Ideal) (v.writes (Elt Ideal) f (⟨R1, w1⟩ :: ⟨R0, w0⟩ :: T)) (ix2 ⟨r.val, by omega⟩ c) = w0 (ix2 r c) := by
  refine (View.read_writes_cons_rows_of_not_mem (o := 512) (W := 512) v f _ _ _ _ rfl rfl (.inl r.isLt)).trans ?_
  exact View.read_writes_cons_rows_of_mem (o := 0) v f _ _ _ _ (ix2 r c) rfl (Nat.zero_add _).symm rfl

theorem read_R1₁ (w1 : R1.shape.Idx → Elt Ideal e) (T : List (View.Piece (Elt Ideal) S1024x128 e))
    (r : Fin 512) (c : Fin 128) :
    v.read (Elt Ideal) (v.writes (Elt Ideal) f (⟨R1, w1⟩ :: T)) (ix2 ⟨512 + r.val, by omega⟩ c) = w1 (ix2 r c) :=
  View.read_writes_cons_rows_of_mem (o := 512) v f _ _ _ _ (ix2 r c) rfl rfl rfl

theorem read_R0₁ (w0 : R0.shape.Idx → Elt Ideal e) (T : List (View.Piece (Elt Ideal) S1024x128 e))
    (r : Fin 512) (c : Fin 128) :
    v.read (Elt Ideal) (v.writes (Elt Ideal) f (⟨R0, w0⟩ :: T)) (ix2 ⟨512 + r.val, by omega⟩ c)
      = v.read (Elt Ideal) (v.writes (Elt Ideal) f T) (ix2 ⟨512 + r.val, by omega⟩ c) :=
  View.read_writes_cons_rows_of_not_mem (o := 0) (W := 512) v f _ _ _ _ rfl rfl (.inr (by show 0 + 512 ≤ 512 + r.val; omega))

theorem read_RW (w : RW.shape.Idx → Elt Ideal e) (T : List (View.Piece (Elt Ideal) S1024x128 e)) (y : S1024x128.Idx) :
    v.read (Elt Ideal) (v.writes (Elt Ideal) f (⟨RW, w⟩ :: T)) y = w y :=
  View.read_writes_cons_rows_of_mem (o := 0) v f _ _ _ _ y rfl (Nat.zero_add _).symm rfl

end

/-- A block's step: from what the buffers hold after `n` blocks to what they hold after `n + 1`. -/
theorem Holds.step {sig' : RefSig} {κ : Kind} {sp : Space} {vM vL vA : View sig' κ sp S1024x128 .f32}
    {fM : vM.ty.Contents (Elt Ideal)} {fL : vL.ty.Contents (Elt Ideal)} {fA : vA.ty.Contents (Elt Ideal)}
    {a0 a1 : Fin 512 → ℕ → EReal} {v : Fin 128 → ℕ → EReal} {n : ℕ}
    (H : Holds (vM.read (Elt Ideal) fM) (vL.read (Elt Ideal) fL) (vA.read (Elt Ideal) fA) a0 a1 v n)
    {s0 s1 : FVec Ideal S512x512 .f32} {vb : FVec Ideal S512x128 .bf16} {m0 m1 l0 l1 : FVec Ideal S512x128 .f32} {A : FVec Ideal S1024x128 .f32}
    (hs0 : ∀ r j, (s0 (ix2 r j) : EReal) = a0 r (512 * n + j.val))
    (hs1 : ∀ r j, (s1 (ix2 r j) : EReal) = a1 r (512 * n + j.val))
    (hv : ∀ j c, (vb (ix2 j c) : EReal) = v c (512 * n + j.val))
    (hm0 : ∀ r c, m0 (ix2 r c) = vM.read (Elt Ideal) fM (ix2 ⟨r.val, by omega⟩ c))
    (hm1 : ∀ r c, m1 (ix2 r c) = vM.read (Elt Ideal) fM (ix2 ⟨512 + r.val, by omega⟩ c))
    (hl0 : ∀ r c, l0 (ix2 r c) = vL.read (Elt Ideal) fL (ix2 ⟨r.val, by omega⟩ c))
    (hl1 : ∀ r c, l1 (ix2 r c) = vL.read (Elt Ideal) fL (ix2 ⟨512 + r.val, by omega⟩ c))
    (hA : ∀ y, A y = vA.read (Elt Ideal) fA y) :
    Holds (vM.read (Elt Ideal) (vM.writes (Elt Ideal) fM [⟨R1, gMax s1 m1⟩, ⟨R0, gMax s0 m0⟩]))
      (vL.read (Elt Ideal) (vL.writes (Elt Ideal) fL [⟨R1, gSum s1 m1 l1⟩, ⟨R0, gSum s0 m0 l0⟩]))
      (vA.read (Elt Ideal) (vA.writes (Elt Ideal) fA [⟨RW, gAcc vb s0 s1 m0 m1 A⟩])) a0 a1 v (n + 1) where
  m0 r c := (read_R1_R0₀ vM fM _ _ _ r c).trans (gMax_step s0 m0 a0 n hs0 (fun r c => (hm0 r c).trans (H.m0 r c)) r c)
  m1 r c := (read_R1₁ vM fM _ _ r c).trans (gMax_step s1 m1 a1 n hs1 (fun r c => (hm1 r c).trans (H.m1 r c)) r c)
  l0 r c := (read_R1_R0₀ vL fL _ _ _ r c).trans (gSum_step s0 m0 l0 a0 n hs0 (fun r c => (hm0 r c).trans (H.m0 r c))
    (fun r c => (hl0 r c).trans (H.l0 r c)) r c)
  l1 r c := (read_R1₁ vL fL _ _ r c).trans (gSum_step s1 m1 l1 a1 n hs1 (fun r c => (hm1 r c).trans (H.m1 r c))
    (fun r c => (hl1 r c).trans (H.l1 r c)) r c)
  acc0 r c := (read_RW vA fA _ _ _).trans (gAcc_step₀ vb s0 s1 m0 m1 A a0 v n hs0 (fun r c => (hm0 r c).trans (H.m0 r c)) hv
    (fun r c => (hA _).trans (H.acc0 r c)) r c)
  acc1 r c := (read_RW vA fA _ _ _).trans (gAcc_step₁ vb s0 s1 m0 m1 A a1 v n hs1 (fun r c => (hm1 r c).trans (H.m1 r c)) hv
    (fun r c => (hA _).trans (H.acc1 r c)) r c)

end Cert.FoxIdeal.Value

end
-- ==== Proof.Loop.lean ====
/- The attention kernel's loop over the key blocks before the diagonal: after `n` trips the three running buffers hold the
   closed recursion's values. -/
module

public import proofs.«01_k».proof.Proof.Step

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

theorem loop_holds (𝒱 : Variants) (c : Dev nD) (bd : Option 𝒱.V) (i : grid0.Coords) (arg3 : Memref sig .tc .vmem S1x512x128 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x512x128 .f32) (harg6 : arg6.IsWhole) (arg7 : Memref sig .tc .vmem S1x1x2x8192 .f32) (harg7 : arg7.IsWhole) (arg8 : Memref sig .tc .vmem S1x512x128 .bf16) (harg8 : arg8.IsWhole) (arg9 : Memref sig .tc .vmem S1024x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg2 : BitVec 32) (v15 : FVec Ideal S512x128 .f32) (v32 : IVec S512x128 1) (cst_13 : Ideal .f32) (X_arg4 : BufTy.Contents (Elt Ideal) arg4.view.ty) (X_arg5 : BufTy.Contents (Elt Ideal) arg5.view.ty) (X_arg7 : BufTy.Contents (Elt Ideal) arg7.view.ty) (X_arg9 : BufTy.Contents (Elt Ideal) arg9.view.ty) (X_arg10 : BufTy.Contents (Elt Ideal) arg10.view.ty) (G_arg11 : BufTy.Contents (Elt Ideal) arg11.view.ty) (G_arg12 : BufTy.Contents (Elt Ideal) arg12.view.ty) (G_arg13 : BufTy.Contents (Elt Ideal) arg13.view.ty)
    {a0 a1 : Fin 512 → ℕ → EReal} {v : Fin 128 → ℕ → EReal}
    (hs0 : ∀ (k : Fin (k0_t1_loop i).trips) inb inb' (r j : Fin 512), (k0_pay6 (View.ld (arg4.view.read (Elt Ideal) X_arg4) (Rect.unit (k0_off1 i k) ![1, 512, 128] inb)) (arg9.view.read (Elt Ideal) X_arg9)
      (View.ld (arg7.view.read (Elt Ideal) X_arg7) (Rect.unit (k0_off2 i k) ![1, 1, 2, 512] inb')) (View.ld (arg10.view.read (Elt Ideal) X_arg10) R0) (ix2 r j) : EReal) = a0 r (512 * k.val + j.val))
    (hs1 : ∀ (k : Fin (k0_t1_loop i).trips) inb inb' (r j : Fin 512), (k0_pay13 (k0_pay4 (View.ld (arg4.view.read (Elt Ideal) X_arg4) (Rect.unit (k0_off1 i k) ![1, 512, 128] inb)) (arg9.view.read (Elt Ideal) X_arg9))
      (k0_pay5 (View.ld (arg7.view.read (Elt Ideal) X_arg7) (Rect.unit (k0_off2 i k) ![1, 1, 2, 512] inb'))) (View.ld (arg10.view.read (Elt Ideal) X_arg10) R1) (ix2 r j) : EReal) = a1 r (512 * k.val + j.val))
    (hv : ∀ (k : Fin (k0_t1_loop i).trips) inb (j : Fin 512) (c : Fin 128), (k0_pay3 (View.ld (arg5.view.read (Elt Ideal) X_arg5) (Rect.unit (k0_off1 i k) ![1, 512, 128] inb)) (ix2 j c) : EReal) = v c (512 * k.val + j.val))
    (h0 : Holds (arg11.view.read (Elt Ideal) G_arg11) (arg12.view.read (Elt Ideal) G_arg12) (arg13.view.read (Elt Ideal) G_arg13) a0 a1 v 0) :
    ∀ n, n ≤ (k0_t1_loop i).trips → Holds
      (arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 arg2 v15 v32 cst_13 X_arg4 X_arg5 X_arg7 X_arg9 X_arg10 G_arg11 G_arg12 G_arg13 n).1))
      (arg12.view.read (Elt Ideal) (arg12.view.writes (Elt Ideal) G_arg12 (pb_k0_t1 (F := Ideal) 𝒱 c bd i arg3 harg3 arg4 harg4 arg5 harg5 arg6 harg6 arg7 harg7 arg8 harg8 arg9 harg9 arg10 harg10 arg11 harg11 arg12 harg12 arg13 harg13 arg2 v15 v32 cst_13 X_arg4 X_arg5 X_arg7 X_arg9 X_arg10 G_arg11 G_arg12 G_arg13 n).2.1))
      (arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg2 v15 v32 cst_13 X_arg4 X_arg5 X_arg7 X_arg9 X_arg10 G_arg11 G_arg12 G_arg13 n).2.2)) a0 a1 v n := by
  intro n
  induction n with
  | zero => exact fun _ => h0
  | succ n ih =>
    intro hn
    have H := ih (by omega)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg2 v15 v32 cst_13 X_arg4 X_arg5 X_arg7 X_arg9 X_arg10 G_arg11 G_arg12 G_arg13 ⟨n, hn⟩
    rw [show (⟨n, hn⟩ : Fin (k0_t1_loop i).trips).val + 1 = n + 1 from rfl] at e
    rw [e]
    generalize pb_k0_t1 (F := Ideal) 𝒱 c bd i arg3 harg3 arg4 harg4 arg5 harg5 arg6 harg6 arg7 harg7 arg8 harg8 arg9 harg9 arg10 harg10 arg11 harg11 arg12 harg12 arg13 harg13 arg2 v15 v32 cst_13 X_arg4 X_arg5 X_arg7 X_arg9 X_arg10 G_arg11 G_arg12 G_arg13 n = PB at H ⊢
    dsimp only [tripL_k0_t1]
    rw [View.writes_append, View.writes_append, View.writes_append]
    unfold trip_k0_t1
    dsimp only
    frame_out
    rw [pay12_eq, pay18_eq, pay11_eq, pay17_eq, pay52_eq]
    refine H.step (hs0 ⟨n, hn⟩ _ _) (hs1 ⟨n, hn⟩ _ _) (hv ⟨n, hn⟩ _) ?_ ?_ ?_ ?_ ?_
    · exact fun r c => ld_R0 _ r c
    · exact fun r c => ld_R1 _ r c
    · exact fun r c => ld_R0 _ r c
    · exact fun r c => ld_R1 _ r c
    · exact fun y => rfl

end Cert.FoxIdeal.Value

end
-- ==== Proof.Entry.lean ====
/- What the attention kernel puts in its scratch buffers before the key blocks (the queries of one head with the other
   head's lanes zeroed, the queries' cumulative gates, the running values' start), and where its loads sit. -/
module

public import proofs.«01_k».proof.Proof.Loop

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

theorem pay39_apply (r : Fin 512) (d : Fin 128) : k0_pay39 (ix2 r d) = if d.val < 64 then 1#1 else 0#1 := by
  have hd := d.isLt
  unfold k0_pay39
  pointwise
  rw [WordCmp.cmpi_slt_of_lt (by rw [BitVec.toNat_ofNat]; omega) (by decide)]
  simp only [BitVec.toNat_ofNat, Nat.mod_eq_of_lt (show d.val < 2 ^ 32 by omega)]
  by_cases h : d.val < 64 <;> simp [h]

theorem zero_bf16 : Ideal.ofBits .bf16 0x0000#16 = 0 := by simp [Ideal.ofBits, Ideal.ieee]

theorem pay40_apply (x : Vec Ideal S1x512x128 .bf16) (r : Fin 512) (d : Fin 128) :
    k0_pay40 x (ix2 r d) = x (ix3 0 r d) := by
  unfold k0_pay40
  pointwise

theorem pay42_apply (x : Vec Ideal S1x512x128 .bf16) (r : Fin 512) (d : Fin 128) :
    (k0_pay42 x (ix2 r d) : EReal) = if d.val < 64 then (x (ix3 0 r d) : EReal) else 0 := by
  unfold k0_pay42
  rw [shapeCast_self]
  show (if k0_pay39 (ix2 r d) = 1#1 then _ else _) = _
  rw [pay39_apply]
  by_cases h : d.val < 64
  · rw [if_pos h, if_pos h]
    exact (if_pos rfl).trans (pay40_apply x r d)
  · rw [if_neg h, if_neg h]
    exact (if_neg (by decide)).trans zero_bf16

theorem pay43_apply (x : Vec Ideal S1x512x128 .bf16) (r : Fin 512) (d : Fin 128) :
    (k0_pay43 x (ix2 r d) : EReal) = if d.val < 64 then 0 else (x (ix3 0 r d) : EReal) := by
  unfold k0_pay43
  rw [shapeCast_self]
  show (if k0_pay39 (ix2 r d) = 1#1 then _ else _) = _
  rw [pay39_apply]
  by_cases h : d.val < 64
  · rw [if_pos h, if_pos h]
    exact (if_pos rfl).trans zero_bf16
  · rw [if_neg h, if_neg h]
    exact (if_neg (by decide)).trans (pay40_apply x r d)

/-- The sum of a row of lanes in which only one lane is kept. -/
theorem laneSum (x : FVec Ideal S512x128 .f32) (w : BitVec 32) (l : Fin 128) (hw : w.toNat = l.val)
    (z : FVec Ideal S512x128 .f32) (hz : ∀ i, (z i : EReal) = 0) (r : Fin 512) :
    multiReduction .add [1] S512 (select (cmpi .eq (iota .tc S512x128 32 [1] iota_S512x128_d1_w32) (broadcast S512x128 w)) x z)
      0x00000000#32 reduces_S512x128_S512 (.inl rfl) rfl (ix1 r) = x (ix2 r l) := by
  refine (Ideal.multiReduction_add_single _ _ reduces_S512x128_S512 (.inl rfl) rfl (ix1 r)).trans ?_
  have e : ∀ d : Fin 128, (select (cmpi .eq (iota .tc S512x128 32 [1] iota_S512x128_d1_w32) (broadcast S512x128 w)) x z) (ix2 r d)
      = if d = l then (x (ix2 r l) : EReal) else 0 := by
    intro d
    have hd := d.isLt
    show (if (IntOp.cmpi .eq ((iota .tc S512x128 32 [1] iota_S512x128_d1_w32) (ix2 r d)) w) = 1#1 then _ else _) = _
    have ei : (iota .tc S512x128 32 [1] iota_S512x128_d1_w32) (ix2 r d) = BitVec.ofNat 32 d.val := by pointwise
    rw [ei, WordCmp.cmpi_eq_eq_toNat, BitVec.toNat_ofNat, Nat.mod_eq_of_lt (show d.val < 2 ^ 32 by omega), hw]
    by_cases h : d = l
    · subst h
      simp
    · rw [if_neg h]
      have h' : ¬ d.val = l.val := fun e => h (Fin.ext e)
      simp only [h', decide_false, BitVec.ofBool_false]
      exact (if_neg (by decide)).trans (hz _)
  refine Eq.trans (Finset.sum_congr rfl fun d _ => ?_) ((Finset.sum_congr rfl fun d _ => e d).trans ?_)
  · show _ = (select _ x z) _
    congr 1
    funext a; apply Fin.ext
    match a with
    | ⟨0, _⟩ => rfl
    | ⟨1, _⟩ => rfl
  · exact (Finset.sum_ite_eq' (Finset.univ : Finset (Fin 128)) l (fun _ => (x (ix2 r l) : EReal))).trans (if_pos (Finset.mem_univ l))

theorem pay44_apply (x : Vec Ideal S1x512x128 .f32) (r : Fin 512) (d : Fin 128) : k0_pay44 x (ix2 r d) = x (ix3 0 r d) := by
  unfold k0_pay44
  pointwise

theorem laneWord (p : Fin 8) (s : Fin 2) : (Scalar.addi (Scalar.muli 2#32 (BitVec.ofNat 32 p.val)) (BitVec.ofNat 32 s.val)).toNat = 2 * p.val + s.val := by
  revert p s
  decide

theorem pay45_apply (i : grid0.Coords) (x : Vec Ideal S1x512x128 .f32) (r : Fin 512) (c : Fin 128) :
    (k0_pay45 i x (ix2 r c) : EReal) = x (ix3 0 r ⟨2 * (i 1).val + 0, by have : (i 1).val < 8 := (i 1).isLt; omega⟩) := by
  unfold k0_pay45
  dsimp only
  rw [shapeCast_self, shapeCast_self, col_apply]
  refine (laneSum (k0_pay44 x) _ ⟨2 * (i 1).val + 0, by have : (i 1).val < 8 := (i 1).isLt; omega⟩ (laneWord (i 1) 0) _ (fun _ => Ideal.ofBits_zero_f32) r).trans ?_
  exact pay44_apply x r _

theorem pay47_apply (i : grid0.Coords) (x : Vec Ideal S1x512x128 .f32) (r : Fin 512) (c : Fin 128) :
    (k0_pay47 (k0_pay44 x) (k0_pay46 i) (FloatOps.ofBits .f32 0#32) (ix2 r c) : EReal)
      = x (ix3 0 r ⟨2 * (i 1).val + 1, by have : (i 1).val < 8 := (i 1).isLt; omega⟩) := by
  unfold k0_pay47 k0_pay46
  dsimp only
  rw [shapeCast_self, shapeCast_self, col_apply]
  refine (laneSum (k0_pay44 x) _ ⟨2 * (i 1).val + 1, by have : (i 1).val < 8 := (i 1).isLt; omega⟩ (laneWord (i 1) 1) _ (fun _ => Ideal.ofBits_zero_f32) r).trans ?_
  exact pay44_apply x r _

theorem pay48_apply (y : S1024x128.Idx) : (k0_pay48 (F := Ideal) y : EReal) = ⊥ := by
  unfold k0_pay48
  rw [shapeCast_self]
  exact ofBits_neg_inf

theorem pay49_apply (y : S1024x128.Idx) : (k0_pay49 (F := Ideal) y : EReal) = 0 := by
  unfold k0_pay49
  rw [shapeCast_self]
  exact Ideal.ofBits_zero_f32

theorem pay50_apply (y : S1024x128.Idx) : (k0_pay50 (F := Ideal) y : EReal) = 0 := by
  unfold k0_pay50
  rw [shapeCast_self]
  exact Ideal.ofBits_zero_f32

/-! ## The block on the diagonal is the same step over the masked logits -/

section
variable (kb : Vec Ideal S1x512x128 .bf16) (q : Vec Ideal S1024x128 .bf16) (ck : Vec Ideal S1x1x2x512 .f32)
  (c0 c1 m0 m1 l0 l1 : Vec Ideal S512x128 .f32) (vb : Vec Ideal S1x512x128 .bf16) (acc : Vec Ideal S1024x128 .f32)

theorem pay63_eq : k0_pay63 (k0_pay59 k0_pay51 (k0_pay54 kb) q ck c0 m0) = gMax (gMask (k0_pay6 kb q ck c0)) m0 := by
  unfold k0_pay63 k0_pay59
  dsimp only
  rw [shapeCast_self, pay58_eq]
  rfl

theorem pay62_eq : k0_pay62 k0_pay51 (k0_pay54 kb) q ck c0 m0 l0 = gSum (gMask (k0_pay6 kb q ck c0)) m0 l0 := by
  unfold k0_pay62 k0_pay61 k0_pay60 k0_pay59
  dsimp only
  rw [shapeCast_self, pay58_eq]
  rfl

theorem pay69_eq : k0_pay69 k0_pay51 (k0_pay56 (k0_pay54 kb) q) (k0_pay57 ck) c1 m1
    = gMax (gMask (k0_pay13 (k0_pay4 kb q) (k0_pay5 ck) c1)) m1 := by
  unfold k0_pay69 k0_pay65
  dsimp only
  rw [shapeCast_self, pay64_eq]
  rfl

theorem pay68_eq : k0_pay68 k0_pay51 (k0_pay56 (k0_pay54 kb) q) (k0_pay57 ck) c1 m1 l1
    = gSum (gMask (k0_pay13 (k0_pay4 kb q) (k0_pay5 ck) c1)) m1 l1 := by
  unfold k0_pay68 k0_pay67 k0_pay66 k0_pay65
  dsimp only
  rw [shapeCast_self, pay64_eq]
  rfl

theorem pay70_eq : k0_pay1 (k0_pay70 k0_pay51 (k0_pay55 vb) (k0_pay56 (k0_pay54 kb) q) (k0_pay57 ck)
      (k0_pay60 k0_pay51 (k0_pay54 kb) q ck c0 m0) (k0_pay61 k0_pay51 (k0_pay54 kb) q ck c0 m0) c1 m1 acc)
    = gAcc (k0_pay3 vb) (gMask (k0_pay6 kb q ck c0)) (gMask (k0_pay13 (k0_pay4 kb q) (k0_pay5 ck) c1)) m0 m1 acc := by
  unfold k0_pay1 k0_pay70 k0_pay67 k0_pay66 k0_pay65 k0_pay61 k0_pay60 k0_pay59
  dsimp only
  rw [shapeCast_self, pay58_eq, pay64_eq]
  rfl

end

/-! ## Where the loads sit -/

theorem trips_eq (i : grid0.Coords) : (k0_t1_loop i).trips = (i 2).val :=
  (by decide +kernel : ∀ q : Fin 16, (Scf.trips 0#32
    (Scalar.addi 0#32 (Scalar.muli (Scalar.divsi (Scalar.subi (BitVec.ofNat 32 q.val) 0#32) 1#32) 1#32)) 1#32) = q.val) (i 2)

theorem offWord : ∀ k : Fin 16, (Scalar.indexCast (Scalar.muli (Scf.iv 0#32 1#32 k.val) 512#32)).toNat = 512 * k.val := by
  decide +kernel

theorem offWord' : ∀ k : Fin 16, (Scalar.indexCast (Scalar.muli (BitVec.ofNat 32 k.val) 512#32)).toNat = 512 * k.val := by
  decide +kernel

theorem off1_eq (i : grid0.Coords) (k : Fin (k0_t1_loop i).trips) : k0_off1 i k = ![0, 512 * k.val, 0] := by
  have h : k.val < 16 := lt_of_lt_of_le k.isLt (by rw [trips_eq]; exact (i 2).isLt.le)
  unfold k0_off1
  dsimp only
  exact congrArg (fun n : ℕ => (![0, n, 0] : Fin 3 → ℕ)) (offWord ⟨k.val, h⟩)

theorem off2_eq (i : grid0.Coords) (k : Fin (k0_t1_loop i).trips) : k0_off2 i k = ![0, 0, 0, 512 * k.val] := by
  have h : k.val < 16 := lt_of_lt_of_le k.isLt (by rw [trips_eq]; exact (i 2).isLt.le)
  unfold k0_off2
  dsimp only
  exact congrArg (fun n : ℕ => (![0, 0, 0, n] : Fin 4 → ℕ)) (offWord ⟨k.val, h⟩)

theorem off5_eq (i : grid0.Coords) : k0_off5 i = ![0, 512 * (i 2).val, 0] := by
  unfold k0_off5
  dsimp only
  exact congrArg (fun n : ℕ => (![0, n, 0] : Fin 3 → ℕ)) (offWord' (i 2))

theorem off6_eq (i : grid0.Coords) : k0_off6 i = ![0, 0, 0, 512 * (i 2).val] := by
  unfold k0_off6
  dsimp only
  exact congrArg (fun n : ℕ => (![0, 0, 0, n] : Fin 4 → ℕ)) (offWord' (i 2))

end Cert.FoxIdeal.Value

end
-- ==== Proof.Reads.lean ====
/- The attention kernel's input blocks, read as the argument arrays at a grid point. -/
module

public import proofs.«01_k».proof.Proof.Loop
public import Idealize.ShloMosaic.Lib.Claim

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, (grid0.coords t 2).val, 0]
    ∧ win0_4.index t = ![(grid0.coords t 0).val, (grid0.coords t 1).val, 0, 0]
    ∧ win0_5.index t = ![(grid0.coords t 0).val, (grid0.coords t 2).val, (grid0.coords t 1).val] :=
  (by decide +kernel : ∀ t : Fin grid0.N, _)

variable (m : (ℓ : Loc nD τ sig) → Buf (Elt Ideal) ℓ) (c : Dev nD) (t : Fin cfg0.N)

/-- The batch, the pair of heads and the block of queries of a grid point. -/
abbrev bOf : Fin 8 := grid0.coords t 0
abbrev pOf : Fin 8 := grid0.coords t 1
abbrev qOf : Fin 16 := grid0.coords t 2

theorem iblk0_apply (r : Fin 512) (d : Fin 128) : iblk m c 0 t (ix3 0 r d)
    = m ((c : Thread nD τ).loc main_arg0) (ix3 (bOf t) ⟨512 * (qOf t).val + r.val, by have := (qOf t).isLt; omega⟩ ⟨128 * (pOf t).val + d.val, by have := (pOf t).isLt; omega⟩) := by
  blk_point [iblk, V, idx t]
  all_goals (first | unfold bOf | unfold qOf | unfold pOf) <;> omega

theorem iblk1_apply (k : Fin 8192) (d : Fin 128) : iblk m c 1 t (ix3 0 k d)
    = m ((c : Thread nD τ).loc main_arg1) (ix3 (bOf t) k ⟨128 * (pOf t).val + d.val, by have := (pOf t).isLt; omega⟩) := by
  blk_point [iblk, V, idx t]
  all_goals (first | unfold bOf | unfold qOf | unfold pOf) <;> omega

theorem iblk2_apply (k : Fin 8192) (d : Fin 128) : iblk m c 2 t (ix3 0 k d)
    = m ((c : Thread nD τ).loc main_arg2) (ix3 (bOf t) k ⟨128 * (pOf t).val + d.val, by have := (pOf t).isLt; omega⟩) := by
  blk_point [iblk, V, idx t]
  all_goals (first | unfold bOf | unfold qOf | unfold pOf) <;> omega

theorem iblk3_apply (r : Fin 512) (d : Fin 128) : iblk m c 3 t (ix3 0 r d)
    = m ((c : Thread nD τ).loc main_arg3) (ix3 (bOf t) ⟨512 * (qOf t).val + r.val, by have := (qOf t).isLt; omega⟩ d) := by
  blk_point [iblk, V, idx t]
  all_goals (first | unfold bOf | unfold qOf | unfold pOf) <;> omega

theorem iblk4_apply (h : Fin 2) (k : Fin 8192) : iblk m c 4 t (ix4 0 0 h k)
    = m ((c : Thread nD τ).loc main_arg3) (ix3 (bOf t) k ⟨2 * (pOf t).val + h.val, by have := (pOf t).isLt; omega⟩) := by
  blk_point [iblk, V, idx t]
  all_goals (first | unfold bOf | unfold qOf | unfold pOf) <;> omega

end Cert.FoxIdeal.Value

end
-- ==== Proof.Point.lean ====
/- What one grid point of the attention kernel writes: at each row and lane, the closed recursion's weighted sum over its
   sum, after the blocks up to the diagonal's. -/
module

public import proofs.«01_k».proof.Proof.Entry
public import proofs.«01_k».proof.Proof.Reads

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

/-! ## The logits over the argument arrays -/

/-- The logit of a query and a key in one head. -/
def logit (Q K : Vec Ideal S8x8192x1024 .bf16) (C : Vec Ideal S8x8192x128 .f32) (b : Fin 8) (h : Fin 16) (t k : Fin 8192) : EReal :=
  (∑ d : Fin 64, (Q (ix3 b t ⟨64 * h.val + d.val, by omega⟩) : EReal) * (K (ix3 b k ⟨64 * h.val + d.val, by omega⟩) : EReal))
    + (C (ix3 b t ⟨h.val, by omega⟩) : EReal) - (C (ix3 b k ⟨h.val, by omega⟩) : EReal)

/-- A query's logits, with those of later keys at -∞. -/
def aOf (Q K : Vec Ideal S8x8192x1024 .bf16) (C : Vec Ideal S8x8192x128 .f32) (b : Fin 8) (h : Fin 16) (t : Fin 8192) : ℕ → EReal :=
  fun k => if hk : k < 8192 then (if k ≤ t.val then logit Q K C b h t ⟨k, hk⟩ else ⊥) else ⊥

/-- A column of the values. -/
def vOf (V : Vec Ideal S8x8192x1024 .bf16) (b : Fin 8) (l : Fin 1024) : ℕ → EReal :=
  fun k => if hk : k < 8192 then (V (ix3 b ⟨k, hk⟩ l) : EReal) else 0

theorem sum_lo (f g : Fin 128 → EReal) : (∑ d : Fin 128, (if d.val < 64 then f d else 0) * g d)
    = ∑ d : Fin 64, f ⟨d.val, by omega⟩ * g ⟨d.val, by omega⟩ := by
  rw [show (∑ d : Fin 128, (if d.val < 64 then f d else 0) * g d) = ∑ d : Fin (64 + 64), (if d.val < 64 then f d else 0) * g d from rfl,
    Fin.sum_univ_add]
  rw [Finset.sum_eq_zero (s := Finset.univ) (f := fun i : Fin 64 => (if (Fin.natAdd 64 i).val < 64 then f (Fin.natAdd 64 i) else 0) * g (Fin.natAdd 64 i)), add_zero]
  · refine Finset.sum_congr rfl fun d _ => ?_
    rw [if_pos (show (Fin.castAdd 64 d).val < 64 from d.isLt)]
    rfl
  · intro d _
    rw [if_neg (show ¬ (Fin.natAdd 64 d).val < 64 by simp), zero_mul]

theorem sum_hi (f g : Fin 128 → EReal) : (∑ d : Fin 128, (if d.val < 64 then 0 else f d) * g d)
    = ∑ d : Fin 64, f ⟨64 + d.val, by omega⟩ * g ⟨64 + d.val, by omega⟩ := by
  rw [show (∑ d : Fin 128, (if d.val < 64 then 0 else f d) * g d) = ∑ d : Fin (64 + 64), (if d.val < 64 then 0 else f d) * g d from rfl,
    Fin.sum_univ_add]
  rw [Finset.sum_eq_zero (s := Finset.univ) (f := fun i : Fin 64 => (if (Fin.castAdd 64 i).val < 64 then 0 else f (Fin.castAdd 64 i)) * g (Fin.castAdd 64 i)), zero_add]
  · refine Finset.sum_congr rfl fun d _ => ?_
    rw [if_neg (show ¬ (Fin.natAdd 64 d).val < 64 by simp)]
    rfl
  · intro d _
    rw [if_pos (show (Fin.castAdd 64 d).val < 64 from d.isLt), zero_mul]

section
variable (Q K : Vec Ideal S8x8192x1024 .bf16) (C : Vec Ideal S8x8192x128 .f32) (b p : Fin 8) (q : Fin 16)
  (kb : Vec Ideal S1x512x128 .bf16) (q2 : Vec Ideal S1024x128 .bf16) (ck : Vec Ideal S1x1x2x512 .f32) (cq : Vec Ideal S512x128 .f32) (n : Fin 16)

theorem logits0
    (hk : ∀ (j : Fin 512) (d : Fin 128), kb (ix3 0 j d) = K (ix3 b ⟨512 * n.val + j.val, by omega⟩ ⟨128 * p.val + d.val, by omega⟩))
    (hq : ∀ (r : Fin 512) (d : Fin 128), (q2 (ix2 ⟨r.val, by omega⟩ d) : EReal)
      = if d.val < 64 then (Q (ix3 b ⟨512 * q.val + r.val, by omega⟩ ⟨128 * p.val + d.val, by omega⟩) : EReal) else 0)
    (hcq : ∀ (r : Fin 512) (d : Fin 128), cq (ix2 r d) = C (ix3 b ⟨512 * q.val + r.val, by omega⟩ ⟨2 * p.val, by omega⟩))
    (hck : ∀ j : Fin 512, ck (ix4 0 0 0 j) = C (ix3 b ⟨512 * n.val + j.val, by omega⟩ ⟨2 * p.val, by omega⟩))
    (r j : Fin 512) : (k0_pay6 kb q2 ck cq (ix2 r j) : EReal)
      = logit Q K C b ⟨2 * p.val, by omega⟩ ⟨512 * q.val + r.val, by omega⟩ ⟨512 * n.val + j.val, by omega⟩ := by
  rw [pay6_apply, hcq, hck]
  simp only [hk, hq]
  rw [sum_lo]
  unfold logit
  congr 2
  refine Finset.sum_congr rfl fun d _ => ?_
  congr 2
  all_goals exact congrArg (ix3 b _) (Fin.ext (by show 128 * p.val + d.val = 64 * (2 * p.val) + d.val; omega))

theorem logits1
    (hk : ∀ (j : Fin 512) (d : Fin 128), kb (ix3 0 j d) = K (ix3 b ⟨512 * n.val + j.val, by omega⟩ ⟨128 * p.val + d.val, by omega⟩))
    (hq : ∀ (r : Fin 512) (d : Fin 128), (q2 (ix2 ⟨512 + r.val, by omega⟩ d) : EReal)
      = if d.val < 64 then 0 else (Q (ix3 b ⟨512 * q.val + r.val, by omega⟩ ⟨128 * p.val + d.val, by omega⟩) : EReal))
    (hcq : ∀ (r : Fin 512) (d : Fin 128), cq (ix2 r d) = C (ix3 b ⟨512 * q.val + r.val, by omega⟩ ⟨2 * p.val + 1, by omega⟩))
    (hck : ∀ j : Fin 512, ck (ix4 0 0 1 j) = C (ix3 b ⟨512 * n.val + j.val, by omega⟩ ⟨2 * p.val + 1, by omega⟩))
    (r j : Fin 512) : (k0_pay13 (k0_pay4 kb q2) (k0_pay5 ck) cq (ix2 r j) : EReal)
      = logit Q K C b ⟨2 * p.val + 1, by omega⟩ ⟨512 * q.val + r.val, by omega⟩ ⟨512 * n.val + j.val, by omega⟩ := by
  rw [pay13_apply, hcq, hck]
  simp only [hk, hq]
  rw [sum_hi]
  unfold logit
  congr 2
  refine Finset.sum_congr rfl fun d _ => ?_
  congr 2
  all_goals exact congrArg (ix3 b _) (Fin.ext (by show 128 * p.val + (64 + d.val) = 64 * (2 * p.val + 1) + d.val; omega))

/-- A block before the diagonal is not masked. -/
theorem aOf_before (h : Fin 16) (r j : Fin 512) (hn : n.val < q.val) :
    logit Q K C b h ⟨512 * q.val + r.val, by omega⟩ ⟨512 * n.val + j.val, by omega⟩
      = aOf Q K C b h ⟨512 * q.val + r.val, by omega⟩ (512 * n.val + j.val) := by
  unfold aOf
  rw [dif_pos (show 512 * n.val + j.val < 8192 by omega), if_pos (show 512 * n.val + j.val ≤ 512 * q.val + r.val by omega)]

/-- The block on the diagonal is masked after the query's own place. -/
theorem aOf_diag (h : Fin 16) (r j : Fin 512) :
    (if j.val ≤ r.val then logit Q K C b h ⟨512 * q.val + r.val, by omega⟩ ⟨512 * q.val + j.val, by omega⟩ else ⊥)
      = aOf Q K C b h ⟨512 * q.val + r.val, by omega⟩ (512 * q.val + j.val) := by
  unfold aOf
  rw [dif_pos (show 512 * q.val + j.val < 8192 by omega)]
  by_cases hj : j.val ≤ r.val
  · rw [if_pos hj, if_pos (show 512 * q.val + j.val ≤ 512 * q.val + r.val by omega)]
  · rw [if_neg hj, if_neg (show ¬ 512 * q.val + j.val ≤ 512 * q.val + r.val by omega)]

end

theorem ld_kv {e : EltTy} (X : S1x8192x128.Idx → Elt Ideal e) (off : Fin 3 → ℕ) (n : Fin 16) (ho : off = ![0, 512 * n.val, 0]) (inb)
    (j : Fin 512) (d : Fin 128) :
    View.ld X (Rect.unit (s := S1x8192x128) off ![1, 512, 128] inb) (ix3 0 j d) = X (ix3 0 ⟨512 * n.val + j.val, by omega⟩ d) := by
  subst ho
  exact View.ld_unit_apply_of X _ _ _ _ _ fun a => by
    match a with
    | ⟨0, _⟩ => rfl
    | ⟨1, _⟩ => rfl
    | ⟨2, _⟩ => exact (Nat.zero_add _).symm

theorem ld_ck {e : EltTy} (X : S1x1x2x8192.Idx → Elt Ideal e) (off : Fin 4 → ℕ) (n : Fin 16) (ho : off = ![0, 0, 0, 512 * n.val]) (inb)
    (h : Fin 2) (j : Fin 512) :
    View.ld X (Rect.unit (s := S1x1x2x8192) off ![1, 1, 2, 512] inb) (ix4 0 0 h j) = X (ix4 0 0 h ⟨512 * n.val + j.val, by omega⟩) := by
  subst ho
  exact View.ld_unit_apply_of X _ _ _ _ _ fun a => by
    match a with
    | ⟨0, _⟩ => rfl
    | ⟨1, _⟩ => rfl
    | ⟨2, _⟩ => exact (Nat.zero_add _).symm
    | ⟨3, _⟩ => rfl

theorem pay3_apply (x : Vec Ideal S1x512x128 .bf16) (j : Fin 512) (c : Fin 128) : k0_pay3 x (ix2 j c) = x (ix3 0 j c) := by
  unfold k0_pay3
  pointwise

variable (m : (ℓ : Loc nD τ sig) → Buf (Elt Ideal) ℓ) (c : Dev nD) (t : Fin cfg0.N)

abbrev argQ : Vec Ideal S8x8192x1024 .bf16 := m ((c : Thread nD τ).loc main_arg0)
abbrev argK : Vec Ideal S8x8192x1024 .bf16 := m ((c : Thread nD τ).loc main_arg1)
abbrev argV : Vec Ideal S8x8192x1024 .bf16 := m ((c : Thread nD τ).loc main_arg2)
abbrev argC : Vec Ideal S8x8192x128 .f32 := m ((c : Thread nD τ).loc main_arg3)

/-- The logits of a row of the point's first head, and of its second. -/
def a0 (r : Fin 512) : ℕ → EReal :=
  aOf (argQ m c) (argK m c) (argC m c) (bOf t) ⟨2 * (pOf t).val, by have := (pOf t).isLt; omega⟩ ⟨512 * (qOf t).val + r.val, by have := (qOf t).isLt; omega⟩
def a1 (r : Fin 512) : ℕ → EReal :=
  aOf (argQ m c) (argK m c) (argC m c) (bOf t) ⟨2 * (pOf t).val + 1, by have := (pOf t).isLt; omega⟩ ⟨512 * (qOf t).val + r.val, by have := (qOf t).isLt; omega⟩
def vv (d : Fin 128) : ℕ → EReal :=
  vOf (argV m c) (bOf t) ⟨128 * (pOf t).val + d.val, by have := (pOf t).isLt; omega⟩

section
variable {sig' : RefSig} {κ : Kind} {sp : Space}
  (v9 : View sig' κ sp S1024x128 .bf16) (f9 : v9.ty.Contents (Elt Ideal)) (v10 : View sig' κ sp S1024x128 .f32) (f10 : v10.ty.Contents (Elt Ideal))

/-- The stacked queries. -/
abbrev q2w := v9.read (Elt Ideal) (v9.writes (Elt Ideal) f9 [⟨R1, k0_pay43 (iblk m c 0 t)⟩, ⟨R0, k0_pay42 (iblk m c 0 t)⟩])
/-- The queries' cumulative gates. -/
abbrev cqw := v10.read (Elt Ideal) (v10.writes (Elt Ideal) f10 [⟨R1, k0_pay47 (k0_pay44 (iblk m c 3 t)) (k0_pay46 (grid0.coords t)) (FloatOps.ofBits .f32 0#32)⟩,
  ⟨R0, k0_pay45 (grid0.coords t) (iblk m c 3 t)⟩])

theorem s0_eq (n : Fin 16) (off : Fin 3 → ℕ) (ho : off = ![0, 512 * n.val, 0]) (off' : Fin 4 → ℕ) (ho' : off' = ![0, 0, 0, 512 * n.val]) (inb) (inb') (r j : Fin 512) :
    (k0_pay6 (View.ld (iblk m c 1 t) (Rect.unit (s := S1x8192x128) off ![1, 512, 128] inb)) (q2w m c t v9 f9)
      (View.ld (iblk m c 4 t) (Rect.unit (s := S1x1x2x8192) off' ![1, 1, 2, 512] inb')) (View.ld (cqw m c t v10 f10) R0) (ix2 r j) : EReal)
      = logit (argQ m c) (argK m c) (argC m c) (bOf t) ⟨2 * (pOf t).val, by have := (pOf t).isLt; omega⟩
        ⟨512 * (qOf t).val + r.val, by have := (qOf t).isLt; omega⟩ ⟨512 * n.val + j.val, by omega⟩ := by
  refine logits0 (argQ m c) (argK m c) (argC m c) (bOf t) (pOf t) (qOf t) _ _ _ _ n ?_ ?_ ?_ ?_ r j
  · exact fun j d => (ld_kv _ off n ho inb j d).trans (iblk1_apply m c t _ d)
  · intro r d
    refine (read_R1_R0₀ v9 f9 _ _ _ r d).trans ((pay42_apply _ r d).trans ?_)
    rw [iblk0_apply m c t r d]
  · exact fun r d => (ld_R0 _ r d).trans ((read_R1_R0₀ v10 f10 _ _ _ r d).trans ((pay45_apply _ _ r d).trans (iblk3_apply m c t r _)))
  · exact fun j => (ld_ck _ off' n ho' inb' 0 j).trans (iblk4_apply m c t 0 _)

theorem s1_eq (n : Fin 16) (off : Fin 3 → ℕ) (ho : off = ![0, 512 * n.val, 0]) (off' : Fin 4 → ℕ) (ho' : off' = ![0, 0, 0, 512 * n.val]) (inb) (inb') (r j : Fin 512) :
    (k0_pay13 (k0_pay4 (View.ld (iblk m c 1 t) (Rect.unit (s := S1x8192x128) off ![1, 512, 128] inb)) (q2w m c t v9 f9))
      (k0_pay5 (View.ld (iblk m c 4 t) (Rect.unit (s := S1x1x2x8192) off' ![1, 1, 2, 512] inb'))) (View.ld (cqw m c t v10 f10) R1) (ix2 r j) : EReal)
      = logit (argQ m c) (argK m c) (argC m c) (bOf t) ⟨2 * (pOf t).val + 1, by have := (pOf t).isLt; omega⟩
        ⟨512 * (qOf t).val + r.val, by have := (qOf t).isLt; omega⟩ ⟨512 * n.val + j.val, by omega⟩ := by
  refine logits1 (argQ m c) (argK m c) (argC m c) (bOf t) (pOf t) (qOf t) _ _ _ _ n ?_ ?_ ?_ ?_ r j
  · exact fun j d => (ld_kv _ off n ho inb j d).trans (iblk1_apply m c t _ d)
  · intro r d
    refine (read_R1₁ v9 f9 _ _ r d).trans ((pay43_apply _ r d).trans ?_)
    rw [iblk0_apply m c t r d]
  · exact fun r d => (ld_R1 _ r d).trans ((read_R1₁ v10 f10 _ _ r d).trans ((pay47_apply _ _ r d).trans (iblk3_apply m c t r _)))
  · exact fun j => (ld_ck _ off' n ho' inb' 1 j).trans (iblk4_apply m c t 1 _)

theorem v_eq (n : Fin 16) (off : Fin 3 → ℕ) (ho : off = ![0, 512 * n.val, 0]) (inb) (j : Fin 512) (d : Fin 128) :
    (k0_pay3 (View.ld (iblk m c 2 t) (Rect.unit (s := S1x8192x128) off ![1, 512, 128] inb)) (ix2 j d) : EReal) = vv m c t d (512 * n.val + j.val) := by
  refine (pay3_apply _ j d).trans ((ld_kv _ off n ho inb j d).trans ((iblk2_apply m c t _ d).trans ?_))
  unfold vv vOf
  rw [dif_pos]

end

end Cert.FoxIdeal.Value

end
-- ==== Proof.Out.lean ====
/- What one grid point of the attention kernel writes. -/
module

public import proofs.«01_k».proof.Proof.Point

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

theorem pay2_apply (x0 y0 x1 y1 : Vec Ideal S512x128 .f32) (r : Fin 512) (d : Fin 128) :
    (k0_pay2 k0_pay39 x0 y0 x1 y1 (ix3 0 r d) : EReal)
      = if d.val < 64 then Ideal.div (x0 (ix2 r d)) (y0 (ix2 r d)) else Ideal.div (x1 (ix2 r d)) (y1 (ix2 r d)) := by
  have e : k0_pay2 k0_pay39 x0 y0 x1 y1 (ix3 0 r d)
      = if k0_pay39 (ix2 r d) = 1#1 then Ideal.div (x0 (ix2 r d)) (y0 (ix2 r d)) else Ideal.div (x1 (ix2 r d)) (y1 (ix2 r d)) := by
    unfold k0_pay2
    pointwise
    rfl
  rw [e, pay39_apply]
  by_cases h : d.val < 64
  · rw [if_pos h, if_pos h]; exact if_pos rfl
  · rw [if_neg h, if_neg h]; exact if_neg (by decide)

section
variable {sig' : RefSig} {κ : Kind} {sp : Space} (v : View sig' κ sp S1024x128 .f32)

theorem cov_R0 (L : List (View.Piece (Elt Ideal) S1024x128 .f32)) (r : Fin 512) (d : Fin 128) :
    v.readCov L R0.toLoadRect (ix2 r d) = v.read (Elt Ideal) (v.writes (Elt Ideal) v.junk L) (ix2 ⟨r.val, by omega⟩ d) :=
  ld_R0 (v.read (Elt Ideal) (v.writes (Elt Ideal) v.junk L)) r d

theorem cov_R1 (L : List (View.Piece (Elt Ideal) S1024x128 .f32)) (r : Fin 512) (d : Fin 128) :
    v.readCov L R1.toLoadRect (ix2 r d) = v.read (Elt Ideal) (v.writes (Elt Ideal) v.junk L) (ix2 ⟨512 + r.val, by omega⟩ d) :=
  ld_R1 (v.read (Elt Ideal) (v.writes (Elt Ideal) v.junk L)) r d

end

theorem cov_RW {sig' : RefSig} {κ : Kind} {sp : Space} {e : EltTy} (v : View sig' κ sp S1024x128 e) (L : List (View.Piece (Elt Ideal) S1024x128 e)) (y : S1024x128.Idx) :
    v.readCov L RW.toLoadRect y = v.read (Elt Ideal) (v.writes (Elt Ideal) v.junk L) y :=
  View.ld_unit_apply_of (v.read (Elt Ideal) (v.writes (Elt Ideal) v.junk L)) _ _ _ _ _ fun a => by
    match a with
    | ⟨0, _⟩ => exact (Nat.zero_add _).symm
    | ⟨1, _⟩ => exact (Nat.zero_add _).symm

theorem cov_RW_eq {sig' : RefSig} {κ : Kind} {sp : Space} {e : EltTy} (v : View sig' κ sp S1024x128 e) (L : List (View.Piece (Elt Ideal) S1024x128 e)) :
    v.readCov L RW.toLoadRect = v.read (Elt Ideal) (v.writes (Elt Ideal) v.junk L) := funext (cov_RW v L)

/-- The block on the diagonal, then the quotient. -/
theorem diag {sig' : RefSig} {κ : Kind} {sp : Space} {vM vL vA : View sig' κ sp S1024x128 .f32}
    {TM TL TA : List (View.Piece (Elt Ideal) S1024x128 .f32)}
    {a0 a1 : Fin 512 → ℕ → EReal} {v : Fin 128 → ℕ → EReal} {n : ℕ}
    (H : Holds (vM.read (Elt Ideal) (vM.writes (Elt Ideal) vM.junk TM)) (vL.read (Elt Ideal) (vL.writes (Elt Ideal) vL.junk TL))
      (vA.read (Elt Ideal) (vA.writes (Elt Ideal) vA.junk TA)) a0 a1 v n)
    {kb vb : Vec Ideal S1x512x128 .bf16} {Q : Vec Ideal S1024x128 .bf16} {ck : Vec Ideal S1x1x2x512 .f32} {C0 C1 : Vec Ideal S512x128 .f32}
    (hs0 : ∀ r j, (gMask (k0_pay6 kb Q ck C0) (ix2 r j) : EReal) = a0 r (512 * n + j.val))
    (hs1 : ∀ r j, (gMask (k0_pay13 (k0_pay4 kb Q) (k0_pay5 ck) C1) (ix2 r j) : EReal) = a1 r (512 * n + j.val))
    (hv : ∀ j c, (k0_pay3 vb (ix2 j c) : EReal) = v c (512 * n + j.val))
    (M0 M1 L0 L1 : Vec Ideal S512x128 .f32) (A : Vec Ideal S1024x128 .f32)
    (hM0 : M0 = vM.readCov TM R0.toLoadRect)
    (hM1 : M1 = vM.readCov (⟨R0, k0_pay63 (k0_pay59 k0_pay51 (k0_pay54 kb) Q ck C0 M0)⟩ :: TM) R1.toLoadRect)
    (hL0 : L0 = vL.readCov TL R0.toLoadRect)
    (hL1 : L1 = vL.readCov (⟨R0, k0_pay62 k0_pay51 (k0_pay54 kb) Q ck C0 M0 L0⟩ :: TL) R1.toLoadRect)
    (hA : A = vA.readCov TA RW.toLoadRect)
    (r : Fin 512) (d : Fin 128) :
    (k0_pay2 k0_pay39
      (vA.readCov (⟨RW, k0_pay1 (k0_pay70 k0_pay51 (k0_pay55 vb) (k0_pay56 (k0_pay54 kb) Q) (k0_pay57 ck)
        (k0_pay60 k0_pay51 (k0_pay54 kb) Q ck C0 M0) (k0_pay61 k0_pay51 (k0_pay54 kb) Q ck C0 M0) C1 M1 A)⟩ :: TA) R0.toLoadRect)
      (vL.readCov (⟨R1, k0_pay68 k0_pay51 (k0_pay56 (k0_pay54 kb) Q) (k0_pay57 ck) C1 M1 L1⟩
        :: ⟨R0, k0_pay62 k0_pay51 (k0_pay54 kb) Q ck C0 M0 L0⟩ :: TL) R0.toLoadRect)
      (vA.readCov (⟨RW, k0_pay1 (k0_pay70 k0_pay51 (k0_pay55 vb) (k0_pay56 (k0_pay54 kb) Q) (k0_pay57 ck)
        (k0_pay60 k0_pay51 (k0_pay54 kb) Q ck C0 M0) (k0_pay61 k0_pay51 (k0_pay54 kb) Q ck C0 M0) C1 M1 A)⟩ :: TA) R1.toLoadRect)
      (vL.readCov (⟨R1, k0_pay68 k0_pay51 (k0_pay56 (k0_pay54 kb) Q) (k0_pay57 ck) C1 M1 L1⟩
        :: ⟨R0, k0_pay62 k0_pay51 (k0_pay54 kb) Q ck C0 M0 L0⟩ :: TL) R1.toLoadRect) (ix3 0 r d) : EReal)
    = if d.val < 64 then Ideal.div (accAt (a0 r) (v d) (n + 1)) (lAt (a0 r) (n + 1))
      else Ideal.div (accAt (a1 r) (v d) (n + 1)) (lAt (a1 r) (n + 1)) := by
  have HD := H.step hs0 hs1 hv (m0 := M0) (m1 := M1) (l0 := L0) (l1 := L1) (A := A)
    (fun r c => by rw [hM0]; exact cov_R0 vM TM r c)
    (fun r c => by rw [hM1]; exact (cov_R1 vM _ r c).trans (read_R0₁ vM _ _ _ r c))
    (fun r c => by rw [hL0]; exact cov_R0 vL TL r c)
    (fun r c => by rw [hL1]; exact (cov_R1 vL _ r c).trans (read_R0₁ vL _ _ _ r c))
    (fun y => by rw [hA]; exact cov_RW vA TA y)
  rw [pay2_apply, pay70_eq, pay68_eq, pay62_eq, cov_R0, cov_R0, cov_R1, cov_R1]
  by_cases h : d.val < 64
  · rw [if_pos h, if_pos h]
    exact congrArg₂ Ideal.div (HD.acc0 r d) (HD.l0 r d)
  · rw [if_neg h, if_neg h]
    exact congrArg₂ Ideal.div (HD.acc1 r d) (HD.l1 r d)

variable (m : (ℓ : Loc nD τ sig) → Buf (Elt Ideal) ℓ) (c : Dev nD) (t : Fin cfg0.N)

theorem trips2_eq (q : ℕ) (hq : q < 16) : Scf.trips (Scalar.addi 0#32 (Scalar.muli (Scalar.divsi (Scalar.subi (BitVec.ofNat 32 q) 0#32) 1#32) 1#32))
    (Scalar.addi 0#32 (Scalar.subi (BitVec.ofNat 32 q) 0#32)) 1#32 = 0 :=
  (by decide +kernel : ∀ q : Fin 16, Scf.trips (Scalar.addi 0#32 (Scalar.muli (Scalar.divsi (Scalar.subi (BitVec.ofNat 32 q.val) 0#32) 1#32) 1#32))
    (Scalar.addi 0#32 (Scalar.subi (BitVec.ofNat 32 q.val) 0#32)) 1#32 = 0) ⟨q, hq⟩

/-- The stacked queries and gates, read back whole and by halves. -/
abbrev q2c := (View.whole cc0_scratch0).readCov (Val := Elt Ideal) [⟨R1, k0_pay43 (iblk m c 0 t)⟩, ⟨R0, k0_pay42 (iblk m c 0 t)⟩] RW.toLoadRect
abbrev cqL : List (View.Piece (Elt Ideal) S1024x128 .f32) := [⟨R1, k0_pay47 (k0_pay44 (iblk m c 3 t)) (k0_pay46 (grid0.coords t)) (FloatOps.ofBits .f32 0#32)⟩,
  ⟨R0, k0_pay45 (grid0.coords t) (iblk m c 3 t)⟩]

theorem s0_cov (inb) (inb') (r j : Fin 512) :
    (gMask (k0_pay6 (View.ld (iblk m c 1 t) (Rect.unit (s := S1x8192x128) (k0_off5 (grid0.coords t)) ![1, 512, 128] inb)) (q2c m c t)
      (View.ld (iblk m c 4 t) (Rect.unit (s := S1x1x2x8192) (k0_off6 (grid0.coords t)) ![1, 1, 2, 512] inb'))
      ((View.whole cc0_scratch1).readCov (Val := Elt Ideal) (cqL m c t) R0.toLoadRect)) (ix2 r j) : EReal)
      = a0 m c t r (512 * (qOf t).val + j.val) := by
  refine (gMask_apply _ r j).trans ?_
  rw [show q2c m c t = q2w m c t (View.whole cc0_scratch0) (View.whole cc0_scratch0).junk from cov_RW_eq _ _]
  refine Eq.trans ?_ (aOf_diag (argQ m c) (argK m c) (argC m c) (bOf t) (qOf t) _ r j)
  exact ite_congr rfl (fun _ => s0_eq m c t (View.whole cc0_scratch0) _ (View.whole cc0_scratch1) _ (qOf t) _ (off5_eq _) _ (off6_eq _) inb inb' r j) (fun _ => rfl)

theorem s1_cov (inb) (inb') (r j : Fin 512) :
    (gMask (k0_pay13 (k0_pay4 (View.ld (iblk m c 1 t) (Rect.unit (s := S1x8192x128) (k0_off5 (grid0.coords t)) ![1, 512, 128] inb)) (q2c m c t))
      (k0_pay5 (View.ld (iblk m c 4 t) (Rect.unit (s := S1x1x2x8192) (k0_off6 (grid0.coords t)) ![1, 1, 2, 512] inb')))
      ((View.whole cc0_scratch1).readCov (Val := Elt Ideal) (cqL m c t) R1.toLoadRect)) (ix2 r j) : EReal)
      = a1 m c t r (512 * (qOf t).val + j.val) := by
  refine (gMask_apply _ r j).trans ?_
  rw [show q2c m c t = q2w m c t (View.whole cc0_scratch0) (View.whole cc0_scratch0).junk from cov_RW_eq _ _]
  refine Eq.trans ?_ (aOf_diag (argQ m c) (argK m c) (argC m c) (bOf t) (qOf t) _ r j)
  exact ite_congr rfl (fun _ => s1_eq m c t (View.whole cc0_scratch0) _ (View.whole cc0_scratch1) _ (qOf t) _ (off5_eq _) _ (off6_eq _) inb inb' r j) (fun _ => rfl)

/-- The value written at a row and lane of a grid point's block. -/
theorem point (r : Fin 512) (d : Fin 128) : (outsAt0 m c t (ix3 0 r d) : EReal)
    = if d.val < 64 then Ideal.div (accAt (a0 m c t r) (vv m c t d) ((qOf t).val + 1)) (lAt (a0 m c t r) ((qOf t).val + 1))
      else Ideal.div (accAt (a1 m c t r) (vv m c t d) ((qOf t).val + 1)) (lAt (a1 m c t r) ((qOf t).val + 1)) := by
  unfold Gen.outsAt0
  frame_out
  generalize hPB2 : pb_k0_t2 (F := Ideal) _ _ _ _ _ _ _ _ _ _ _ _ _ _ _ _ _ _ _ _ _ _ _ _ _ _ _ _ _ _ _ _ _ _ _ _ _ _ _ _ = PB2
  have hP2 : PB2 = ([], [], []) := by
    rw [← hPB2, trips2_eq _ (grid0.coords t 2).isLt]
    rfl
  rw [hP2]
  clear hPB2 hP2
  generalize hPB1 : pb_k0_t1 (F := Ideal) _ _ _ _ _ _ _ _ _ _ _ _ _ _ _ _ _ _ _ _ _ _ _ _ _ _ _ _ _ _ _ _ _ _ _ _ _ _ _ = PB1
  have HL : Holds
      ((View.whole cc0_scratch2).read (Elt Ideal) ((View.whole cc0_scratch2).writes (Elt Ideal) ((View.whole cc0_scratch2).writes (Elt Ideal) (View.whole cc0_scratch2).junk [⟨RW, k0_pay48 (F := Ideal)⟩]) PB1.1))
      ((View.whole cc0_scratch3).read (Elt Ideal) ((View.whole cc0_scratch3).writes (Elt Ideal) ((View.whole cc0_scratch3).writes (Elt Ideal) (View.whole cc0_scratch3).junk [⟨RW, k0_pay49 (F := Ideal)⟩]) PB1.2.1))
      ((View.whole cc0_scratch4).read (Elt Ideal) ((View.whole cc0_scratch4).writes (Elt Ideal) ((View.whole cc0_scratch4).writes (Elt Ideal) (View.whole cc0_scratch4).junk [⟨RW, k0_pay50 (F := Ideal)⟩]) PB1.2.2))
      (a0 m c t) (a1 m c t) (vv m c t) (k0_t1_loop (grid0.coords t)).trips := by
    rw [← hPB1]
    refine loop_holds Variants.none c none (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (BitVec.ofNat 32 (grid0.coords t 2).val) (k0_pay44 (iblk m c 3 t)) (k0_pay46 (grid0.coords t)) (FloatOps.ofBits .f32 0#32) ((hs0_1 t).unread (iblk m c 1 t)) ((hs0_2 t).unread (iblk m c 2 t)) ((hs0_4 t).unread (iblk m c 4 t)) ((View.whole cc0_scratch0).writes (Elt Ideal) (View.whole cc0_scratch0).junk [⟨R1, k0_pay43 (iblk m c 0 t)⟩, ⟨R0, k0_pay42 (iblk m c 0 t)⟩]) ((View.whole cc0_scratch1).writes (Elt Ideal) (View.whole cc0_scratch1).junk [⟨R1, k0_pay47 (k0_pay44 (iblk m c 3 t)) (k0_pay46 (grid0.coords t)) (FloatOps.ofBits .f32 0#32)⟩, ⟨R0, k0_pay45 (grid0.coords t) (iblk m c 3 t)⟩]) ((View.whole cc0_scratch2).writes (Elt Ideal) (View.whole cc0_scratch2).junk [⟨RW, k0_pay48 (F := Ideal)⟩]) ((View.whole cc0_scratch3).writes (Elt Ideal) (View.whole cc0_scratch3).junk [⟨RW, k0_pay49 (F := Ideal)⟩]) ((View.whole cc0_scratch4).writes (Elt Ideal) (View.whole cc0_scratch4).junk [⟨RW, k0_pay50 (F := Ideal)⟩]) ?_ ?_ ?_ ?_ _ le_rfl
    · intro k inb inb' r j
      have hk : k.val < (qOf t).val := lt_of_lt_of_le k.isLt (trips_eq _).le
      rw [(hs0_1 t).read_unread, (hs0_4 t).read_unread]
      exact (s0_eq m c t (View.whole cc0_scratch0) _ (View.whole cc0_scratch1) _ ⟨k.val, hk.trans (qOf t).isLt⟩ _ (off1_eq _ k) _ (off2_eq _ k) inb inb' r j).trans
        (aOf_before _ _ _ _ _ ⟨k.val, hk.trans (qOf t).isLt⟩ _ r j hk)
    · intro k inb inb' r j
      have hk : k.val < (qOf t).val := lt_of_lt_of_le k.isLt (trips_eq _).le
      rw [(hs0_1 t).read_unread, (hs0_4 t).read_unread]
      exact (s1_eq m c t (View.whole cc0_scratch0) _ (View.whole cc0_scratch1) _ ⟨k.val, hk.trans (qOf t).isLt⟩ _ (off1_eq _ k) _ (off2_eq _ k) inb inb' r j).trans
        (aOf_before _ _ _ _ _ ⟨k.val, hk.trans (qOf t).isLt⟩ _ r j hk)
    · intro k inb j d
      have hk : k.val < (qOf t).val := lt_of_lt_of_le k.isLt (trips_eq _).le
      rw [(hs0_2 t).read_unread]
      exact v_eq m c t ⟨k.val, hk.trans (qOf t).isLt⟩ _ (off1_eq _ k) inb j d
    · refine ⟨?_, ?_, ?_, ?_, ?_, ?_⟩
      · exact fun r d => (read_RW _ _ _ _ _).trans (pay48_apply _)
      · exact fun r d => (read_RW _ _ _ _ _).trans (pay48_apply _)
      · exact fun r d => (read_RW _ _ _ _ _).trans (pay49_apply _)
      · exact fun r d => (read_RW _ _ _ _ _).trans (pay49_apply _)
      · exact fun r d => (read_RW _ _ _ _ _).trans (pay50_apply _)
      · exact fun r d => (read_RW _ _ _ _ _).trans (pay50_apply _)
  rw [trips_eq] at HL
  rw [← View.writes_append, ← View.writes_append, ← View.writes_append] at HL
  refine diag HL ?_ ?_ ?_ _ _ _ _ _ rfl rfl rfl rfl rfl r d
  · exact fun r j => s0_cov m c t _ _ r j
  · exact fun r j => s1_cov m c t _ _ r j
  · exact fun j d => v_eq m c t (qOf t) _ (off5_eq _) _ j d

end Cert.FoxIdeal.Value

end
-- ==== Proof.Final.lean ====
/- The array that the attention kernel leaves. -/
module

public import proofs.«01_k».proof.Proof.Out

@[expose] public section

set_option maxRecDepth 16384

noncomputable section

namespace Cert.FoxIdeal.Value

open Idealize.ShloMosaic Idealize.ShloMosaic.TcCoe Idealize.SL.Sem
open Cert.FoxIdeal Cert.FoxIdeal.Gen Cert.Soft

/-- One entry of the attention's output as the kernel folds it: a head's blocks of keys up to the query's own. -/
def entry (Q K V : Vec Ideal S8x8192x1024 .bf16) (C : Vec Ideal S8x8192x128 .f32) (b : Fin 8) (t : Fin 8192) (l : Fin 1024) : EReal :=
  Ideal.div (accAt (aOf Q K C b ⟨l.val / 64, by omega⟩ t) (vOf V b l) (t.val / 512 + 1)) (lAt (aOf Q K C b ⟨l.val / 64, by omega⟩ t) (t.val / 512 + 1))

variable (m : (ℓ : Loc nD τ sig) → Buf (Elt Ideal) ℓ) (c : Dev nD)

theorem point_entry (t : Fin cfg0.N) (r : Fin 512) (d : Fin 128) : (outsAt0 m c t (ix3 0 r d) : EReal)
    = entry (argQ m c) (argK m c) (argV m c) (argC m c) (bOf t) ⟨512 * (qOf t).val + r.val, by have := (qOf t).isLt; omega⟩
        ⟨128 * (pOf t).val + d.val, by have := (pOf t).isLt; omega⟩ := by
  rw [point]
  have e : (512 * (qOf t).val + r.val) / 512 = (qOf t).val := by omega
  unfold entry
  dsimp only
  rw [e]
  by_cases h : d.val < 64
  · rw [if_pos h]
    have e' : (⟨(128 * (pOf t).val + d.val) / 64, by have := (pOf t).isLt; omega⟩ : Fin 16) = ⟨2 * (pOf t).val, by have := (pOf t).isLt; omega⟩ :=
      Fin.ext (show (128 * (pOf t).val + d.val) / 64 = 2 * (pOf t).val by omega)
    rw [e']
    rfl
  · rw [if_neg h]
    have e' : (⟨(128 * (pOf t).val + d.val) / 64, by have := (pOf t).isLt; omega⟩ : Fin 16) = ⟨2 * (pOf t).val + 1, by have := (pOf t).isLt; omega⟩ :=
      Fin.ext (show (128 * (pOf t).val + d.val) / 64 = 2 * (pOf t).val + 1 by have := d.isLt; omega)
    rw [e']
    rfl

/-- The output array, entry by entry. -/
def whole (Q K V : Vec Ideal S8x8192x1024 .bf16) (C : Vec Ideal S8x8192x128 .f32) : Vec Ideal S8x8192x1024 .bf16 :=
  fun i => entry Q K V C ⟨(i 0).val, (i 0).isLt⟩ ⟨(i 1).val, (i 1).isLt⟩ ⟨(i 2).val, (i 2).isLt⟩

theorem idx5 : ∀ t : Fin cfg0.N, win0_5.index t = ![(grid0.coords t 0).val, (grid0.coords t 2).val, (grid0.coords t 1).val] := by
  decide +kernel

theorem final : (dats m 0 c).arrAt 5 cfg0.N = whole (argQ m c) (argK m c) (argV m c) (argC m c) := by
  refine (dats m 0 c).arrAt_eq_of_covers 5 _ (by decide +kernel) fun t _ y => ?_
  blk_simp
  rw [after0_5]
  obtain ⟨r, d, rfl⟩ : ∃ (r : Fin 512) (d : Fin 128), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (point_entry m c t r d).trans ?_
  unfold whole
  congr 1 <;> (apply Fin.ext; blk_simp [idx5 t])
  · exact (Nat.add_zero _).symm
  · exact congrArg (· + r.val) (Nat.mul_comm _ _)
  · exact congrArg (· + d.val) (Nat.mul_comm _ _)

end Cert.FoxIdeal.Value

end
-- ==== Proof.Ref.lean ====
/- The reference attention read at one entry. -/
module

public import proofs.«01_k».proof.Proof.Gen.FoxRefIdeal.Run
public import proofs.«01_k».proof.Proof.Final
public import Idealize.ShloMosaic.Lib.KernelVsHost
public import Idealize.ShloMosaic.Lib.WordCmp

@[expose] public section

set_option maxRecDepth 16384

noncomputable section

namespace Cert.FoxRefIdeal.Value

open Idealize.ShloMosaic Idealize.ShloMosaic.TcCoe Idealize.SL.Sem
open Cert.FoxRefIdeal Cert.FoxRefIdeal.Gen
open Cert.FoxIdeal.Value (logit)

/-- The scores of the reference: gated logits scaled to base e, later keys at -∞. -/
def scores (q k : Vec Ideal S8x8192x1024 .bf16) (cf : Vec Ideal S8x8192x128 .f32) : FVec Ideal S8x16x8192x8192 .f32 :=
  select (broadcastInDim S8x16x8192x8192 ![2, 3] bcast_S8192x8192_S8x16x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (subf (addf (Host.dotGeneral dot_S8x16x8192x64_S8x16x8192x64_S8x16x8192x8192_3_3_2_2_01_01 none (transpose S8x16x8192x64 [0, 2, 1, 3] (shapeCast _ (extf .f32 q bitsLt_bf16_f32) shapeCasts_S8x8192x1024_S8x8192x16x64) transposes_S8x8192x16x64_S8x16x8192x64_0_2_1_3) (transpose S8x16x8192x64 [0, 2, 1, 3] (shapeCast _ (extf .f32 k bitsLt_bf16_f32) shapeCasts_S8x8192x1024_S8x8192x16x64) transposes_S8x8192x16x64_S8x16x8192x64_0_2_1_3)) (broadcastInDim S8x16x8192x8192 ![0, 1, 2, 3] bcast_S8x16x8192x1_S8x16x8192x8192_0_1_2_3 (broadcastInDim S8x16x8192x1 ![0, 1, 2] bcast_S8x16x8192_S8x16x8192x1_0_1_2 (transpose S8x16x8192 [0, 2, 1] (extractStridedSlice S8x8192x16 ![0, 0, 0] cf slices_S8x8192x128_S8x8192x16_0_0_0) transposes_S8x8192x16_S8x16x8192_0_2_1)))) (broadcastInDim S8x16x8192x8192 ![0, 1, 2, 3] bcast_S8x16x1x8192_S8x16x8192x8192_0_1_2_3 (broadcastInDim S8x16x1x8192 ![0, 1, 3] bcast_S8x16x8192_S8x16x1x8192_0_1_3 (transpose S8x16x8192 [0, 2, 1] (extractStridedSlice S8x8192x16 ![0, 0, 0] cf slices_S8x8192x128_S8x8192x16_0_0_0) transposes_S8x8192x16_S8x16x8192_0_2_1)))) (broadcastInDim S8x16x8192x8192 ![] bcast_S_S8x16x8192x8192 (Host.log (constant (F := Ideal) S_ .f32 0x40000000#32)))) (broadcastInDim S8x16x8192x8192 ![] bcast_S_S8x16x8192x8192 (id (constant (F := Ideal) S_ .f32 0xFF800000#32)))

/-- The row maxima of scores. -/
def top1 (x : FVec Ideal S8x16x8192x8192 .f32) : FVec Ideal S8x16x8192 .f32 :=
  Host.reduce FloatOps.maximumf x (constant (F := Ideal) S_ .f32 0xFF800000#32) reducesTo_S8x16x8192x8192_S8x16x8192_d3 h_S_

theorem reduces3 : S8x16x8192x8192.Reduces [3] S8x16x8192 := by decide

theorem top1_apply (x : FVec Ideal S8x16x8192x8192 .f32) (b : Fin 8) (h : Fin 16) (t : Fin 8192) :
    (top1 x (ix3 b h t) : EReal) = Finset.univ.fold max ⊥ fun k : Fin 8192 => (x (ix4 b h t k) : EReal) := by
  unfold top1
  refine (congrFun (hostReduce_maximumf_eq_multiReduction x 0xFF800000#32 reducesTo_S8x16x8192x8192_S8x16x8192_d3 h_S_ reduces3 (.inl rfl) rfl) (ix3 b h t)).trans ?_
  refine (Ideal.multiReduction_maximumf_single x _ reduces3 (.inl rfl) rfl (ix3 b h t)).trans ?_
  show Finset.univ.fold max (Ideal.ofBits .f32 0xFF800000#32) _ = _
  rw [Cert.FoxIdeal.Value.ofBits_neg_inf]
  congr 1
  funext k
  show x _ = x _
  congr 1
  funext a
  match a with
  | ⟨0, _⟩ => rfl
  | ⟨1, _⟩ => rfl
  | ⟨2, _⟩ => rfl
  | ⟨3, _⟩ => rfl

/-- The row maxima of scores, spread over the rows. -/
def tops (x : FVec Ideal S8x16x8192x8192 .f32) : FVec Ideal S8x16x8192x8192 .f32 :=
  broadcastInDim S8x16x8192x8192 ![0, 1, 2, 3] bcast_S8x16x8192x1_S8x16x8192x8192_0_1_2_3 (broadcastInDim S8x16x8192x1 ![0, 1, 2] bcast_S8x16x8192_S8x16x8192x1_0_1_2 (maximumf (broadcastInDim S8x16x8192 ![] bcast_S_S8x16x8192 (constant (F := Ideal) S_ .f32 0xFF800000#32)) (top1 x)))

/-- The attention of given scores and row maxima. -/
def mix (x top : FVec Ideal S8x16x8192x8192 .f32) (v : FVec Ideal S8x8192x1024 .bf16) : FVec Ideal S8x8192x1024 .bf16 :=
  truncf .bf16 (shapeCast _ (transpose S8x8192x16x64 [0, 2, 1, 3] (Host.dotGeneral dot_S8x16x8192x8192_S8x16x8192x64_S8x16x8192x64_3_2_2_3_01_01 none (Host.divf (Host.exp (subf x top)) (broadcastInDim S8x16x8192x8192 ![0, 1, 2, 3] bcast_S8x16x8192x1_S8x16x8192x8192_0_1_2_3 (broadcastInDim S8x16x8192x1 ![0, 1, 2] bcast_S8x16x8192_S8x16x8192x1_0_1_2 (Host.reduceAdd (Host.exp (subf x top)) (constant S_ .f32 0x00000000#32) reducesTo_S8x16x8192x8192_S8x16x8192_d3 h_S_)))) (transpose S8x16x8192x64 [0, 2, 1, 3] (shapeCast _ (extf .f32 v bitsLt_bf16_f32) shapeCasts_S8x8192x1024_S8x8192x16x64) transposes_S8x8192x16x64_S8x16x8192x64_0_2_1_3)) transposes_S8x16x8192x64_S8x8192x16x64_0_2_1_3) shapeCasts_S8x8192x16x64_S8x8192x1024) bitsLt_bf16_f32

theorem out_eq (m : (ℓ : Loc nD τ sig) → Buf (Elt Ideal) ℓ) (c : Dev nD) : res_main_v42 m c
    = mix (scores (m ((c.tc : Thread nD τ).loc main_arg0)) (m ((c.tc : Thread nD τ).loc main_arg1)) (m ((c.tc : Thread nD τ).loc main_arg3)))
        (tops (scores (m ((c.tc : Thread nD τ).loc main_arg0)) (m ((c.tc : Thread nD τ).loc main_arg1)) (m ((c.tc : Thread nD τ).loc main_arg3))))
        (m ((c.tc : Thread nD τ).loc main_arg2)) := rfl

theorem mix_apply (x top : FVec Ideal S8x16x8192x8192 .f32) (v : FVec Ideal S8x8192x1024 .bf16) (b : Fin 8) (t : Fin 8192) (l : Fin 1024) :
    (mix x top v (ix3 b t l) : EReal) = ∑ k : Fin 8192, Ideal.div (Ideal.exp ((x (ix4 b ⟨l.val / 64, by omega⟩ t k) : EReal) - (top (ix4 b ⟨l.val / 64, by omega⟩ t k) : EReal)))
      (∑ k' : Fin 8192, Ideal.exp ((x (ix4 b ⟨l.val / 64, by omega⟩ t k') : EReal) - (top (ix4 b ⟨l.val / 64, by omega⟩ t k') : EReal))) * (v (ix3 b k l) : EReal) := by
  unfold mix
  pointwise

theorem spread_apply (y : FVec Ideal S8x16x8192 .f32) (b : Fin 8) (h : Fin 16) (t s : Fin 8192) :
    broadcastInDim S8x16x8192x8192 ![0, 1, 2, 3] bcast_S8x16x8192x1_S8x16x8192x8192_0_1_2_3 (broadcastInDim S8x16x8192x1 ![0, 1, 2] bcast_S8x16x8192_S8x16x8192x1_0_1_2 y) (ix4 b h t s) = y (ix3 b h t) := by
  pointwise

theorem tops_apply (x : FVec Ideal S8x16x8192x8192 .f32) (b : Fin 8) (h : Fin 16) (t s : Fin 8192) :
    (tops x (ix4 b h t s) : EReal) = Finset.univ.fold max ⊥ fun k : Fin 8192 => (x (ix4 b h t k) : EReal) := by
  unfold tops
  refine (spread_apply _ b h t s).trans ?_
  have e : ∀ y : FVec Ideal S8x16x8192 .f32, (maximumf (broadcastInDim S8x16x8192 ![] bcast_S_S8x16x8192 (constant (F := Ideal) S_ .f32 0xFF800000#32)) y (ix3 b h t) : EReal) = y (ix3 b h t) := by
    intro y
    pointwise
    rw [Cert.FoxIdeal.Value.ofBits_neg_inf, max_eq_right bot_le]
  exact (e _).trans (top1_apply x b h t)

theorem two_word : Ideal.ofBits .f32 0x40000000#32 = ((2 : ℝ) : EReal) := by
  simp [Ideal.ofBits, Ideal.ieee]
  norm_cast
  norm_num

theorem log_two : Ideal.log (Ideal.ofBits .f32 0x40000000#32) = ((Real.log 2 : ℝ) : EReal) := by
  rw [two_word]
  exact if_neg (by norm_num)

theorem le_word (s t : Fin 8192) : IntOp.cmpi .sle (BitVec.ofNat 32 s.val) (BitVec.ofNat 32 t.val) = if s.val ≤ t.val then 1#1 else 0#1 := by
  have := s.isLt
  have := t.isLt
  rw [WordCmp.cmpi_sle_of_lt (by rw [BitVec.toNat_ofNat]; omega) (by rw [BitVec.toNat_ofNat]; omega)]
  simp only [BitVec.toNat_ofNat, Nat.mod_eq_of_lt (show s.val < 2 ^ 32 by omega), Nat.mod_eq_of_lt (show t.val < 2 ^ 32 by omega)]
  by_cases h : s.val ≤ t.val <;> simp [h]

theorem scores_apply (q k : Vec Ideal S8x8192x1024 .bf16) (cf : Vec Ideal S8x8192x128 .f32) (b : Fin 8) (h : Fin 16) (t s : Fin 8192) :
    (scores q k cf (ix4 b h t s) : EReal) = if s.val ≤ t.val then logit q k cf b h t s * ((Real.log 2 : ℝ) : EReal) else ⊥ := by
  unfold scores
  pointwise
  rw [show (id (constant (F := Ideal) S_ .f32 0xFF800000#32) ix0 : EReal) = ⊥ from Cert.FoxIdeal.Value.ofBits_neg_inf, log_two, le_word s t]
  by_cases hs : s.val ≤ t.val
  · rw [if_pos hs, if_pos hs]
    refine (if_pos rfl).trans ?_
    unfold logit
    congr 4
    funext d
    congr 2 <;> (congr 1; exact Fin.ext (congrArg (· + d.val) (Nat.mul_comm _ _)))
  · rw [if_neg hs, if_neg hs]
    exact if_neg (by decide)

end Cert.FoxRefIdeal.Value

end
-- ==== Proof.Equal.lean ====
/- The kernel's fold over blocks of keys is the reference's softmax. -/
module

public import proofs.«01_k».proof.Proof.Ref

@[expose] public section

set_option maxRecDepth 16384

noncomputable section

namespace Cert.FoxRefIdeal.Value

open Idealize.ShloMosaic
open Cert.FoxRefIdeal Cert.FoxIdeal.Value Cert.Soft

variable (Q K V : FVec Ideal S8x8192x1024 .bf16) (C : FVec Ideal S8x8192x128 .f32)

theorem sum_real {n : ℕ} (f : Fin n → EReal) (hf : ∀ i, ∃ r : ℝ, f i = r) : ∃ r : ℝ, ∑ i, f i = r := by
  refine Finset.sum_induction f (fun x : EReal => ∃ r : ℝ, x = r) ?_ ⟨0, EReal.coe_zero.symm⟩ fun i _ => hf i
  rintro _ _ ⟨x, rfl⟩ ⟨y, rfl⟩
  exact ⟨x + y, (EReal.coe_add x y).symm⟩

/-- Over real queries, keys and gates a logit is real. -/
theorem logit_real (hQ : ∀ i, ∃ r : ℝ, (Q i : EReal) = r) (hK : ∀ i, ∃ r : ℝ, (K i : EReal) = r)
    (hC : ∀ (b : Fin 8) (t : Fin 8192) (c : Fin 16), ∃ r : ℝ, (C (ix3 b t ⟨c.val, by omega⟩) : EReal) = r)
    (b : Fin 8) (h : Fin 16) (t k : Fin 8192) : ∃ r : ℝ, logit Q K C b h t k = r := by
  obtain ⟨x, hx⟩ := sum_real (fun d : Fin 64 => (Q (ix3 b t ⟨64 * h.val + d.val, by omega⟩) : EReal) * (K (ix3 b k ⟨64 * h.val + d.val, by omega⟩) : EReal))
    (fun d => by
      obtain ⟨y, hy⟩ := hQ (ix3 b t ⟨64 * h.val + d.val, by omega⟩)
      obtain ⟨z, hz⟩ := hK (ix3 b k ⟨64 * h.val + d.val, by omega⟩)
      exact ⟨y * z, by rw [hy, hz, EReal.coe_mul]⟩)
  obtain ⟨y, hy⟩ := hC b t h
  obtain ⟨z, hz⟩ := hC b k h
  refine ⟨x + y - z, ?_⟩
  unfold logit
  rw [hx, hy, hz, EReal.coe_sub, EReal.coe_add]

theorem scores_aOf (b : Fin 8) (h : Fin 16) (t s : Fin 8192) :
    (scores Q K C (ix4 b h t s) : EReal) = aOf Q K C b h t s.val * ((Real.log 2 : ℝ) : EReal) := by
  rw [scores_apply]
  unfold aOf
  rw [dif_pos s.isLt]
  by_cases hs : s.val ≤ t.val
  · rw [if_pos hs, if_pos hs]
  · rw [if_neg hs, if_neg hs, EReal.bot_mul_coe_of_pos (Real.log_pos (by norm_num))]

theorem mix_eq (hQ : ∀ i, ∃ r : ℝ, (Q i : EReal) = r) (hK : ∀ i, ∃ r : ℝ, (K i : EReal) = r)
    (hC : ∀ (b : Fin 8) (t : Fin 8192) (c : Fin 16), ∃ r : ℝ, (C (ix3 b t ⟨c.val, by omega⟩) : EReal) = r)
    (b : Fin 8) (t : Fin 8192) (l : Fin 1024) :
    entry Q K V C b t l = mix (scores Q K C) (tops (scores Q K C)) V (ix3 b t l) := by
  rw [mix_apply]
  simp only [tops_apply, scores_aOf]
  unfold entry
  have hr := logit_real Q K C hQ hK hC b ⟨l.val / 64, by omega⟩ t
  refine (row_eq (aOf Q K C b ⟨l.val / 64, by omega⟩ t) (vOf V b l) ?_ (n := t.val / 512 + 1) (k₀ := t.val) (K := 8192) (by omega) ?_ (by omega) ?_ _ rfl).trans ?_
  · intro k
    unfold aOf
    split
    · rename_i hk
      split
      · obtain ⟨x, hx⟩ := hr ⟨k, hk⟩
        rw [hx]; exact EReal.coe_ne_top x
      · exact bot_ne_top
    · exact bot_ne_top
  · unfold aOf
    rw [dif_pos t.isLt, if_pos le_rfl]
    obtain ⟨x, hx⟩ := hr t
    rw [hx]; exact EReal.coe_ne_bot x
  · intro k hk
    unfold aOf
    split
    · rw [if_neg (by omega)]
    · rfl
  · refine Finset.sum_congr rfl fun k _ => ?_
    congr 1
    unfold vOf
    rw [dif_pos k.isLt]

theorem whole_eq (hQ : ∀ i, ∃ r : ℝ, (Q i : EReal) = r) (hK : ∀ i, ∃ r : ℝ, (K i : EReal) = r)
    (hC : ∀ (b : Fin 8) (t : Fin 8192) (c : Fin 16), ∃ r : ℝ, (C (ix3 b t ⟨c.val, by omega⟩) : EReal) = r) :
    whole Q K V C = mix (scores Q K C) (tops (scores Q K C)) V := by
  funext i
  obtain ⟨b, t, l, rfl⟩ : ∃ (b : Fin 8) (t : Fin 8192) (l : Fin 1024), i = ix3 b t l := ⟨i 0, i 1, i 2, by
    funext a
    match a with
    | ⟨0, _⟩ => rfl
    | ⟨1, _⟩ => rfl
    | ⟨2, _⟩ => rfl⟩
  exact mix_eq Q K V C hQ hK hC b t l

end Cert.FoxRefIdeal.Value

end
-- ==== Proof.Pre.lean ====
/- What the precondition says of the arguments: queries, keys and cumulative gates are real numbers. -/
module

public import proofs.«01_k».proof.Pre_finite
public import Idealize.ShloMosaic.Lib.Pipeline.ValueKit
public import Idealize.ShloMosaic.Lib.ReduceAll

@[expose] public section

set_option maxRecDepth 16384

noncomputable section

namespace Cert.Pre_finite

open Idealize.ShloMosaic

theorem facts : Facts := ⟨by decide, by decide, by decide, by decide, by decide, by decide, by decide⟩

/-- A value whose absolute value is less than +∞ is a real number. -/
theorem real_of_lt (x : EReal) (h : Ideal.cmp .olt (max x (-x)) (Ideal.ofBits .f32 0x7F800000#32) = 1#1) : ∃ r : ℝ, x = r := by
  have e : Ideal.ofBits .f32 0x7F800000#32 = ⊤ := by simp [Ideal.ofBits, Ideal.ieee]
  rw [e] at h
  induction x using EReal.rec with
  | bot => exact absurd h (by simp [Ideal.cmp])
  | top => exact absurd h (by simp [Ideal.cmp])
  | coe r => exact ⟨r, rfl⟩

theorem and_one (a b : BitVec 1) : IntOp.andi a b = 1#1 → a = 1#1 ∧ b = 1#1 := by
  revert a b
  decide

theorem real_args [Facts] (q k v : FVec Ideal S8x8192x1024 .bf16) (cf : FVec Ideal S8x8192x128 .f32) (h : fn q k v cf = fun _ => 1#1) :
    (∀ i, ∃ r : ℝ, (q i : EReal) = r) ∧ (∀ i, ∃ r : ℝ, (k i : EReal) = r)
      ∧ ∀ (b : Fin 8) (t : Fin 8192) (c : Fin 16), ∃ r : ℝ, (cf (ix3 b t ⟨c.val, by omega⟩) : EReal) = r := by
  have h0 := congrFun h ix0
  obtain ⟨hqk, hc⟩ := and_one _ _ h0
  obtain ⟨hq, hk⟩ := and_one _ _ hqk
  refine ⟨fun i => ?_, fun i => ?_, fun b t c => ?_⟩
  · exact real_of_lt _ (Host.reduce_andi_all _ _ _ _ ix0 hq i)
  · exact real_of_lt _ (Host.reduce_andi_all _ _ _ _ ix0 hk i)
  · have hx := Host.reduce_andi_all _ _ _ _ ix0 hc (ix3 b t c)
    have e : extractStridedSlice S8x8192x16 ![0, 0, 0] cf Facts.slices_S8x8192x128_S8x8192x16_0_0_0 (ix3 b t c) = cf (ix3 b t ⟨c.val, by omega⟩) := by
      pointwise
    rw [← e]
    exact real_of_lt _ hx

end Cert.Pre_finite

end
-- ==== Proof.StreamPoint.lean ====
/- The streams' kernel at one grid point: its payloads entry by entry, and what its blocks hold. -/
module

public import proofs.«01_k».proof.Proof.Gen.StreamsIdeal.Value
public import Idealize.ShloMosaic.Lib.Pipeline.ValueKit
public import Idealize.ShloMosaic.Lib.KernelVsHost
public import Idealize.ShloMosaic.Lib.Pipeline.ReadBack

@[expose] public section

set_option maxRecDepth 16384

noncomputable section

namespace Cert.StreamsIdeal.Value

open Idealize.ShloMosaic Idealize.ShloMosaic.TcCoe Idealize.SL.Sem
open Cert.StreamsIdeal Cert.StreamsIdeal.Gen

/-- One entry of a normed and modulated row. -/
def hAt (X : Vec Ideal S8x8192x1024 .f32) (Sh Sc : Vec Ideal S8x1x1024 .f32) (G : Vec Ideal S1024 .f32) (b : Fin 8) (t : Fin 8192) (d : Fin 1024) : EReal :=
  (X (ix3 b t d) : EReal) * Ideal.rsqrt (Ideal.div (∑ x : Fin 1024, (X (ix3 b t x) : EReal) * (X (ix3 b t x) : EReal)) (Ideal.ofBits FTy.f32 1149239296#32) + Ideal.ofBits FTy.f32 897988541#32)
    * (G (ix1 d) : EReal) * (1 + (Sc (ix3 b 0 d) : EReal)) + (Sh (ix3 b 0 d) : EReal)

/-- One entry of its product with a matrix. -/
def dotAt {n : ℕ} (X : Vec Ideal S8x8192x1024 .f32) (Sh Sc : Vec Ideal S8x1x1024 .f32) (G : Vec Ideal S1024 .f32) (W : Vec Ideal (⟨2, ![1024, n]⟩ : Shape) .f32)
    (b : Fin 8) (t : Fin 8192) (j : Fin n) : EReal :=
  ∑ d : Fin 1024, hAt X Sh Sc G b t d * (W (ix2 d j) : EReal)

/-- A forget gate's logit. -/
def zAt (X : Vec Ideal S8x8192x1024 .f32) (Sh Sc : Vec Ideal S8x1x1024 .f32) (G : Vec Ideal S1024 .f32) (W : Vec Ideal S1024x128 .f32) (B : Vec Ideal S128 .f32)
    (b : Fin 8) (t : Fin 8192) (l : Fin 128) : EReal :=
  dotAt (n := 128) X Sh Sc G W b t l + (B (ix1 l) : EReal)

/-- The gate's logarithm, base e. -/
def lsig (z : EReal) : EReal := min z 0 - Ideal.log1p (Ideal.exp (0 - max z (-z)))

/-- The same in base two. -/
def lAt (X : Vec Ideal S8x8192x1024 .f32) (Sh Sc : Vec Ideal S8x1x1024 .f32) (G : Vec Ideal S1024 .f32) (W : Vec Ideal S1024x128 .f32) (B : Vec Ideal S128 .f32)
    (b : Fin 8) (t : Fin 8192) (l : Fin 128) : EReal :=
  (((Real.log 2)⁻¹ : ℝ) : EReal) * lsig (zAt X Sh Sc G W B b t l)

theorem log2e : (Named.named (F := Ideal) κ (φ := .f32) "log2_e" 1069066811#32 : EReal) = (((Real.log 2)⁻¹ : ℝ) : EReal) := rfl

theorem log2e8 : (Named.named (F := Ideal) κ (φ := .f32) "log2_e_8" 1043900987#32 : EReal) = (((Real.log 256)⁻¹ : ℝ) : EReal) := rfl

theorem pay5_apply (v0 : Vec Ideal S1x512x1024 .f32) (v2 : Vec Ideal S1x1024 .f32) (v4 v6 : Vec Ideal S1x1x1024 .f32) (r : Fin 512) (d : Fin 1024) :
    (k0_pay5 v0 v2 v4 v6 (ix2 r d) : EReal)
    = (v0 (ix3 0 r d) : EReal) * Ideal.rsqrt (Ideal.div (∑ x : Fin 1024, (v0 (ix3 0 r x) : EReal) * (v0 (ix3 0 r x) : EReal)) (Ideal.ofBits FTy.f32 1149239296#32) + Ideal.ofBits FTy.f32 897988541#32)
      * (v2 (ix2 0 d) : EReal) * (1 + (v4 (ix3 0 0 d) : EReal)) + (v6 (ix3 0 0 d) : EReal) := by
  pointwise [k0_pay5, k0_pay4]

theorem pay6_apply (v0 : Vec Ideal S1x512x1024 .f32) (v2 : Vec Ideal S1x1024 .f32) (v4 : Vec Ideal S1x1x1024 .f32) (r : Fin 512) (d : Fin 1024) :
    (k0_pay6 v0 v2 v4 (ix2 r d) : EReal)
    = (v0 (ix3 0 r d) : EReal) * Ideal.rsqrt (Ideal.div (∑ x : Fin 1024, (v0 (ix3 0 r x) : EReal) * (v0 (ix3 0 r x) : EReal)) (Ideal.ofBits FTy.f32 1149239296#32) + Ideal.ofBits FTy.f32 897988541#32)
      * (v2 (ix2 0 d) : EReal) * (1 + (v4 (ix3 0 0 d) : EReal)) := by
  pointwise [k0_pay6, k0_pay4]

theorem pay9_apply (h : FVec Ideal S512x1024 .f32) (w : Vec Ideal S1024x2048 .bf16) (r : Fin 512) (l : Fin 1024) :
    (k0_pay9 h w (ix3 0 r l) : EReal) = ∑ x : Fin 1024, (h (ix2 r x) : EReal) * (w (ix2 x ⟨l.val, by omega⟩) : EReal) := by
  pointwise [k0_pay9, k0_pay8, k0_pay7]

theorem pay10_apply (h : FVec Ideal S512x1024 .f32) (w : Vec Ideal S1024x2048 .bf16) (r : Fin 512) (l : Fin 1024) :
    (k0_pay10 h w (ix3 0 r l) : EReal) = ∑ x : Fin 1024, (h (ix2 r x) : EReal) * (w (ix2 x ⟨1024 + l.val, by omega⟩) : EReal) := by
  pointwise [k0_pay10, k0_pay8, k0_pay7]

theorem pay11_apply (h : FVec Ideal S512x1024 .f32) (s : Vec Ideal S1x1x1024 .f32) (w : Vec Ideal S1024x1024 .bf16) (r : Fin 512) (l : Fin 1024) :
    (k0_pay11 h s w (ix3 0 r l) : EReal)
    = (∑ x : Fin 1024, ((h (ix2 r x) : EReal) + (s (ix3 0 0 x) : EReal)) * (w (ix2 x l) : EReal)) * (((Real.log 256)⁻¹ : ℝ) : EReal) := by
  rw [← log2e8]
  pointwise [k0_pay11]

theorem pay7_apply (h : FVec Ideal S512x1024 .f32) (r : Fin 512) (l : Fin 1024) : (k0_pay7 h (ix2 r l) : EReal) = (h (ix2 r l) : EReal) := by
  pointwise [k0_pay7]

theorem pay12_apply (h : FVec Ideal S512x1024 .f32) (r : Fin 512) (l : Fin 1024) : (k0_pay12 h (ix2 r l) : EReal) = (h (ix2 r l) : EReal) - (h (ix2 r l) : EReal) := by
  pointwise [k0_pay12, k0_pay7]

theorem pay13_apply (h : FVec Ideal S512x1024 .f32) (w : Vec Ideal S1024x128 .bf16) (r : Fin 512) (l : Fin 128) :
    (k0_pay13 h w (ix2 r l) : EReal) = ∑ x : Fin 1024, (h (ix2 r x) : EReal) * (w (ix2 x l) : EReal) := by
  pointwise [k0_pay13, k0_pay7]

theorem pay14_apply (a b : FVec Ideal S512x1024 .bf16) (z : FVec Ideal S512x128 .f32) (w w' : Vec Ideal S1024x128 .bf16) (v : Vec Ideal S1x128 .f32) (r : Fin 512) (l : Fin 128) :
    (k0_pay14 a b z w w' v (ix2 r l) : EReal)
    = (((Real.log 2)⁻¹ : ℝ) : EReal) * lsig ((z (ix2 r l) : EReal) + (∑ x : Fin 1024, (b (ix2 r x) : EReal) * (w (ix2 x l) : EReal)) + (∑ x : Fin 1024, (a (ix2 r x) : EReal) * (w' (ix2 x l) : EReal)) + (v (ix2 0 l) : EReal)) := by
  rw [← log2e]
  unfold lsig
  pointwise [k0_pay14]
  rfl

theorem pay15_apply (l : Fin 128) : (k0_pay15 (F := Ideal) (ix2 0 l) : EReal) = 0 := by
  pointwise [k0_pay15]

theorem pay16_apply (r x : Fin 512) : (k0_pay16 (F := Ideal) (ix2 r x) : EReal) = if x ≤ r then 1 else 0 := by
  have e : (k0_pay16 (F := Ideal) (ix2 r x) : EReal) = FloatOps.sitofp (F := Ideal) .f32 (BitVec.setWidth 32 (IntOp.cmpi .sge (BitVec.ofNat 32 r.val) (BitVec.ofNat 32 x.val))) := by
    pointwise [k0_pay16]
  rw [e]
  have hr := r.isLt
  have hx := x.isLt
  have i (n : ℕ) (hn : n < 512) : (BitVec.ofNat 32 n).toInt = n := by
    rw [BitVec.toInt_eq_toNat_cond, BitVec.toNat_ofNat, Nat.mod_eq_of_lt (by omega), if_pos (by omega)]
  have c : IntOp.cmpi .sge (BitVec.ofNat 32 r.val) (BitVec.ofNat 32 x.val) = BitVec.ofBool (decide (x ≤ r)) := by
    show BitVec.ofBool (BitVec.sle _ _) = _
    unfold BitVec.sle
    rw [i _ hr, i _ hx]
    exact congrArg BitVec.ofBool (decide_eq_decide.mpr Nat.cast_le)
  rw [c]
  have one : (BitVec.setWidth 32 (BitVec.ofBool true)).toInt = 1 := by decide
  have zero : (BitVec.setWidth 32 (BitVec.ofBool false)).toInt = 0 := by decide
  show (((BitVec.setWidth 32 (BitVec.ofBool (decide (x ≤ r)))).toInt : ℝ) : EReal) = _
  by_cases h : x ≤ r
  · rw [if_pos h, decide_eq_true h, one, Int.cast_one]
    rfl
  · rw [if_neg h, decide_eq_false h, zero, Int.cast_zero]
    rfl

theorem pay3_apply (a : FVec Ideal S512x512 .bf16) (b : FVec Ideal S512x128 .bf16) (d : FVec Ideal S512x128 .f32) (l : Fin 128) :
    (k0_pay3 a b d (ix2 0 l) : EReal) = (k0_pay2 a b d (ix3 0 511 l) : EReal) := by
  unfold k0_pay3 k0_pay2
  generalize k0_pay1 a b d = z
  pointwise

theorem pay2_apply (a : FVec Ideal S512x512 .bf16) (b : FVec Ideal S512x128 .bf16) (d : FVec Ideal S512x128 .f32) (r : Fin 512) (l : Fin 128) :
    (k0_pay2 a b d (ix3 0 r l) : EReal) = (d (ix2 r l) : EReal) + ∑ x : Fin 512, (a (ix2 r x) : EReal) * (b (ix2 x l) : EReal) := by
  pointwise [k0_pay2, k0_pay1]

theorem pay17_apply (a b : FVec Ideal S512x1024 .bf16) (z : FVec Ideal S512x128 .f32) (w w' : Vec Ideal S1024x128 .bf16) (v : Vec Ideal S1x128 .f32) (r : Fin 512) (l : Fin 128) :
    (k0_pay17 a b z w w' v (ix2 r l) : EReal) = (k0_pay14 a b z w w' v (ix2 r l) : EReal) := by
  unfold k0_pay17
  generalize k0_pay14 a b z w w' v = q
  pointwise

theorem pay19_apply (a b : FVec Ideal S512x1024 .bf16) (z : FVec Ideal S512x128 .f32) (w w' : Vec Ideal S1024x128 .bf16) (v : Vec Ideal S1x128 .f32) (r : Fin 512) (l : Fin 128) :
    (k0_pay19 a b z w w' v (ix2 r l) : EReal) = (k0_pay14 a b z w w' v (ix2 r l) : EReal) - (k0_pay14 a b z w w' v (ix2 r l) : EReal) := by
  unfold k0_pay19 k0_pay18 k0_pay17
  generalize k0_pay14 a b z w w' v = q
  pointwise

theorem pay20_apply (a b : FVec Ideal S512x1024 .bf16) (z : FVec Ideal S512x128 .f32) (w w' : Vec Ideal S1024x128 .bf16) (v : Vec Ideal S1x128 .f32) (r : Fin 512) (l : Fin 128) :
    (k0_pay20 a b z w w' v (ix2 r l) : EReal) = (k0_pay14 a b z w w' v (ix2 r l) : EReal) - (k0_pay14 a b z w w' v (ix2 r l) : EReal)
      - ((k0_pay14 a b z w w' v (ix2 r l) : EReal) - (k0_pay14 a b z w w' v (ix2 r l) : EReal)) := by
  unfold k0_pay20 k0_pay19 k0_pay18 k0_pay17
  generalize k0_pay14 a b z w w' v = q
  pointwise

theorem pay21_apply (a b : FVec Ideal S512x1024 .bf16) (z : FVec Ideal S512x128 .f32) (w w' : Vec Ideal S1024x128 .bf16) (v u : Vec Ideal S1x128 .f32) (r : Fin 512) (l : Fin 128) :
    (k0_pay21 a b z w w' v u (ix2 r l) : EReal) = (u (ix2 0 l) : EReal) + (∑ x : Fin 512, (k0_pay16 (F := Ideal) (ix2 r x) : EReal) * (k0_pay17 a b z w w' v (ix2 x l) : EReal))
      + ∑ x : Fin 512, (k0_pay16 (F := Ideal) (ix2 r x) : EReal) * (k0_pay19 a b z w w' v (ix2 x l) : EReal) := by
  unfold k0_pay21
  generalize k0_pay17 a b z w w' v = q
  generalize k0_pay19 a b z w w' v = q'
  generalize (k0_pay16 (F := Ideal) : FVec Ideal S512x512 .bf16) = q''
  pointwise

theorem idx : ∀ t : Fin cfg0.N,
    win0_0.index t = ![(grid0.coords t 0).val, (grid0.coords t 1).val, 0]
    ∧ win0_1.index t = ![(grid0.coords t 0).val, 0, 0]
    ∧ win0_2.index t = ![(grid0.coords t 0).val, 0, 0]
    ∧ win0_3.index t = ![0, 0]
    ∧ win0_4.index t = ![(grid0.coords t 0).val, 0, 0]
    ∧ win0_5.index t = ![(grid0.coords t 0).val, 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0]
    ∧ win0_15.index t = ![(grid0.coords t 0).val, (grid0.coords t 1).val, 0] :=
  (by decide +kernel : ∀ t : Fin grid0.N, _)

theorem linear : ∀ t : Fin cfg0.N, t.val = 16 * (grid0.coords t 0).val + (grid0.coords t 1).val :=
  (by decide +kernel : ∀ t : Fin grid0.N, _)

variable (m : (ℓ : Loc nD τ sig) → Buf (Elt Ideal) ℓ) (c : Dev nD)

abbrev argX : Vec Ideal S8x8192x1024 .f32 := m ((c : Thread nD τ).loc main_arg0)
abbrev argSh : Vec Ideal S8x1x1024 .f32 := m ((c : Thread nD τ).loc main_arg1)
abbrev argSc : Vec Ideal S8x1x1024 .f32 := m ((c : Thread nD τ).loc main_arg2)
abbrev argG : Vec Ideal S1024 .f32 := m ((c : Thread nD τ).loc main_arg3)
abbrev argQSh : Vec Ideal S8x1x1024 .f32 := m ((c : Thread nD τ).loc main_arg4)
abbrev argQSc : Vec Ideal S8x1x1024 .f32 := m ((c : Thread nD τ).loc main_arg5)
abbrev argQG : Vec Ideal S1024 .f32 := m ((c : Thread nD τ).loc main_arg6)
abbrev argKV : Vec Ideal S1024x2048 .f32 := m ((c : Thread nD τ).loc main_arg7)
abbrev argF : Vec Ideal S1024x128 .f32 := m ((c : Thread nD τ).loc main_arg8)
abbrev argB : Vec Ideal S128 .f32 := m ((c : Thread nD τ).loc main_arg9)
abbrev argQ : Vec Ideal S1024x1024 .f32 := m ((c : Thread nD τ).loc main_arg10)

abbrev bOf (t : Fin cfg0.N) : Fin 8 := grid0.coords t 0
abbrev qOf (t : Fin cfg0.N) : Fin 16 := grid0.coords t 1
/-- The row of the sequence a block's row is. -/
abbrev rowOf (t : Fin cfg0.N) (r : Fin 512) : Fin 8192 := ⟨512 * (qOf t).val + r.val, by have := (qOf t).isLt; omega⟩

theorem iblk0_apply (t : Fin cfg0.N) (r : Fin 512) (d : Fin 1024) : (iblk m c 0 t (ix3 0 r d) : EReal) = (argX m c (ix3 (bOf t) (rowOf t r) d) : EReal) := by
  blk_point [iblk, V, idx t]
  all_goals (first | unfold bOf | unfold qOf) <;> omega

theorem iblk1_apply (t : Fin cfg0.N) (d : Fin 1024) : (iblk m c 1 t (ix3 0 0 d) : EReal) = (argSh m c (ix3 (bOf t) 0 d) : EReal) := by
  blk_point [iblk, V, idx t]
  all_goals (first | unfold bOf | unfold qOf) <;> omega

theorem iblk2_apply (t : Fin cfg0.N) (d : Fin 1024) : (iblk m c 2 t (ix3 0 0 d) : EReal) = (argSc m c (ix3 (bOf t) 0 d) : EReal) := by
  blk_point [iblk, V, idx t]
  all_goals (first | unfold bOf | unfold qOf) <;> omega

theorem iblk4_apply (t : Fin cfg0.N) (d : Fin 1024) : (iblk m c 4 t (ix3 0 0 d) : EReal) = (argQSh m c (ix3 (bOf t) 0 d) : EReal) := by
  blk_point [iblk, V, idx t]
  all_goals (first | unfold bOf | unfold qOf) <;> omega

theorem iblk5_apply (t : Fin cfg0.N) (d : Fin 1024) : (iblk m c 5 t (ix3 0 0 d) : EReal) = (argQSc m c (ix3 (bOf t) 0 d) : EReal) := by
  blk_point [iblk, V, idx t]
  all_goals (first | unfold bOf | unfold qOf) <;> omega

theorem gain_row (g : Vec Ideal S1024 .f32) : (shapeCast S1x1024 g shapeCasts_S1024_S1x1024 : Vec Ideal S1x1024 .f32) = fun i => g (ix1 (n0 := 1024) (i 1)) := by
  funext i
  obtain ⟨l, rfl⟩ : ∃ l : Fin 1024, i = ix2 (n0 := 1) (n1 := 1024) 0 l := ⟨i 1, by
    funext a
    match a with
    | ⟨0, _⟩ => exact Fin.ext (by have := (i 0).isLt; change _ < 1 at this; show (i 0).val = 0; omega)
    | ⟨1, _⟩ => rfl⟩
  show shapeCast S1x1024 g shapeCasts_S1024_S1x1024 (ix2 0 l) = g (ix1 l)
  pointwise

theorem bias_row (g : Vec Ideal S128 .f32) : (shapeCast S1x128 g shapeCasts_S128_S1x128 : Vec Ideal S1x128 .f32) = fun i => g (ix1 (n0 := 128) (i 1)) := by
  funext i
  obtain ⟨l, rfl⟩ : ∃ l : Fin 128, i = ix2 (n0 := 1) (n1 := 128) 0 l := ⟨i 1, by
    funext a
    match a with
    | ⟨0, _⟩ => exact Fin.ext (by have := (i 0).isLt; change _ < 1 at this; show (i 0).val = 0; omega)
    | ⟨1, _⟩ => rfl⟩
  show shapeCast S1x128 g shapeCasts_S128_S1x128 (ix2 0 l) = g (ix1 l)
  pointwise

theorem iblk3_apply (t : Fin cfg0.N) (d : Fin 1024) : (iblk m c 3 t (ix2 0 d) : EReal) = (argG m c (ix1 d) : EReal) := by
  have e : V m c main_v4 = (fun i => argG m c (ix1 (n0 := 1024) (i 1)) : Vec Ideal S1x1024 .f32) := gain_row (argG m c)
  blk_point [iblk, e, idx t]

theorem iblk6_apply (t : Fin cfg0.N) (d : Fin 1024) : (iblk m c 6 t (ix2 0 d) : EReal) = (argQG m c (ix1 d) : EReal) := by
  have e : V m c main_v5 = (fun i => argQG m c (ix1 (n0 := 1024) (i 1)) : Vec Ideal S1x1024 .f32) := gain_row (argQG m c)
  blk_point [iblk, e, idx t]

theorem iblk10_apply (t : Fin cfg0.N) (d : Fin 128) : (iblk m c 10 t (ix2 0 d) : EReal) = (argB m c (ix1 d) : EReal) := by
  have e : V m c main_v7 = (fun i => argB m c (ix1 (n0 := 128) (i 1)) : Vec Ideal S1x128 .f32) := bias_row (argB m c)
  blk_point [iblk, e, idx t]

theorem iblk7_apply (t : Fin cfg0.N) (d : Fin 1024) (l : Fin 2048) : (iblk m c 7 t (ix2 d l) : EReal) = (argKV m c (ix2 d l) : EReal) := by
  have e : V m c main_v6 = (truncf .bf16 (argKV m c : FVec Ideal S1024x2048 .f32) bitsLt_bf16_f32 : FVec Ideal S1024x2048 .bf16) := rfl
  blk_point [iblk, e, idx t]

theorem iblk8_apply (t : Fin cfg0.N) (d : Fin 1024) (l : Fin 128) : (iblk m c 8 t (ix2 d l) : EReal) = (argF m c (ix2 d l) : EReal) := by
  have e : V m c main_v0 = (truncf .bf16 (argF m c : FVec Ideal S1024x128 .f32) bitsLt_bf16_f32 : FVec Ideal S1024x128 .bf16) := rfl
  blk_point [iblk, e, idx t]

theorem iblk9_apply (t : Fin cfg0.N) (d : Fin 1024) (l : Fin 128) : (iblk m c 9 t (ix2 d l) : EReal) = (argF m c (ix2 d l) : EReal) - (argF m c (ix2 d l) : EReal) := by
  have e : V m c main_v3 = (truncf .bf16 (subf (argF m c : FVec Ideal S1024x128 .f32) (extf .f32 (truncf .bf16 (argF m c : FVec Ideal S1024x128 .f32) bitsLt_bf16_f32 : FVec Ideal S1024x128 .bf16) bitsLt_bf16_f32)) bitsLt_bf16_f32 : FVec Ideal S1024x128 .bf16) := rfl
  blk_point [iblk, e, idx t]

theorem iblk11_apply (t : Fin cfg0.N) (d l : Fin 1024) : (iblk m c 11 t (ix2 d l) : EReal) = (argQ m c (ix2 d l) : EReal) := by
  have e : V m c main_v8 = (truncf .bf16 (argQ m c : FVec Ideal S1024x1024 .f32) bitsLt_bf16_f32 : FVec Ideal S1024x1024 .bf16) := rfl
  blk_point [iblk, e, idx t]

/-- The block's normed rows. -/
def hB (t : Fin cfg0.N) : FVec Ideal S512x1024 .f32 := k0_pay5 (iblk m c 0 t) (iblk m c 3 t) (iblk m c 2 t) (iblk m c 1 t)

theorem hB_apply (t : Fin cfg0.N) (r : Fin 512) (d : Fin 1024) : (hB m c t (ix2 r d) : EReal)
    = hAt (argX m c) (argSh m c) (argSc m c) (argG m c) (bOf t) (rowOf t r) d := by
  refine (pay5_apply _ _ _ _ r d).trans ?_
  simp only [iblk0_apply, iblk1_apply, iblk2_apply, iblk3_apply]
  rfl

theorem out_q (t : Fin cfg0.N) : (outsAt0 m c t.val t.isLt).1 = k0_pay11 (k0_pay6 (iblk m c 0 t) (iblk m c 6 t) (iblk m c 5 t)) (iblk m c 4 t) (iblk m c 11 t) := by
  funext y
  by_cases h0 : t.val % 16 = 0
  · rw [outsAt0_A m c t h0]
    dsimp only
    frame_out
  · rw [outsAt0_B m c t h0]
    dsimp only
    frame_out

theorem out_k (t : Fin cfg0.N) : (outsAt0 m c t.val t.isLt).2.1 = k0_pay9 (hB m c t) (iblk m c 7 t) := by
  unfold hB
  funext y
  by_cases h0 : t.val % 16 = 0
  · rw [outsAt0_A m c t h0]
    dsimp only
    frame_out
  · rw [outsAt0_B m c t h0]
    dsimp only
    frame_out

theorem out_v (t : Fin cfg0.N) : (outsAt0 m c t.val t.isLt).2.2.1 = k0_pay10 (hB m c t) (iblk m c 7 t) := by
  unfold hB
  funext y
  by_cases h0 : t.val % 16 = 0
  · rw [outsAt0_A m c t h0]
    dsimp only
    frame_out
  · rw [outsAt0_B m c t h0]
    dsimp only
    frame_out

/-- The running sum carried into a block. -/
def carry (t : Fin cfg0.N) : Vec Ideal S1x128 .f32 :=
  if t.val % 16 = 0 then (k0_pay15 (F := Ideal) : FVec Ideal S1x128 .f32)
  else (outsAt0 m c (t.val - 1) (lt_of_le_of_lt (Nat.sub_le _ _) t.isLt)).2.2.2.2

/-- The last product of a block's running sum, and what it is added to. -/
def lowB (t : Fin cfg0.N) : FVec Ideal S512x128 .bf16 :=
  k0_pay20 (k0_pay7 (hB m c t)) (k0_pay12 (hB m c t)) (k0_pay13 (hB m c t) (iblk m c 8 t)) (iblk m c 8 t) (iblk m c 9 t) (iblk m c 10 t)

def highB (t : Fin cfg0.N) : FVec Ideal S512x128 .f32 :=
  k0_pay21 (k0_pay7 (hB m c t)) (k0_pay12 (hB m c t)) (k0_pay13 (hB m c t) (iblk m c 8 t)) (iblk m c 8 t) (iblk m c 9 t) (iblk m c 10 t) (carry m c t)

theorem out_cf (t : Fin cfg0.N) : (outsAt0 m c t.val t.isLt).2.2.2.1 = k0_pay2 (k0_pay16 (F := Ideal)) (lowB m c t) (highB m c t) := by
  unfold lowB highB carry hB
  funext y
  by_cases h0 : t.val % 16 = 0
  · rw [if_pos h0, outsAt0_A m c t h0]
    dsimp only
    frame_out
  · rw [if_neg h0, outsAt0_B m c t h0]
    dsimp only
    frame_out
    rw [read_unread_whole]

theorem out_carry (t : Fin cfg0.N) : (outsAt0 m c t.val t.isLt).2.2.2.2 = k0_pay3 (k0_pay16 (F := Ideal)) (lowB m c t) (highB m c t) := by
  unfold lowB highB carry hB
  funext y
  by_cases h0 : t.val % 16 = 0
  · rw [if_pos h0, outsAt0_A m c t h0]
    dsimp only
    frame_out
  · rw [if_neg h0, outsAt0_B m c t h0]
    dsimp only
    frame_out
    rw [read_unread_whole]

end Cert.StreamsIdeal.Value

end
-- ==== Proof.StreamReal.lean ====
/- Where the streams' arguments are real numbers, so are the normed rows, the gates' logits and their logarithms. -/
module

public import proofs.«01_k».proof.Proof.StreamPoint

@[expose] public section

set_option maxRecDepth 16384

noncomputable section

namespace Cert.StreamsIdeal.Value

open Idealize.ShloMosaic Idealize.ShloMosaic.TcCoe Idealize.SL.Sem
open Cert.StreamsIdeal Cert.StreamsIdeal.Gen

/-- A value is a real number. -/
def Real' (x : EReal) : Prop := ∃ r : ℝ, x = r

theorem Real'.add {x y : EReal} : Real' x → Real' y → Real' (x + y)
  | ⟨a, ha⟩, ⟨b, hb⟩ => ⟨a + b, by rw [ha, hb, EReal.coe_add]⟩

theorem Real'.mul {x y : EReal} : Real' x → Real' y → Real' (x * y)
  | ⟨a, ha⟩, ⟨b, hb⟩ => ⟨a * b, by rw [ha, hb, EReal.coe_mul]⟩

theorem Real'.one : Real' 1 := ⟨1, rfl⟩

theorem Real'.sub_self {x : EReal} : Real' x → x - x = 0
  | ⟨a, ha⟩ => by rw [ha, ← EReal.coe_sub, _root_.sub_self]; rfl

theorem Real'.sum {ι : Type} (s : Finset ι) (f : ι → EReal) (h : ∀ i ∈ s, Real' (f i)) : Real' (∑ i ∈ s, f i) := by
  classical
  induction s using Finset.induction_on with
  | empty => exact ⟨0, rfl⟩
  | insert a s ha ih =>
    rw [Finset.sum_insert ha]
    exact (h a (Finset.mem_insert_self a s)).add (ih fun i hi => h i (Finset.mem_insert_of_mem hi))

/-- A sum of squares is a real number that is not negative. -/
theorem sum_squares {ι : Type} (s : Finset ι) (f : ι → EReal) (h : ∀ i ∈ s, Real' (f i)) : ∃ r : ℝ, 0 ≤ r ∧ ∑ i ∈ s, f i * f i = r := by
  classical
  induction s using Finset.induction_on with
  | empty => exact ⟨0, le_refl 0, rfl⟩
  | insert a s ha ih =>
    obtain ⟨r, hr, e⟩ := ih fun i hi => h i (Finset.mem_insert_of_mem hi)
    obtain ⟨x, hx⟩ := h a (Finset.mem_insert_self a s)
    refine ⟨x * x + r, add_nonneg (mul_self_nonneg x) hr, ?_⟩
    rw [Finset.sum_insert ha, e, hx, EReal.coe_add, EReal.coe_mul]

theorem ofBits_width : Ideal.ofBits FTy.f32 1149239296#32 = ((1024 : ℝ) : EReal) := by
  simp [Ideal.ofBits, Ideal.ieee]
  rw [← EReal.coe_mul]
  norm_num

theorem ofBits_eps : ∃ e : ℝ, 0 < e ∧ Ideal.ofBits FTy.f32 897988541#32 = (e : EReal) := by
  simp only [Ideal.ofBits, Ideal.ieee]
  refine ⟨_, ?_, rfl⟩
  norm_num
  rw [if_neg (by decide)]
  positivity

theorem rsqrt_real (x : EReal) (h : ∃ r : ℝ, 0 ≤ r ∧ x = r) : Real' (Ideal.rsqrt (Ideal.div x (Ideal.ofBits FTy.f32 1149239296#32) + Ideal.ofBits FTy.f32 897988541#32)) := by
  obtain ⟨r, hr, rfl⟩ := h
  obtain ⟨e, he, ee⟩ := ofBits_eps
  rw [ofBits_width, ee]
  have hd : Ideal.div (r : EReal) ((1024 : ℝ) : EReal) = ((r * (1024 : ℝ)⁻¹ : ℝ) : EReal) := by
    unfold Ideal.div
    rw [if_neg (by norm_num), ← EReal.coe_inv, EReal.coe_mul]
  rw [hd, ← EReal.coe_add]
  have hp : 0 < r * (1024 : ℝ)⁻¹ + e := by positivity
  refine ⟨(Real.sqrt (r * (1024 : ℝ)⁻¹ + e))⁻¹, ?_⟩
  show (if r * (1024 : ℝ)⁻¹ + e < 0 then ⊥ else if r * (1024 : ℝ)⁻¹ + e = 0 then ⊤ else (((Real.sqrt (r * (1024 : ℝ)⁻¹ + e))⁻¹ : ℝ) : EReal)) = _
  rw [if_neg hp.le.not_gt, if_neg hp.ne']

/-- An infinite sum has the reciprocal root 0. -/
theorem rsqrt_top : Ideal.rsqrt (Ideal.div ⊤ (Ideal.ofBits FTy.f32 1149239296#32) + Ideal.ofBits FTy.f32 897988541#32) = 0 := by
  obtain ⟨e, _, ee⟩ := ofBits_eps
  rw [ofBits_width, ee]
  have hd : Ideal.div (⊤ : EReal) ((1024 : ℝ) : EReal) = ⊤ := by
    unfold Ideal.div
    rw [if_neg (by norm_num), ← EReal.coe_inv]
    exact EReal.top_mul_coe_of_pos (by positivity)
  rw [hd, EReal.top_add_coe]
  rfl

theorem sq_nonneg' (x : EReal) : 0 ≤ x * x := by
  induction x using EReal.rec with
  | bot => simp
  | top => simp
  | coe r => rw [← EReal.coe_mul]; exact_mod_cast mul_self_nonneg r

/-- A row divided by its root mean square is real, whatever the row: one infinite entry makes the divisor infinite. -/
theorem norm_real (f : Fin 1024 → EReal) (d : Fin 1024) :
    Real' (f d * Ideal.rsqrt (Ideal.div (∑ x : Fin 1024, f x * f x) (Ideal.ofBits FTy.f32 1149239296#32) + Ideal.ofBits FTy.f32 897988541#32)) := by
  by_cases h : ∀ i, Real' (f i)
  · exact (h d).mul (rsqrt_real _ (sum_squares _ _ fun i _ => h i))
  · obtain ⟨i, hi⟩ := not_forall.mp h
    have ht : f i * f i = ⊤ := by
      rcases eq_or_ne (f i) ⊤ with e | e
      · rw [e]; rfl
      · rcases eq_or_ne (f i) ⊥ with e' | e'
        · rw [e']; rfl
        · exact absurd ⟨(f i).toReal, (EReal.coe_toReal e e').symm⟩ hi
    have hs : ∑ x : Fin 1024, f x * f x = ⊤ :=
      top_le_iff.mp (ht ▸ Finset.single_le_sum (f := fun x => f x * f x) (fun x _ => sq_nonneg' (f x)) (Finset.mem_univ i))
    rw [hs, rsqrt_top, mul_zero]
    exact ⟨0, rfl⟩

/-- What is asked of the arguments of the gates: nothing of the stream and of the bias. -/
structure Finite (Sh Sc : Vec Ideal S8x1x1024 .f32) (G : Vec Ideal S1024 .f32) (W : Vec Ideal S1024x128 .f32) : Prop where
  sh : ∀ i, Real' (Sh i)
  sc : ∀ i, Real' (Sc i)
  g : ∀ i, Real' (G i)
  w : ∀ i, Real' (W i)

variable {Sh Sc : Vec Ideal S8x1x1024 .f32} {G : Vec Ideal S1024 .f32} {W : Vec Ideal S1024x128 .f32}

theorem Finite.hAt (h : Finite Sh Sc G W) (X : Vec Ideal S8x8192x1024 .f32) (b : Fin 8) (t : Fin 8192) (d : Fin 1024) : Real' (hAt X Sh Sc G b t d) := by
  unfold Value.hAt
  exact (((norm_real (fun x => (X (ix3 b t x) : EReal)) d).mul (h.g _)).mul (Real'.one.add (h.sc _))).add (h.sh _)

/-- The gate's logarithm at a real number. -/
def lsigR (r : ℝ) : ℝ := min r 0 - Real.log (1 + Real.exp (-|r|))

theorem coe_min (a b : ℝ) : min (a : EReal) (b : EReal) = ((min a b : ℝ) : EReal) := (EReal.coe_strictMono.monotone.map_min).symm

theorem coe_max (a b : ℝ) : max (a : EReal) (b : EReal) = ((max a b : ℝ) : EReal) := (EReal.coe_strictMono.monotone.map_max).symm

theorem log1p_exp (r : ℝ) : Ideal.log1p (Ideal.exp ((r : ℝ) : EReal)) = ((Real.log (1 + Real.exp r) : ℝ) : EReal) := by
  have hp : 0 < 1 + Real.exp r := by positivity
  show Ideal.log (1 + ((Real.exp r : ℝ) : EReal)) = _
  rw [show (1 : EReal) = ((1 : ℝ) : EReal) from rfl, ← EReal.coe_add]
  exact if_neg hp.not_ge

theorem lsig_coe (r : ℝ) : lsig (r : EReal) = (lsigR r : EReal) := by
  unfold lsig lsigR
  rw [← EReal.coe_neg, coe_max, show (0 : EReal) = ((0 : ℝ) : EReal) from rfl, coe_min, ← EReal.coe_sub, log1p_exp, ← EReal.coe_sub, zero_sub]
  rfl

theorem log1p_exp_bot : Ideal.log1p (Ideal.exp ⊥) = 0 := by
  show Ideal.log (1 + 0) = 0
  rw [add_zero, show (1 : EReal) = ((1 : ℝ) : EReal) from rfl]
  refine (if_neg (by norm_num)).trans ?_
  rw [Real.log_one]
  rfl

theorem lsig_top : lsig ⊤ = 0 := by
  unfold lsig
  rw [max_eq_left le_top, EReal.sub_top, log1p_exp_bot, min_eq_right le_top, sub_zero]

theorem lsig_bot : lsig ⊥ = ⊥ := by
  unfold lsig
  rw [min_eq_left bot_le, EReal.bot_sub]

/-- A gate's logarithm is never +∞. -/
theorem lsig_ne_top (z : EReal) : lsig z ≠ ⊤ := by
  induction z using EReal.rec with
  | bot => rw [lsig_bot]; exact bot_ne_top
  | top => rw [lsig_top]; exact EReal.zero_ne_top
  | coe r => rw [lsig_coe]; exact EReal.coe_ne_top _

theorem inv_log2_pos : 0 < (Real.log 2)⁻¹ := inv_pos.mpr (Real.log_pos (by norm_num))

theorem lAt_ne_top (X : Vec Ideal S8x8192x1024 .f32) (Sh Sc : Vec Ideal S8x1x1024 .f32) (G : Vec Ideal S1024 .f32) (W : Vec Ideal S1024x128 .f32) (B : Vec Ideal S128 .f32)
    (b : Fin 8) (t : Fin 8192) (l : Fin 128) : lAt X Sh Sc G W B b t l ≠ ⊤ := by
  unfold Value.lAt
  generalize zAt X Sh Sc G W B b t l = z
  induction z using EReal.rec with
  | bot => rw [lsig_bot, EReal.coe_mul_bot_of_pos inv_log2_pos]; exact bot_ne_top
  | top => rw [lsig_top, mul_zero]; exact EReal.zero_ne_top
  | coe r => rw [lsig_coe, ← EReal.coe_mul]; exact EReal.coe_ne_top _

/-- The three pieces of a number below +∞ add up to it, and so do their products with 0 or 1. -/
theorem pieces (x : EReal) (h : x ≠ ⊤) : x + (x - x) + (x - x - (x - x)) = x := by
  induction x using EReal.rec with
  | bot => rfl
  | top => exact absurd rfl h
  | coe r => rw [← EReal.coe_sub, _root_.sub_self, ← EReal.coe_sub, _root_.sub_self, ← EReal.coe_add, ← EReal.coe_add, add_zero, add_zero]

theorem sum_pieces {n : ℕ} (a : EReal) (w f : Fin n → EReal) (hw : ∀ x, w x = 0 ∨ w x = 1) (hf : ∀ x, f x ≠ ⊤) :
    a + ∑ x, w x * f x + ∑ x, w x * (f x - f x) + ∑ x, w x * (f x - f x - (f x - f x)) = a + ∑ x, w x * f x := by
  rw [add_assoc, add_assoc, ← Finset.sum_add_distrib, ← Finset.sum_add_distrib]
  refine congrArg (a + ·) (Finset.sum_congr rfl fun x _ => ?_)
  rcases hw x with e | e
  · simp only [e, zero_mul, add_zero]
  · simp only [e, one_mul]
    rw [← add_assoc, pieces _ (hf x)]

/-- The reference's negated softplus is the gate's logarithm. -/
theorem softplus (r : ℝ) : -(max (-(r : EReal)) 0 + Ideal.log1p (Ideal.exp (-(max (-(r : EReal) - 0) (-(-(r : EReal) - 0)))))) = (lsigR r : EReal) := by
  unfold lsigR
  rw [sub_zero, neg_neg, ← EReal.coe_neg, coe_max, show (0 : EReal) = ((0 : ℝ) : EReal) from rfl, coe_max, ← EReal.coe_neg, log1p_exp, ← EReal.coe_add, ← EReal.coe_neg]
  have e : max (-r) r = |r| := (max_comm _ _).trans abs_eq_max_neg.symm
  rw [e]
  congr 1
  rcases le_total r 0 with hr | hr
  · rw [max_eq_left (by linarith), min_eq_left hr]; ring
  · rw [max_eq_right (by linarith), min_eq_right hr]; ring

/-- The same for every extended real. -/
theorem softplus' (z : EReal) : -(max (-z) 0 + Ideal.log1p (Ideal.exp (-(max (-z - 0) (-(-z - 0)))))) = lsig z := by
  induction z using EReal.rec with
  | bot =>
    rw [lsig_bot, EReal.neg_bot, max_eq_left le_top, sub_zero, EReal.neg_top, max_eq_left bot_le, EReal.neg_top]
    rw [log1p_exp_bot, add_zero, EReal.neg_top]
  | top =>
    have h := lsig_top
    unfold lsig at h ⊢
    rw [max_eq_left le_top, EReal.sub_top, min_eq_right le_top] at h ⊢
    rw [EReal.neg_top, max_eq_right bot_le, sub_zero, EReal.neg_bot, max_eq_right bot_le, EReal.neg_top, zero_add]
    exact (zero_sub _).symm
  | coe r => rw [softplus, lsig_coe]

/-- A scale that is a real number and not negative comes out of a sum. -/
theorem sum_scale (k : ℝ) (hk : 0 ≤ k) (n : ℕ) (f : ℕ → EReal) : (k : EReal) * ∑ s ∈ Finset.range n, f s = ∑ s ∈ Finset.range n, (k : EReal) * f s := by
  induction n with
  | zero => rw [Finset.sum_range_zero, Finset.sum_range_zero, mul_zero]
  | succ n ih =>
    rw [Finset.sum_range_succ, Finset.sum_range_succ, ← ih]
    exact EReal.left_distrib_of_nonneg_of_ne_top (EReal.coe_nonneg.mpr hk) (EReal.coe_ne_top k) _ _

end Cert.StreamsIdeal.Value

end
-- ==== Proof.StreamSum.lean ====
/- The arrays the streams' kernel leaves: queries, keys, values, and the running sum of the gates. -/
module

public import proofs.«01_k».proof.Proof.StreamReal

@[expose] public section

set_option maxRecDepth 16384

noncomputable section

namespace Cert.StreamsIdeal.Value

open Idealize.ShloMosaic Idealize.ShloMosaic.TcCoe Idealize.SL.Sem
open Cert.StreamsIdeal Cert.StreamsIdeal.Gen

/-- A gate's logarithm at a row given by its number. -/
def lN (X : Vec Ideal S8x8192x1024 .f32) (Sh Sc : Vec Ideal S8x1x1024 .f32) (G : Vec Ideal S1024 .f32) (W : Vec Ideal S1024x128 .f32) (B : Vec Ideal S128 .f32)
    (b : Fin 8) (l : Fin 128) (n : ℕ) : EReal :=
  if h : n < 8192 then lAt X Sh Sc G W B b ⟨n, h⟩ l else 0

def wholeQ (X : Vec Ideal S8x8192x1024 .f32) (Sh Sc : Vec Ideal S8x1x1024 .f32) (G : Vec Ideal S1024 .f32) (W : Vec Ideal S1024x1024 .f32) : Vec Ideal S8x8192x1024 .bf16 :=
  fun i => dotAt (n := 1024) X Sh Sc G W ⟨(i 0).val, (i 0).isLt⟩ ⟨(i 1).val, (i 1).isLt⟩ ⟨(i 2).val, (i 2).isLt⟩ * (((Real.log 256)⁻¹ : ℝ) : EReal)

def wholeK (X : Vec Ideal S8x8192x1024 .f32) (Sh Sc : Vec Ideal S8x1x1024 .f32) (G : Vec Ideal S1024 .f32) (W : Vec Ideal S1024x2048 .f32) : Vec Ideal S8x8192x1024 .bf16 :=
  fun i => dotAt (n := 2048) X Sh Sc G W ⟨(i 0).val, (i 0).isLt⟩ ⟨(i 1).val, (i 1).isLt⟩ ⟨(i 2).val, lt_trans (i 2).isLt (by decide)⟩

def wholeV (X : Vec Ideal S8x8192x1024 .f32) (Sh Sc : Vec Ideal S8x1x1024 .f32) (G : Vec Ideal S1024 .f32) (W : Vec Ideal S1024x2048 .f32) : Vec Ideal S8x8192x1024 .bf16 :=
  fun i => dotAt (n := 2048) X Sh Sc G W ⟨(i 0).val, (i 0).isLt⟩ ⟨(i 1).val, (i 1).isLt⟩ ⟨1024 + (i 2).val, Nat.add_lt_add_left (show (i 2).val < 1024 from (i 2).isLt) 1024⟩

def wholeC (X : Vec Ideal S8x8192x1024 .f32) (Sh Sc : Vec Ideal S8x1x1024 .f32) (G : Vec Ideal S1024 .f32) (W : Vec Ideal S1024x128 .f32) (B : Vec Ideal S128 .f32) : Vec Ideal S8x8192x128 .f32 :=
  fun i => ∑ s ∈ Finset.range ((i 1).val + 1), lN X Sh Sc G W B ⟨(i 0).val, (i 0).isLt⟩ ⟨(i 2).val, (i 2).isLt⟩ s

/-- A row of the triangle of ones times a column is the sum of the column's start. -/
theorem tri_sum (f : ℕ → EReal) (r : Fin 512) : ∑ x : Fin 512, (if x ≤ r then (1 : EReal) else 0) * f x.val = ∑ s ∈ Finset.range (r.val + 1), f s := by
  have hr := r.isLt
  have e : ∀ x : Fin 512, (if x ≤ r then (1 : EReal) else 0) * f x.val = if x.val ≤ r.val then f x.val else 0 := by
    intro x
    by_cases h : x ≤ r
    · rw [if_pos h, if_pos (show x.val ≤ r.val from h), one_mul]
    · rw [if_neg h, if_neg (show ¬x.val ≤ r.val from h), zero_mul]
  rw [Finset.sum_congr rfl fun x _ => e x, Fin.sum_univ_eq_sum_range (fun s => if s ≤ r.val then f s else 0) 512, ← Finset.sum_filter]
  refine Finset.sum_congr ?_ fun _ _ => rfl
  ext s
  simp only [Finset.mem_filter, Finset.mem_range]
  omega

variable (m : (ℓ : Loc nD τ sig) → Buf (Elt Ideal) ℓ) (c : Dev nD)

/-- What is asked of the arguments the gates read. -/
abbrev Ok : Prop := Finite (argSh m c) (argSc m c) (argG m c) (argF m c)

/-- A block's gates. -/
def gB (t : Fin cfg0.N) : FVec Ideal S512x128 .f32 :=
  k0_pay14 (k0_pay7 (hB m c t)) (k0_pay12 (hB m c t)) (k0_pay13 (hB m c t) (iblk m c 8 t)) (iblk m c 8 t) (iblk m c 9 t) (iblk m c 10 t)

theorem gB_apply (ok : Ok m c) (t : Fin cfg0.N) (r : Fin 512) (l : Fin 128) : (gB m c t (ix2 r l) : EReal)
    = lAt (argX m c) (argSh m c) (argSc m c) (argG m c) (argF m c) (argB m c) (bOf t) (rowOf t r) l := by
  refine (pay14_apply _ _ _ _ _ _ r l).trans ?_
  unfold lAt
  congr 2
  rw [pay13_apply, iblk10_apply]
  simp only [pay12_apply, pay7_apply, hB_apply, iblk8_apply, iblk9_apply]
  have z1 : ∀ x : Fin 1024, (hAt (argX m c) (argSh m c) (argSc m c) (argG m c) (bOf t) (rowOf t r) x - hAt (argX m c) (argSh m c) (argSc m c) (argG m c) (bOf t) (rowOf t r) x) * (argF m c (ix2 x l) : EReal) = 0 := fun x => by
    rw [(ok.hAt _ _ _ _).sub_self, zero_mul]
  have z2 : ∀ x : Fin 1024, hAt (argX m c) (argSh m c) (argSc m c) (argG m c) (bOf t) (rowOf t r) x * ((argF m c (ix2 x l) : EReal) - (argF m c (ix2 x l) : EReal)) = 0 := fun x => by
    rw [(ok.w _).sub_self, mul_zero]
  rw [Finset.sum_congr rfl fun x _ => z1 x, Finset.sum_congr rfl fun x _ => z2 x, Finset.sum_const_zero, add_zero, add_zero]
  rfl

/-- A block's running sums: the three pieces of a gate together are the gate. -/
theorem cfB_apply (ok : Ok m c) (t : Fin cfg0.N) (r : Fin 512) (l : Fin 128) : (k0_pay2 (k0_pay16 (F := Ideal)) (lowB m c t) (highB m c t) (ix3 0 r l) : EReal)
    = (carry m c t (ix2 0 l) : EReal) + ∑ s ∈ Finset.range (r.val + 1), lN (argX m c) (argSh m c) (argSc m c) (argG m c) (argF m c) (argB m c) (bOf t) l (512 * (qOf t).val + s) := by
  have h := fun x : Fin 512 => gB_apply m c ok t x l
  unfold gB at h
  have e2 : ∀ x : Fin 512, (k0_pay19 (k0_pay7 (hB m c t)) (k0_pay12 (hB m c t)) (k0_pay13 (hB m c t) (iblk m c 8 t)) (iblk m c 8 t) (iblk m c 9 t) (iblk m c 10 t) (ix2 x l) : EReal)
      = lAt (argX m c) (argSh m c) (argSc m c) (argG m c) (argF m c) (argB m c) (bOf t) (rowOf t x) l - lAt (argX m c) (argSh m c) (argSc m c) (argG m c) (argF m c) (argB m c) (bOf t) (rowOf t x) l := fun x => by
    rw [pay19_apply, h x]
  have e3 : ∀ x : Fin 512, (lowB m c t (ix2 x l) : EReal)
      = lAt (argX m c) (argSh m c) (argSc m c) (argG m c) (argF m c) (argB m c) (bOf t) (rowOf t x) l - lAt (argX m c) (argSh m c) (argSc m c) (argG m c) (argF m c) (argB m c) (bOf t) (rowOf t x) l
        - (lAt (argX m c) (argSh m c) (argSc m c) (argG m c) (argF m c) (argB m c) (bOf t) (rowOf t x) l - lAt (argX m c) (argSh m c) (argSc m c) (argG m c) (argF m c) (argB m c) (bOf t) (rowOf t x) l) := fun x => by
    refine (pay20_apply _ _ _ _ _ _ x l).trans ?_
    rw [h x]
  have hw : ∀ x : Fin 512, (k0_pay16 (F := Ideal) (ix2 r x) : EReal) = 0 ∨ (k0_pay16 (F := Ideal) (ix2 r x) : EReal) = 1 := fun x => by
    rw [pay16_apply]
    split
    · exact Or.inr rfl
    · exact Or.inl rfl
  refine (pay2_apply _ _ _ r l).trans ?_
  refine (congrArg₂ (· + ·) (pay21_apply _ _ _ _ _ _ _ r l) rfl).trans ?_
  simp only [e2, e3, pay17_apply, h]
  refine (sum_pieces _ _ _ hw fun x => lAt_ne_top _ _ _ _ _ _ _ _ _).trans ?_
  refine congrArg₂ (· + ·) rfl ?_
  refine Eq.trans (Finset.sum_congr rfl fun x _ => ?_) (tri_sum (fun s => lN (argX m c) (argSh m c) (argSc m c) (argG m c) (argF m c) (argB m c) (bOf t) l (512 * (qOf t).val + s)) r)
  rw [pay16_apply]
  refine congrArg₂ (· * ·) rfl ?_
  unfold lN
  rw [dif_pos (show 512 * (qOf t).val + x.val < 8192 from (rowOf t x).isLt)]

/-- What is carried into a block is the sum of its sequence's gates before it. -/
theorem carry_apply (ok : Ok m c) (l : Fin 128) : ∀ (n : ℕ) (hn : n < cfg0.N), (carry m c ⟨n, hn⟩ (ix2 0 l) : EReal)
    = ∑ s ∈ Finset.range (512 * (qOf ⟨n, hn⟩).val), lN (argX m c) (argSh m c) (argSc m c) (argG m c) (argF m c) (argB m c) (bOf ⟨n, hn⟩) l s := by
  intro n
  induction n with
  | zero =>
    intro hn
    have e : carry m c ⟨0, hn⟩ = (k0_pay15 (F := Ideal) : FVec Ideal S1x128 .f32) := if_pos rfl
    have hq := linear ⟨0, hn⟩
    have e0 : (qOf ⟨0, hn⟩).val = 0 := by
      show (grid0.coords ⟨0, hn⟩ 1).val = 0
      dsimp only at hq
      omega
    rw [e, e0, Nat.mul_zero, Finset.sum_range_zero]
    exact pay15_apply l
  | succ n ih =>
    intro hn
    have ht := linear ⟨n + 1, hn⟩
    have hq : (grid0.coords ⟨n + 1, hn⟩ 1).val < 16 := (qOf ⟨n + 1, hn⟩).isLt
    by_cases h : (n + 1) % 16 = 0
    · have e : carry m c ⟨n + 1, hn⟩ = (k0_pay15 (F := Ideal) : FVec Ideal S1x128 .f32) := if_pos h
      have e0 : (qOf ⟨n + 1, hn⟩).val = 0 := by
        show (grid0.coords ⟨n + 1, hn⟩ 1).val = 0
        dsimp only at ht
        omega
      rw [e, e0, Nat.mul_zero, Finset.sum_range_zero]
      exact pay15_apply l
    · have e : carry m c ⟨n + 1, hn⟩ = (outsAt0 m c n (Nat.lt_of_succ_lt hn)).2.2.2.2 := if_neg h
      have hp := linear ⟨n, Nat.lt_of_succ_lt hn⟩
      have hpq : (grid0.coords ⟨n, Nat.lt_of_succ_lt hn⟩ 1).val < 16 := (qOf ⟨n, Nat.lt_of_succ_lt hn⟩).isLt
      dsimp only at ht hp
      have eb : bOf ⟨n, Nat.lt_of_succ_lt hn⟩ = bOf ⟨n + 1, hn⟩ := Fin.ext (by
        show (grid0.coords ⟨n, Nat.lt_of_succ_lt hn⟩ 0).val = (grid0.coords ⟨n + 1, hn⟩ 0).val
        omega)
      have eq : (qOf ⟨n + 1, hn⟩).val = (qOf ⟨n, Nat.lt_of_succ_lt hn⟩).val + 1 := by
        show (grid0.coords ⟨n + 1, hn⟩ 1).val = (grid0.coords ⟨n, Nat.lt_of_succ_lt hn⟩ 1).val + 1
        omega
      rw [e, show (outsAt0 m c n (Nat.lt_of_succ_lt hn)).2.2.2.2 = _ from out_carry m c ⟨n, Nat.lt_of_succ_lt hn⟩]
      refine (pay3_apply _ _ _ l).trans ?_
      refine (cfB_apply m c ok ⟨n, Nat.lt_of_succ_lt hn⟩ 511 l).trans ?_
      rw [ih (Nat.lt_of_succ_lt hn), eb, eq, Nat.mul_succ]
      exact (Finset.sum_range_add _ _ 512).symm

theorem finalC (ok : Ok m c) : (dats m 0 c).arrAt 15 cfg0.N = wholeC (argX m c) (argSh m c) (argSc m c) (argG m c) (argF m c) (argB m c) := by
  refine (dats m 0 c).arrAt_eq_of_covers 15 _ (by decide +kernel) fun t _ y => ?_
  blk_simp
  rw [after0_15, out_cf]
  obtain ⟨r, d, rfl⟩ : ∃ (r : Fin 512) (d : Fin 128), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (cfB_apply m c ok t r d).trans ?_
  rw [carry_apply m c ok d t.val t.isLt, ← Finset.sum_range_add]
  unfold wholeC
  refine Finset.sum_congr (congrArg Finset.range ?_) fun s _ => ?_
  · blk_simp [idx t]
    exact congrArg (· + (r.val + 1)) (Nat.mul_comm 512 (grid0.coords t 1).val)
  · refine congrArg₂ (fun b l => lN (argX m c) (argSh m c) (argSc m c) (argG m c) (argF m c) (argB m c) b l s) ?_ ?_ <;> (apply Fin.ext; blk_simp [idx t])
    exact (Nat.add_zero _).symm

theorem finalQ : (dats m 0 c).arrAt 12 cfg0.N = wholeQ (argX m c) (argQSh m c) (argQSc m c) (argQG m c) (argQ m c) := by
  refine (dats m 0 c).arrAt_eq_of_covers 12 _ (by decide +kernel) fun t _ y => ?_
  blk_simp
  rw [after0_12, out_q]
  obtain ⟨r, d, rfl⟩ : ∃ (r : Fin 512) (d : Fin 1024), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (pay11_apply _ _ _ r d).trans ?_
  simp only [pay6_apply, iblk0_apply, iblk4_apply, iblk5_apply, iblk6_apply, iblk11_apply]
  unfold wholeQ
  refine congrArg₂ (· * ·) ?_ rfl
  change dotAt (n := 1024) (argX m c) (argQSh m c) (argQSc m c) (argQG m c) (argQ m c) (bOf t) (rowOf t r) d = _
  congr 1 <;> (apply Fin.ext; blk_simp [idx t])
  · exact (Nat.add_zero _).symm
  · exact congrArg (· + r.val) (Nat.mul_comm _ _)

theorem finalK : (dats m 0 c).arrAt 13 cfg0.N = wholeK (argX m c) (argSh m c) (argSc m c) (argG m c) (argKV m c) := by
  refine (dats m 0 c).arrAt_eq_of_covers 13 _ (by decide +kernel) fun t _ y => ?_
  blk_simp
  rw [after0_13, out_k]
  obtain ⟨r, d, rfl⟩ : ∃ (r : Fin 512) (d : Fin 1024), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (pay9_apply _ _ r d).trans ?_
  simp only [hB_apply, iblk7_apply]
  unfold wholeK
  change dotAt (n := 2048) (argX m c) (argSh m c) (argSc m c) (argG m c) (argKV m c) (bOf t) (rowOf t r) ⟨d.val, _⟩ = _
  congr 1 <;> (apply Fin.ext; blk_simp [idx t])
  · exact (Nat.add_zero _).symm
  · exact congrArg (· + r.val) (Nat.mul_comm _ _)

theorem finalV : (dats m 0 c).arrAt 14 cfg0.N = wholeV (argX m c) (argSh m c) (argSc m c) (argG m c) (argKV m c) := by
  refine (dats m 0 c).arrAt_eq_of_covers 14 _ (by decide +kernel) fun t _ y => ?_
  blk_simp
  rw [after0_14, out_v]
  obtain ⟨r, d, rfl⟩ : ∃ (r : Fin 512) (d : Fin 1024), y = ix3 0 r d := ⟨y 1, y 2, by
    funext a
    match a with
    | ⟨0, _⟩ => exact Fin.ext (by have := (y 0).isLt; change _ < 1 at this; show (y 0).val = 0; omega)
    | ⟨1, _⟩ => rfl
    | ⟨2, _⟩ => rfl⟩
  refine (pay10_apply _ _ r d).trans ?_
  simp only [hB_apply, iblk7_apply]
  unfold wholeV
  change dotAt (n := 2048) (argX m c) (argSh m c) (argSc m c) (argG m c) (argKV m c) (bOf t) (rowOf t r) ⟨1024 + d.val, _⟩ = _
  congr 1 <;> (apply Fin.ext; blk_simp [idx t])
  · exact (Nat.add_zero _).symm
  · exact congrArg (· + r.val) (Nat.mul_comm _ _)

end Cert.StreamsIdeal.Value

end
-- ==== Proof.StreamRef.lean ====
/- The streams of the reference, read entry by entry, are the arrays the kernel leaves. -/
module

public import proofs.«01_k».proof.Proof.StreamSum
public import proofs.«01_k».proof.Proof.Gen.StreamsRefIdeal.Run

@[expose] public section

set_option maxRecDepth 16384

noncomputable section

namespace Cert.StreamsRefIdeal.Value

open Idealize.ShloMosaic Idealize.ShloMosaic.TcCoe Idealize.SL.Sem
open Cert.StreamsRefIdeal Cert.StreamsRefIdeal.Gen
open Cert.StreamsIdeal.Value (hAt dotAt zAt lsig lAt lN wholeQ wholeK wholeV wholeC softplus' sum_scale inv_log2_pos)

def hOut (X : FVec Ideal S8x8192x1024 .f32) (Sh Sc : FVec Ideal S8x1x1024 .f32) (G : FVec Ideal S1024 .f32) : FVec Ideal S8x8192x1024 .f32 :=
  addf (mulf (mulf (mulf X (broadcastInDim S8x8192x1024 ![0, 1, 2] bcast_S8x8192x1_S8x8192x1024_0_1_2
      (Host.rsqrt (addf (Host.divf (broadcastInDim S8x8192x1 ![0, 1] bcast_S8x8192_S8x8192x1_0_1
          (Host.reduceAdd (mulf X X) (constant (F := Ideal) S_ .f32 0x00000000#32) reducesTo_S8x8192x1024_S8x8192_d2 h_S_))
        (broadcastInDim S8x8192x1 ![] bcast_S_S8x8192x1 (constant (F := Ideal) S_ .f32 0x44800000#32)))
        (broadcastInDim S8x8192x1 ![] bcast_S_S8x8192x1 (constant (F := Ideal) S_ .f32 0x358637BD#32))))))
    (broadcastInDim S8x8192x1024 ![0, 1, 2] bcast_S1x1x1024_S8x8192x1024_0_1_2 (broadcastInDim S1x1x1024 ![2] bcast_S1024_S1x1x1024_2 G)))
    (broadcastInDim S8x8192x1024 ![0, 1, 2] bcast_S8x1x1024_S8x8192x1024_0_1_2 (addf (broadcastInDim S8x1x1024 ![] bcast_S_S8x1x1024 (constant (F := Ideal) S_ .f32 0x3F800000#32)) Sc)))
    (broadcastInDim S8x8192x1024 ![0, 1, 2] bcast_S8x1x1024_S8x8192x1024_0_1_2 Sh)

def qOut (H : FVec Ideal S8x8192x1024 .f32) (W : FVec Ideal S1024x1024 .f32) : FVec Ideal S8x8192x1024 .bf16 :=
  truncf .bf16 (Host.divf (mulf (Host.dotGeneral dot_S8x8192x1024_S1024x1024_S8x8192x1024_2_0_01_1_n_n none H W) (broadcastInDim S8x8192x1024 ![] bcast_S_S8x8192x1024 (constant (F := Ideal) S_ .f32 0x3E000000#32)))
    (broadcastInDim S8x8192x1024 ![] bcast_S_S8x8192x1024 (Host.log (constant (F := Ideal) S_ .f32 0x40000000#32)))) bitsLt_bf16_f32

def pOut (H : FVec Ideal S8x8192x1024 .f32) (W : FVec Ideal S1024x2048 .f32) : FVec Ideal S8x8192x2048 .f32 :=
  Host.dotGeneral dot_S8x8192x1024_S1024x2048_S8x8192x2048_2_0_01_1_n_n none H W

def kOut (P : FVec Ideal S8x8192x2048 .f32) : FVec Ideal S8x8192x1024 .bf16 :=
  truncf .bf16 (extractStridedSlice S8x8192x1024 ![0, 0, 0] P slices_S8x8192x2048_S8x8192x1024_0_0_0) bitsLt_bf16_f32

def vOut (P : FVec Ideal S8x8192x2048 .f32) : FVec Ideal S8x8192x1024 .bf16 :=
  truncf .bf16 (extractStridedSlice S8x8192x1024 ![0, 0, 1024] P slices_S8x8192x2048_S8x8192x1024_0_0_1024) bitsLt_bf16_f32

def zOut (H : FVec Ideal S8x8192x1024 .f32) (W : FVec Ideal S1024x128 .f32) (B : FVec Ideal S128 .f32) : FVec Ideal S8x8192x128 .f32 :=
  addf (Host.dotGeneral dot_S8x8192x1024_S1024x128_S8x8192x128_2_0_01_1_n_n none H W)
    (broadcastInDim S8x8192x128 ![0, 1, 2] bcast_S1x1x128_S8x8192x128_0_1_2 (broadcastInDim S1x1x128 ![2] bcast_S128_S1x1x128_2 B))

def zeros : FVec Ideal S8x8192x128 .f32 := broadcastInDim S8x8192x128 ![] bcast_S_S8x8192x128 (constant (F := Ideal) S_ .f32 0x00000000#32)

def lOut (Z : FVec Ideal S8x8192x128 .f32) : FVec Ideal S8x8192x128 .f32 :=
  Host.negf (select (cmpf .une (subf (Host.negf Z) zeros) (subf (Host.negf Z) zeros)) (addf (Host.negf Z) zeros)
    (addf (maximumf (Host.negf Z) zeros) (Host.log1p (Host.exp (Host.negf (Host.absf (subf (Host.negf Z) zeros)))))))

def sOut (L : FVec Ideal S8x8192x128 .f32) : FVec Ideal S8x8192x128 .f32 :=
  Host.reduceWindowAdd ![1, 8192, 1] ![1, 1, 1] ![0, 8191, 0] ![0, 0, 0] L (broadcastInDim S_ ![] bcast_S_S_ (constant (F := Ideal) S_ .f32 0x00000000#32))
    reduceWindows_S8x8192x128_S8x8192x128_w1s1p0_0_w8192s1p8191_0_w1s1p0_0 h_S_

def cOut (S : FVec Ideal S8x8192x128 .f32) : FVec Ideal S8x8192x128 .f32 :=
  Host.divf S (broadcastInDim S8x8192x128 ![] bcast_S_S8x8192x128 (Host.log (constant (F := Ideal) S_ .f32 0x40000000#32)))

variable (m : (ℓ : Loc nD τ sig) → Buf (Elt Ideal) ℓ) (c : Dev nD)
theorem res_eq : res_main_v57 (F := Ideal) m c = cOut (sOut (lOut (zOut (hOut (m ((c : Thread nD τ).loc main_arg0)) (m ((c : Thread nD τ).loc main_arg1)) (m ((c : Thread nD τ).loc main_arg2)) (m ((c : Thread nD τ).loc main_arg3)))
    (m ((c : Thread nD τ).loc main_arg8)) (m ((c : Thread nD τ).loc main_arg9))))) := rfl

theorem hOut_apply (X : FVec Ideal S8x8192x1024 .f32) (Sh Sc : FVec Ideal S8x1x1024 .f32) (G : FVec Ideal S1024 .f32) (b : Fin 8) (t : Fin 8192) (d : Fin 1024) :
    (hOut X Sh Sc G (ix3 b t d) : EReal) = hAt X Sh Sc G b t d := by
  unfold hAt
  pointwise [hOut]

theorem two_word : Ideal.ofBits .f32 0x40000000#32 = ((2 : ℝ) : EReal) := by
  simp [Ideal.ofBits, Ideal.ieee]
  norm_cast
  norm_num

theorem eighth_word : Ideal.ofBits .f32 0x3E000000#32 = ((8⁻¹ : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_word]
  exact if_neg (by norm_num)

theorem log2_pos : 0 < Real.log 2 := Real.log_pos (by norm_num)

theorem div_log (x : EReal) : Ideal.div x ((Real.log 2 : ℝ) : EReal) = x * (((Real.log 2)⁻¹ : ℝ) : EReal) := by
  unfold Ideal.div
  rw [if_neg (by exact_mod_cast log2_pos.ne'), ← EReal.coe_inv]

theorem log256 : (Real.log 256)⁻¹ = 8⁻¹ * (Real.log 2)⁻¹ := by
  rw [show (256 : ℝ) = 2 ^ (8 : ℕ) by norm_num, Real.log_pow, mul_inv]
  norm_num

theorem qOut_apply (H : FVec Ideal S8x8192x1024 .f32) (W : FVec Ideal S1024x1024 .f32) (b : Fin 8) (t : Fin 8192) (j : Fin 1024) :
    (qOut H W (ix3 b t j) : EReal) = (∑ d : Fin 1024, (H (ix3 b t d) : EReal) * (W (ix2 d j) : EReal)) * (((Real.log 256)⁻¹ : ℝ) : EReal) := by
  have e : (qOut H W (ix3 b t j) : EReal) = Ideal.div ((∑ d : Fin 1024, (H (ix3 b t d) : EReal) * (W (ix2 d j) : EReal)) * Ideal.ofBits .f32 0x3E000000#32) (Ideal.log (Ideal.ofBits .f32 0x40000000#32)) := by
    pointwise [qOut]
  rw [e, log_two, div_log, eighth_word, mul_assoc, ← EReal.coe_mul, log256]

theorem pOut_apply (H : FVec Ideal S8x8192x1024 .f32) (W : FVec Ideal S1024x2048 .f32) (b : Fin 8) (t : Fin 8192) (j : Fin 2048) :
    (pOut H W (ix3 b t j) : EReal) = ∑ d : Fin 1024, (H (ix3 b t d) : EReal) * (W (ix2 d j) : EReal) := by
  pointwise [pOut]

theorem kOut_apply (P : FVec Ideal S8x8192x2048 .f32) (b : Fin 8) (t : Fin 8192) (j : Fin 1024) : (kOut P (ix3 b t j) : EReal) = (P (ix3 b t ⟨j.val, by omega⟩) : EReal) := by
  pointwise [kOut]

theorem vOut_apply (P : FVec Ideal S8x8192x2048 .f32) (b : Fin 8) (t : Fin 8192) (j : Fin 1024) : (vOut P (ix3 b t j) : EReal) = (P (ix3 b t ⟨1024 + j.val, by omega⟩) : EReal) := by
  pointwise [vOut]

theorem zOut_apply (H : FVec Ideal S8x8192x1024 .f32) (W : FVec Ideal S1024x128 .f32) (B : FVec Ideal S128 .f32) (b : Fin 8) (t : Fin 8192) (j : Fin 128) :
    (zOut H W B (ix3 b t j) : EReal) = (∑ d : Fin 1024, (H (ix3 b t d) : EReal) * (W (ix2 d j) : EReal)) + (B (ix1 j) : EReal) := by
  pointwise [zOut]

theorem lOut_apply (Z : FVec Ideal S8x8192x128 .f32) (b : Fin 8) (t : Fin 8192) (j : Fin 128) : (lOut Z (ix3 b t j) : EReal) = lsig (Z (ix3 b t j)) := by
  have e : (lOut Z (ix3 b t j) : EReal) = -(Scalar.select (Ideal.cmp .une (-(Z (ix3 b t j) : EReal) - 0) (-(Z (ix3 b t j) : EReal) - 0)) (-(Z (ix3 b t j) : EReal) + 0)
      (max (-(Z (ix3 b t j) : EReal)) 0 + Ideal.log1p (Ideal.exp (-(max (-(Z (ix3 b t j) : EReal) - 0) (-(-(Z (ix3 b t j) : EReal) - 0))))))) := by
    pointwise [lOut, zeros]
    rfl
  refine e.trans (Eq.trans ?_ (softplus' _))
  have hn : ∀ y : EReal, Ideal.cmp .une y y = 0#1 := fun y => by simp [Ideal.cmp]
  rw [hn]
  rfl

theorem cOut_apply (S : FVec Ideal S8x8192x128 .f32) (b : Fin 8) (t : Fin 8192) (j : Fin 128) : (cOut S (ix3 b t j) : EReal) = (S (ix3 b t j) : EReal) * (((Real.log 2)⁻¹ : ℝ) : EReal) := by
  have e : (cOut S (ix3 b t j) : EReal) = Ideal.div (S (ix3 b t j) : EReal) (Ideal.log (Ideal.ofBits .f32 0x40000000#32)) := by
    pointwise [cOut]
  rw [e, log_two, div_log]

/-- A left fold of additions from zero is the sum. -/
theorem foldl_sum (n : ℕ) (g : Fin n → EReal) : (List.finRange n).foldl (fun r i => r + g i) 0 = ∑ i, g i := by
  rw [Fin.sum_univ_def, List.sum_eq_foldl, List.foldl_map]

/-- The window's positions are its rows. -/
def rows (N : ℕ) : Fin N ≃ (⟨3, ![1, N, 1]⟩ : Shape).Idx where
  toFun k := ix3 (n0 := 1) (n1 := N) (n2 := 1) 0 k 0
  invFun w := ⟨(w 1).val, (w 1).isLt⟩
  left_inv k := rfl
  right_inv w := by
    funext a
    match a with
    | ⟨0, _⟩ => exact Fin.ext (by have := (w 0).isLt; change _ < 1 at this; show 0 = (w 0).val; omega)
    | ⟨1, _⟩ => rfl
    | ⟨2, _⟩ => exact Fin.ext (by have := (w 2).isLt; change _ < 1 at this; show 0 = (w 2).val; omega)

/-- A padded window's sum is the sum of a prefix. -/
theorem window_sum (N M : ℕ) (hN : M + 1 = N) (f : ℕ → EReal) (t : Fin N) : ∑ k : Fin N, (if M ≤ t.val + k.val then f (t.val + k.val - M) else 0) = ∑ s ∈ Finset.range (t.val + 1), f s := by
  have ht := t.isLt
  rw [Fin.sum_univ_eq_sum_range (fun k => if M ≤ t.val + k then f (t.val + k - M) else 0) N,
    show Finset.range N = Finset.range ((M - t.val) + (t.val + 1)) from congrArg Finset.range (by omega), Finset.sum_range_add,
    Finset.sum_eq_zero (fun k hk => if_neg (by rw [Finset.mem_range] at hk; omega)), zero_add]
  refine Finset.sum_congr rfl fun s _ => ?_
  rw [if_pos (by omega)]
  exact congrArg f (by omega)

/-- A running sum along the middle axis, as a padded window. -/
theorem window_apply (A N M C : ℕ) (hN : M + 1 = N) (L : (⟨3, ![A, N, C]⟩ : Shape).Idx → EReal)
    (h : (⟨3, ![A, N, C]⟩ : Shape).ReduceWindows (![1, N, 1] : Fin 3 → ℕ) ![1, 1, 1] ![0, M, 0] ![0, 0, 0] (⟨3, ![A, N, C]⟩ : Shape)) (b : Fin A) (t : Fin N) (j : Fin C) :
    Ideal.hostReduceWindowAdd (![1, N, 1] : Fin 3 → ℕ) ![1, 1, 1] ![0, M, 0] ![0, 0, 0] h L 0 (ix3 b t j)
      = ∑ s ∈ Finset.range (t.val + 1), (if h : s < N then L (ix3 b ⟨s, h⟩ j) else 0) := by
  have ht := t.isLt
  rw [← window_sum N M hN]
  unfold Ideal.hostReduceWindowAdd Host.reduceWindow
  refine (foldl_sum _ _).trans ?_
  refine (Equiv.sum_comp ((rows N).trans (Shape.rowMajor (⟨3, ![1, N, 1]⟩ : Shape))) _).symm.trans ?_
  refine Finset.sum_congr rfl fun k _ => ?_
  have hk := k.isLt
  have e : (Shape.rowMajor (⟨3, ![1, N, 1]⟩ : Shape)).symm (((rows N).trans (Shape.rowMajor (⟨3, ![1, N, 1]⟩ : Shape))) k) = rows N k := Equiv.symm_apply_apply _ _
  have e0 : ((Shape.rowMajor (⟨3, ![1, N, 1]⟩ : Shape)).symm (((rows N).trans (Shape.rowMajor (⟨3, ![1, N, 1]⟩ : Shape))) k) 0).val = 0 := by rw [e]; rfl
  have e1 : ((Shape.rowMajor (⟨3, ![1, N, 1]⟩ : Shape)).symm (((rows N).trans (Shape.rowMajor (⟨3, ![1, N, 1]⟩ : Shape))) k) 1).val = k.val := by rw [e]; rfl
  have e2 : ((Shape.rowMajor (⟨3, ![1, N, 1]⟩ : Shape)).symm (((rows N).trans (Shape.rowMajor (⟨3, ![1, N, 1]⟩ : Shape))) k) 2).val = 0 := by rw [e]; rfl
  by_cases h : M ≤ t.val + k.val
  · rw [if_pos h, dif_pos (show t.val + k.val - M < N by omega)]
    refine (dif_pos ?_).trans ?_
    · intro a
      match a with
      | ⟨0, _⟩ => show 0 ≤ b.val * 1 + ((Shape.rowMajor (⟨3, ![1, N, 1]⟩ : Shape)).symm (((rows N).trans (Shape.rowMajor (⟨3, ![1, N, 1]⟩ : Shape))) k) 0).val ∧ b.val * 1 + ((Shape.rowMajor (⟨3, ![1, N, 1]⟩ : Shape)).symm (((rows N).trans (Shape.rowMajor (⟨3, ![1, N, 1]⟩ : Shape))) k) 0).val - 0 < A; omega
      | ⟨1, _⟩ => show M ≤ t.val * 1 + ((Shape.rowMajor (⟨3, ![1, N, 1]⟩ : Shape)).symm (((rows N).trans (Shape.rowMajor (⟨3, ![1, N, 1]⟩ : Shape))) k) 1).val ∧ t.val * 1 + ((Shape.rowMajor (⟨3, ![1, N, 1]⟩ : Shape)).symm (((rows N).trans (Shape.rowMajor (⟨3, ![1, N, 1]⟩ : Shape))) k) 1).val - M < N; omega
      | ⟨2, _⟩ => show 0 ≤ j.val * 1 + ((Shape.rowMajor (⟨3, ![1, N, 1]⟩ : Shape)).symm (((rows N).trans (Shape.rowMajor (⟨3, ![1, N, 1]⟩ : Shape))) k) 2).val ∧ j.val * 1 + ((Shape.rowMajor (⟨3, ![1, N, 1]⟩ : Shape)).symm (((rows N).trans (Shape.rowMajor (⟨3, ![1, N, 1]⟩ : Shape))) k) 2).val - 0 < C; omega
    · refine congrArg L ?_
      funext a
      match a with
      | ⟨0, _⟩ => exact Fin.ext (by show b.val * 1 + ((Shape.rowMajor (⟨3, ![1, N, 1]⟩ : Shape)).symm (((rows N).trans (Shape.rowMajor (⟨3, ![1, N, 1]⟩ : Shape))) k) 0).val - 0 = b.val; omega)
      | ⟨1, _⟩ => exact Fin.ext (by show t.val * 1 + ((Shape.rowMajor (⟨3, ![1, N, 1]⟩ : Shape)).symm (((rows N).trans (Shape.rowMajor (⟨3, ![1, N, 1]⟩ : Shape))) k) 1).val - M = t.val + k.val - M; omega)
      | ⟨2, _⟩ => exact Fin.ext (by show j.val * 1 + ((Shape.rowMajor (⟨3, ![1, N, 1]⟩ : Shape)).symm (((rows N).trans (Shape.rowMajor (⟨3, ![1, N, 1]⟩ : Shape))) k) 2).val - 0 = j.val; omega)
  · rw [if_neg h]
    refine dif_neg ?_
    intro hin
    have h1 := (hin 1).1
    change M ≤ t.val * 1 + ((Shape.rowMajor (⟨3, ![1, N, 1]⟩ : Shape)).symm (((rows N).trans (Shape.rowMajor (⟨3, ![1, N, 1]⟩ : Shape))) k) 1).val at h1
    omega

theorem sOut_apply (L : FVec Ideal S8x8192x128 .f32) (b : Fin 8) (t : Fin 8192) (j : Fin 128) :
    (sOut L (ix3 b t j) : EReal) = ∑ s ∈ Finset.range (t.val + 1), (if h : s < 8192 then (L (ix3 b ⟨s, h⟩ j) : EReal) else 0) := by
  have z : (broadcastInDim S_ ![] bcast_S_S_ (constant (F := Ideal) S_ .f32 0x00000000#32) (Shape.Idx.first h_S_) : EReal) = 0 := by
    show Ideal.ofBits .f32 0x00000000#32 = 0
    simp [Ideal.ofBits, Ideal.ieee]
  unfold sOut Host.reduceWindowAdd
  rw [z]
  exact window_apply 8 8192 8191 128 rfl (fun i => (L i : EReal)) reduceWindows_S8x8192x128_S8x8192x128_w1s1p0_0_w8192s1p8191_0_w1s1p0_0 b t j

theorem split (i : S8x8192x1024.Idx) : ∃ (b : Fin 8) (t : Fin 8192) (l : Fin 1024), i = ix3 b t l := ⟨i 0, i 1, i 2, by
  funext a
  match a with
  | ⟨0, _⟩ => rfl
  | ⟨1, _⟩ => rfl
  | ⟨2, _⟩ => rfl⟩

theorem q_eq (X : FVec Ideal S8x8192x1024 .f32) (Sh Sc : FVec Ideal S8x1x1024 .f32) (G : FVec Ideal S1024 .f32) (W : FVec Ideal S1024x1024 .f32) :
    qOut (hOut X Sh Sc G) W = wholeQ X Sh Sc G W := by
  funext i
  obtain ⟨b, t, l, rfl⟩ := split i
  refine (qOut_apply _ _ b t l).trans (congrArg₂ (· * ·) (Finset.sum_congr rfl fun d _ => ?_) rfl)
  rw [hOut_apply]
  rfl

theorem k_eq (X : FVec Ideal S8x8192x1024 .f32) (Sh Sc : FVec Ideal S8x1x1024 .f32) (G : FVec Ideal S1024 .f32) (W : FVec Ideal S1024x2048 .f32) :
    kOut (pOut (hOut X Sh Sc G) W) = wholeK X Sh Sc G W := by
  funext i
  obtain ⟨b, t, l, rfl⟩ := split i
  refine ((kOut_apply _ b t l).trans (pOut_apply _ _ b t _)).trans ?_
  show _ = dotAt (n := 2048) X Sh Sc G W b t ⟨l.val, by omega⟩
  unfold dotAt
  refine Finset.sum_congr rfl fun d _ => ?_
  rw [hOut_apply]

theorem v_eq (X : FVec Ideal S8x8192x1024 .f32) (Sh Sc : FVec Ideal S8x1x1024 .f32) (G : FVec Ideal S1024 .f32) (W : FVec Ideal S1024x2048 .f32) :
    vOut (pOut (hOut X Sh Sc G) W) = wholeV X Sh Sc G W := by
  funext i
  obtain ⟨b, t, l, rfl⟩ := split i
  refine ((vOut_apply _ b t l).trans (pOut_apply _ _ b t _)).trans ?_
  show _ = dotAt (n := 2048) X Sh Sc G W b t ⟨1024 + l.val, by omega⟩
  unfold dotAt
  refine Finset.sum_congr rfl fun d _ => ?_
  rw [hOut_apply]

theorem z_eq (X : FVec Ideal S8x8192x1024 .f32) (Sh Sc : FVec Ideal S8x1x1024 .f32) (G : FVec Ideal S1024 .f32) (W : FVec Ideal S1024x128 .f32) (B : FVec Ideal S128 .f32)
    (b : Fin 8) (t : Fin 8192) (l : Fin 128) : (zOut (hOut X Sh Sc G) W B (ix3 b t l) : EReal) = zAt X Sh Sc G W B b t l := by
  refine (zOut_apply _ _ _ b t l).trans (congrArg₂ (· + ·) (Finset.sum_congr rfl fun d _ => ?_) rfl)
  rw [hOut_apply]

theorem c_eq (X : FVec Ideal S8x8192x1024 .f32) (Sh Sc : FVec Ideal S8x1x1024 .f32) (G : FVec Ideal S1024 .f32) (W : FVec Ideal S1024x128 .f32) (B : FVec Ideal S128 .f32) :
    cOut (sOut (lOut (zOut (hOut X Sh Sc G) W B))) = wholeC X Sh Sc G W B := by
  funext i
  obtain ⟨b, t, l, rfl⟩ : ∃ (b : Fin 8) (t : Fin 8192) (l : Fin 128), i = ix3 b t l := ⟨i 0, i 1, i 2, by
    funext a
    match a with
    | ⟨0, _⟩ => rfl
    | ⟨1, _⟩ => rfl
    | ⟨2, _⟩ => rfl⟩
  refine (cOut_apply _ b t l).trans ?_
  rw [sOut_apply, mul_comm, sum_scale _ inv_log2_pos.le]
  show _ = ∑ s ∈ Finset.range (t.val + 1), lN X Sh Sc G W B b l s
  refine Finset.sum_congr rfl fun s hs => ?_
  have h : s < 8192 := by have := t.isLt; rw [Finset.mem_range] at hs; omega
  unfold lN
  rw [dif_pos h, dif_pos h, lOut_apply, z_eq]
  rfl

end Cert.StreamsRefIdeal.Value

end
-- ==== Proof.PreStreams.lean ====
/- What the streams' precondition says: the vectors and the matrix behind the forget gates are real numbers. -/
module

public import proofs.«01_k».proof.Pre_finite_streams
public import proofs.«01_k».proof.Proof.Pre
public import proofs.«01_k».proof.Proof.StreamReal

@[expose] public section

set_option maxRecDepth 16384

noncomputable section

namespace Cert.Pre_finite_streams

open Idealize.ShloMosaic
open Cert.Pre_finite (real_of_lt and_one)

theorem facts : Facts := ⟨by decide, by decide, by decide, by decide, by decide, by decide, by decide⟩

theorem finite_args [Facts] (x : FVec Ideal S8x8192x1024 .f32) (sh sc : FVec Ideal S8x1x1024 .f32) (g : FVec Ideal S1024 .f32)
    (qsh qsc : FVec Ideal S8x1x1024 .f32) (qg : FVec Ideal S1024 .f32) (kv : FVec Ideal S1024x2048 .f32) (f : FVec Ideal S1024x128 .f32)
    (b : FVec Ideal S128 .f32) (q : FVec Ideal S1024x1024 .f32) (h : fn x sh sc g qsh qsc qg kv f b q = fun _ => 1#1) :
    Cert.StreamsIdeal.Value.Finite sh sc g f := by
  have h0 := congrFun h ix0
  obtain ⟨h1, hf⟩ := and_one _ _ h0
  obtain ⟨h2, hg⟩ := and_one _ _ h1
  obtain ⟨hsh, hsc⟩ := and_one _ _ h2
  exact
    { sh := fun i => real_of_lt _ (Host.reduce_andi_all _ _ _ _ ix0 hsh i)
      sc := fun i => real_of_lt _ (Host.reduce_andi_all _ _ _ _ ix0 hsc i)
      g := fun i => real_of_lt _ (Host.reduce_andi_all _ _ _ _ ix0 hg i)
      w := fun i => real_of_lt _ (Host.reduce_andi_all _ _ _ _ ix0 hf i) }

end Cert.Pre_finite_streams

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.FoxIdeal.Value
public import proofs.«01_k».proof.Proof.Gen.FoxRefIdeal.Run
public import proofs.«01_k».proof.Proof.Gen.Mixer
public import proofs.«01_k».proof.Proof.Gen.Mixer.Skeleton
public import proofs.«01_k».proof.Proof.Gen.Mixer.Launch
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerRefIdeal
public import proofs.«01_k».proof.Proof.Gen.MixerRefIdeal.Run
public import proofs.«01_k».proof.Proof.Gen.Project
public import proofs.«01_k».proof.Proof.Gen.Project.Skeleton
public import proofs.«01_k».proof.Proof.Gen.Project.Launch
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.Streams
public import proofs.«01_k».proof.Proof.Gen.Streams.Skeleton
public import proofs.«01_k».proof.Proof.Gen.Streams.Launch
public import proofs.«01_k».proof.Proof.Gen.Streams.Points
public import proofs.«01_k».proof.Proof.Gen.Streams.Frame
public import proofs.«01_k».proof.Proof.Gen.StreamsIdeal
public import proofs.«01_k».proof.Proof.Gen.StreamsIdeal.Skeleton
public import proofs.«01_k».proof.Proof.Gen.StreamsIdeal.Launch
public import proofs.«01_k».proof.Proof.Gen.StreamsIdeal.Points
public import proofs.«01_k».proof.Proof.Gen.StreamsIdeal.Frame
public import proofs.«01_k».proof.Proof.Gen.StreamsIdeal.Value
public import proofs.«01_k».proof.Proof.Gen.StreamsRefIdeal
public import proofs.«01_k».proof.Proof.Gen.StreamsRefIdeal.Run
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationIdeal.Value
public import proofs.«01_k».proof.Proof.Gen.ModulationRefIdeal
public import proofs.«01_k».proof.Proof.Gen.ModulationRefIdeal.Run
public import proofs.«01_k».proof.Proof.Modulation
public import proofs.«01_k».proof.Proof.Project
public import proofs.«01_k».proof.Proof.MixBody
public import proofs.«01_k».proof.Proof.Mixer
public import proofs.«01_k».proof.Proof.Equal
public import proofs.«01_k».proof.Proof.Pre
public import proofs.«01_k».proof.Proof.StreamRef
public import proofs.«01_k».proof.Proof.PreStreams
public import Idealize.ShloMosaic.Adequacy
public import Idealize.ShloMosaic.Init

@[expose] public section

noncomputable section

namespace Cert.Proof

open Idealize.ShloMosaic Idealize.SL.Sem Cert.Fox

/-- The kernel's frame. -/
theorem frame_fox : Cert.quiescent_Fox (hFox := Cert.Fox.Gen.facts) := fun m ρ _ => Cert.Fox.Gen.frame m ρ

theorem frame_foxIdeal : Cert.quiescent_FoxIdeal (hFoxIdeal := Cert.FoxIdeal.Gen.facts) := fun m ρ _ => Cert.FoxIdeal.Gen.frame m ρ

theorem frame_foxIdeal_finite : Cert.quiescent_FoxIdeal_pre_finite (hFoxIdeal := Cert.FoxIdeal.Gen.facts) (hPre_finite := Cert.Pre_finite.facts) :=
  fun m ρ _ => Cert.FoxIdeal.Gen.frame m ρ

/-- The reference is a straight line of host operations, without semaphores. -/
theorem frame_ref : Cert.quiescent_FoxRefIdeal (hFoxRefIdeal := Cert.FoxRefIdeal.Gen.facts) := fun m ρ _ =>
  (θ_run Cert.FoxRefIdeal.defs _ _).mono (fun r h => ⟨fun c => (h c).2, sem_eq_zero_of_no_sems (by decide) r.2⟩)
    (Cert.FoxRefIdeal.Value.run (F := Ideal) m ρ)

theorem frame_ref_finite : Cert.quiescent_FoxRefIdeal_pre_finite (hFoxRefIdeal := Cert.FoxRefIdeal.Gen.facts) (hPre_finite := Cert.Pre_finite.facts) :=
  fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The kernel and the softmax attention of the reference end with one array. -/
theorem algebraic : Cert.algebraic_FoxIdeal_FoxRefIdeal_pre_finite (hFoxIdeal := Cert.FoxIdeal.Gen.facts)
    (hFoxRefIdeal := Cert.FoxRefIdeal.Gen.facts) (hPre_finite := Cert.Pre_finite.facts) := by
  intro m g m' g' hpre hagree
  refine ⟨fun c => (Cert.FoxIdeal.Gen.dats m 0 c).arrAt 5 Cert.FoxIdeal.cfg0.N, Cert.FoxIdeal.Value.run_blocks m g, ?_⟩
  refine (θ_run Cert.FoxRefIdeal.defs _ _).mono (fun _ h c => ⟨(h c).1.trans ?_, (h c).2⟩) (Cert.FoxRefIdeal.Value.run (F := Ideal) m' g')
  obtain ⟨hQ, hK, hC⟩ := @Cert.Pre_finite.real_args Cert.Pre_finite.facts _ _ _ _ (hpre c)
  obtain ⟨e0, e1, e2, e3⟩ := hagree c
  refine (Cert.FoxRefIdeal.Value.out_eq m' c).trans ?_
  refine Eq.trans ?_ ((Cert.FoxIdeal.Value.final m c).trans (Cert.FoxRefIdeal.Value.whole_eq _ _ _ _ hQ hK hC)).symm
  rw [e0, e1, e2, e3]

/-- The first mixer's frames. -/
theorem frame_mixer : Cert.quiescent_Mixer (hMixer := Cert.Mixer.Gen.facts) := fun m ρ _ => Cert.Mixer.Gen.frame m ρ

theorem frame_mixerIdeal : Cert.quiescent_MixerIdeal (hMixerIdeal := Cert.MixerIdeal.Gen.facts) := fun m ρ _ => Cert.MixerIdeal.Gen.frame m ρ

theorem frame_mixerRef : Cert.quiescent_MixerRefIdeal (hMixerRefIdeal := Cert.MixerRefIdeal.Gen.facts) := fun m ρ _ =>
  (θ_run Cert.MixerRefIdeal.defs _ _).mono (fun r h => ⟨fun c => (h c).2, sem_eq_zero_of_no_sems (by decide) r.2⟩)
    (Cert.MixerRefIdeal.Value.run (F := Ideal) m ρ)

/-- The mixer's kernel and its reference end with one array. -/
theorem algebraic_mixer : Cert.algebraic_MixerIdeal_MixerRefIdeal (hMixerIdeal := Cert.MixerIdeal.Gen.facts)
    (hMixerRefIdeal := Cert.MixerRefIdeal.Gen.facts) := by
  intro m g m' g' _ hagree
  refine ⟨fun c => (Cert.MixerIdeal.Gen.dats m 0 c).arrAt 8 Cert.MixerIdeal.cfg0.N, Cert.MixerIdeal.Value.run_blocks m g, ?_⟩
  refine (θ_run Cert.MixerRefIdeal.defs _ _).mono (fun _ h c => ⟨(h c).1.trans ?_, (h c).2⟩) (Cert.MixerRefIdeal.Value.run (F := Ideal) m' g')
  obtain ⟨e0, e1, e2, e3, e4, e5, e6, e7⟩ := hagree c
  refine (Cert.MixerRefIdeal.Value.res_eq m' c).trans ?_
  refine Eq.trans ?_ ((Cert.MixerIdeal.Value.final m c).trans (Cert.MixerRefIdeal.Value.whole_eq _ _ _ _ _ _ _ _).symm).symm
  rw [e0, e1, e2, e3, e4, e5, e6, e7]

/-- The output projection's frames. -/
theorem frame_project : Cert.quiescent_Project (hProject := Cert.Project.Gen.facts) := fun m ρ _ => Cert.Project.Gen.frame m ρ

theorem frame_projectIdeal : Cert.quiescent_ProjectIdeal (hProjectIdeal := Cert.ProjectIdeal.Gen.facts) := fun m ρ _ => Cert.ProjectIdeal.Gen.frame m ρ

theorem frame_projectRef : Cert.quiescent_ProjectRefIdeal (hProjectRefIdeal := Cert.ProjectRefIdeal.Gen.facts) := fun m ρ _ =>
  (θ_run Cert.ProjectRefIdeal.defs _ _).mono (fun r h => ⟨fun c => (h c).2, sem_eq_zero_of_no_sems (by decide) r.2⟩)
    (Cert.ProjectRefIdeal.Value.run (F := Ideal) m ρ)

/-- The projection's kernel and its reference end with one array. -/
theorem algebraic_project : Cert.algebraic_ProjectIdeal_ProjectRefIdeal (hProjectIdeal := Cert.ProjectIdeal.Gen.facts)
    (hProjectRefIdeal := Cert.ProjectRefIdeal.Gen.facts) := by
  intro m g m' g' _ hagree
  refine ⟨fun c => (Cert.ProjectIdeal.Gen.dats m 0 c).arrAt 4 Cert.ProjectIdeal.cfg0.N, Cert.ProjectIdeal.Value.run_blocks m g, ?_⟩
  refine (θ_run Cert.ProjectRefIdeal.defs _ _).mono (fun _ h c => ⟨(h c).1.trans ?_, (h c).2⟩) (Cert.ProjectRefIdeal.Value.run (F := Ideal) m' g')
  obtain ⟨e0, e1, e2, e3⟩ := hagree c
  refine Eq.trans ?_ ((Cert.ProjectIdeal.Value.final m c).trans (Cert.ProjectRefIdeal.Value.whole_eq _ _ _ _).symm).symm
  rw [show Cert.ProjectIdeal.Value.argO m c = _ from e0.symm, show Cert.ProjectIdeal.Value.argX m c = _ from e1.symm,
    show Cert.ProjectIdeal.Value.argG m c = _ from e2.symm, show Cert.ProjectIdeal.Value.argW m c = _ from e3.symm]
  rfl

/-- The frames of the keys, values, queries and gates. -/
theorem frame_streams : Cert.quiescent_Streams (hStreams := Cert.Streams.Gen.facts) := fun m ρ _ => Cert.Streams.Gen.frame m ρ

theorem frame_streamsIdeal : Cert.quiescent_StreamsIdeal (hStreamsIdeal := Cert.StreamsIdeal.Gen.facts) := fun m ρ _ => Cert.StreamsIdeal.Gen.frame m ρ

theorem frame_streamsIdeal_finite : Cert.quiescent_StreamsIdeal_pre_finite_streams (hStreamsIdeal := Cert.StreamsIdeal.Gen.facts)
    (hPre_finite_streams := Cert.Pre_finite_streams.facts) := fun m ρ _ => Cert.StreamsIdeal.Gen.frame m ρ

theorem frame_streamsRef : Cert.quiescent_StreamsRefIdeal (hStreamsRefIdeal := Cert.StreamsRefIdeal.Gen.facts) := fun m ρ _ =>
  (θ_run Cert.StreamsRefIdeal.defs _ _).mono (fun r h => ⟨fun c => (h c).2.2.2.2, sem_eq_zero_of_no_sems (by decide) r.2⟩)
    (Cert.StreamsRefIdeal.Value.run (F := Ideal) m ρ)

theorem frame_streamsRef_finite : Cert.quiescent_StreamsRefIdeal_pre_finite_streams (hStreamsRefIdeal := Cert.StreamsRefIdeal.Gen.facts)
    (hPre_finite_streams := Cert.Pre_finite_streams.facts) := fun m ρ _ =>
  (θ_run Cert.StreamsRefIdeal.defs _ _).mono (fun r h => ⟨fun c => (h c).2.2.2.2, sem_eq_zero_of_no_sems (by decide) r.2⟩)
    (Cert.StreamsRefIdeal.Value.run (F := Ideal) m ρ)

/-- The two scales are the constants the kernel's literals round. -/
theorem preserves_streams : Cert.preserves_Streams_StreamsIdeal :=
  ⟨IdealRules.named_const.statement Cert.StreamsIdeal.κ "log2_e_8" .f32 0x3E38AA3B#32 (((Real.log 256)⁻¹ : ℝ) : EReal) rfl,
    IdealRules.named_const.statement Cert.StreamsIdeal.κ "log2_e" .f32 0x3FB8AA3B#32 (((Real.log 2)⁻¹ : ℝ) : EReal) rfl⟩

/-- The kernel and the reference end with the same queries, keys, values and gates. -/
theorem algebraic_streams : Cert.algebraic_StreamsIdeal_StreamsRefIdeal_pre_finite_streams (hStreamsIdeal := Cert.StreamsIdeal.Gen.facts)
    (hStreamsRefIdeal := Cert.StreamsRefIdeal.Gen.facts) (hPre_finite_streams := Cert.Pre_finite_streams.facts) := by
  intro m g m' g' hpre hagree
  refine ⟨fun c => (Cert.StreamsIdeal.Gen.dats m 0 c).arrAt 12 Cert.StreamsIdeal.cfg0.N,
    fun c => (Cert.StreamsIdeal.Gen.dats m 0 c).arrAt 13 Cert.StreamsIdeal.cfg0.N,
    fun c => (Cert.StreamsIdeal.Gen.dats m 0 c).arrAt 14 Cert.StreamsIdeal.cfg0.N,
    fun c => (Cert.StreamsIdeal.Gen.dats m 0 c).arrAt 15 Cert.StreamsIdeal.cfg0.N, Cert.StreamsIdeal.Value.run_blocks m g, ?_⟩
  refine (θ_run Cert.StreamsRefIdeal.defs _ _).mono (fun _ h c => ⟨(h c).1.trans ?_, (h c).2.1.trans ?_, (h c).2.2.1.trans ?_,
    (h c).2.2.2.1.trans ?_, (h c).2.2.2.2⟩) (Cert.StreamsRefIdeal.Value.run (F := Ideal) m' g')
  all_goals obtain ⟨e0, e1, e2, e3, e4, e5, e6, e7, e8, e9, e10⟩ := hagree c
  · refine Eq.trans ?_ ((Cert.StreamsIdeal.Value.finalQ m c).trans (Cert.StreamsRefIdeal.Value.q_eq _ _ _ _ _).symm).symm
    rw [show Cert.StreamsIdeal.Value.argX m c = _ from e0.symm, show Cert.StreamsIdeal.Value.argQSh m c = _ from e4.symm,
      show Cert.StreamsIdeal.Value.argQSc m c = _ from e5.symm, show Cert.StreamsIdeal.Value.argQG m c = _ from e6.symm,
      show Cert.StreamsIdeal.Value.argQ m c = _ from e10.symm]
    rfl
  · refine Eq.trans ?_ ((Cert.StreamsIdeal.Value.finalK m c).trans (Cert.StreamsRefIdeal.Value.k_eq _ _ _ _ _).symm).symm
    rw [show Cert.StreamsIdeal.Value.argX m c = _ from e0.symm, show Cert.StreamsIdeal.Value.argSh m c = _ from e1.symm,
      show Cert.StreamsIdeal.Value.argSc m c = _ from e2.symm, show Cert.StreamsIdeal.Value.argG m c = _ from e3.symm,
      show Cert.StreamsIdeal.Value.argKV m c = _ from e7.symm]
    rfl
  · refine Eq.trans ?_ ((Cert.StreamsIdeal.Value.finalV m c).trans (Cert.StreamsRefIdeal.Value.v_eq _ _ _ _ _).symm).symm
    rw [show Cert.StreamsIdeal.Value.argX m c = _ from e0.symm, show Cert.StreamsIdeal.Value.argSh m c = _ from e1.symm,
      show Cert.StreamsIdeal.Value.argSc m c = _ from e2.symm, show Cert.StreamsIdeal.Value.argG m c = _ from e3.symm,
      show Cert.StreamsIdeal.Value.argKV m c = _ from e7.symm]
    rfl
  · have ok : Cert.StreamsIdeal.Value.Ok m c := @Cert.Pre_finite_streams.finite_args Cert.Pre_finite_streams.facts _ _ _ _ _ _ _ _ _ _ _ (hpre c)
    refine (Cert.StreamsRefIdeal.Value.res_eq m' c).trans ?_
    refine Eq.trans ?_ ((Cert.StreamsIdeal.Value.finalC m c ok).trans (Cert.StreamsRefIdeal.Value.c_eq _ _ _ _ _ _).symm).symm
    rw [show Cert.StreamsIdeal.Value.argX m c = _ from e0.symm, show Cert.StreamsIdeal.Value.argSh m c = _ from e1.symm,
      show Cert.StreamsIdeal.Value.argSc m c = _ from e2.symm, show Cert.StreamsIdeal.Value.argG m c = _ from e3.symm,
      show Cert.StreamsIdeal.Value.argF m c = _ from e8.symm, show Cert.StreamsIdeal.Value.argB m c = _ from e9.symm]

/-- The modulation vectors' frames. -/
theorem frame_modulation : Cert.quiescent_Modulation (hModulation := Cert.Modulation.Gen.facts) := fun m ρ _ => Cert.Modulation.Gen.frame m ρ

theorem frame_modulationIdeal : Cert.quiescent_ModulationIdeal (hModulationIdeal := Cert.ModulationIdeal.Gen.facts) := fun m ρ _ => Cert.ModulationIdeal.Gen.frame m ρ

theorem frame_modulationRef : Cert.quiescent_ModulationRefIdeal (hModulationRefIdeal := Cert.ModulationRefIdeal.Gen.facts) := fun m ρ _ =>
  (θ_run Cert.ModulationRefIdeal.defs _ _).mono (fun r h => ⟨fun c => (h c).2, sem_eq_zero_of_no_sems (by decide) r.2⟩)
    (Cert.ModulationRefIdeal.Value.run (F := Ideal) m ρ)

/-- The modulation's kernel and its reference end with one array. -/
theorem algebraic_modulation : Cert.algebraic_ModulationIdeal_ModulationRefIdeal (hModulationIdeal := Cert.ModulationIdeal.Gen.facts)
    (hModulationRefIdeal := Cert.ModulationRefIdeal.Gen.facts) := by
  intro m g m' g' _ hagree
  refine ⟨fun c => (Cert.ModulationIdeal.Gen.dats m 0 c).arrAt 3 Cert.ModulationIdeal.cfg0.N, Cert.ModulationIdeal.Value.run_blocks m g, ?_⟩
  refine (θ_run Cert.ModulationRefIdeal.defs _ _).mono (fun _ h c => ⟨(h c).1.trans ?_, (h c).2⟩) (Cert.ModulationRefIdeal.Value.run (F := Ideal) m' g')
  obtain ⟨e0, e1, e2⟩ := hagree c
  refine Eq.trans ?_ ((Cert.ModulationIdeal.Value.final m c).trans (Cert.ModulationRefIdeal.Value.whole_eq _ _ _).symm).symm
  rw [show Cert.ModulationIdeal.Value.argC m c = _ from e0.symm, show Cert.ModulationIdeal.Value.argW m c = _ from e1.symm,
    show Cert.ModulationIdeal.Value.argB m c = _ from e2.symm]
  rfl

theorem claim : Cert.Claim :=
  ⟨Cert.Fox.Gen.facts, Cert.FoxIdeal.Gen.facts, Cert.FoxRefIdeal.Gen.facts,
    Cert.Mixer.Gen.facts, Cert.MixerIdeal.Gen.facts, Cert.MixerRefIdeal.Gen.facts,
    Cert.Project.Gen.facts, Cert.ProjectIdeal.Gen.facts, Cert.ProjectRefIdeal.Gen.facts,
    Cert.Streams.Gen.facts, Cert.StreamsIdeal.Gen.facts, Cert.StreamsRefIdeal.Gen.facts,
    Cert.Modulation.Gen.facts, Cert.ModulationIdeal.Gen.facts, Cert.ModulationRefIdeal.Gen.facts, Cert.Pre_finite.facts, Cert.Pre_finite_streams.facts,
    frame_fox, frame_foxIdeal, frame_foxIdeal_finite, frame_ref, frame_ref_finite,
    frame_mixer, frame_mixerIdeal, frame_mixerRef, frame_project, frame_projectIdeal, frame_projectRef,
    frame_streams, frame_streamsIdeal, frame_streamsIdeal_finite, frame_streamsRef, frame_streamsRef_finite,
    frame_modulation, frame_modulationIdeal, frame_modulationRef,
    trivial, algebraic, trivial, algebraic_mixer, trivial, algebraic_project,
    preserves_streams, algebraic_streams, trivial, algebraic_modulation⟩

end Cert.Proof

end
